-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_below_infinity [hPre_gates_below_infinity : Cert.Pre_gates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_gates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_below_infinity [hPre_gates_below_infinity : Cert.Pre_gates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_gates_below_infinity [hKernelIdeal : Cert.KernelIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_gates_below_infinity [hReferenceIdeal : Cert.ReferenceIdeal.Facts] [hPre_gates_below_infinity : Cert.Pre_gates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_gates_below_infinity [hKernelIdeal : Cert.KernelIdeal.Facts] [hReferenceIdeal : Cert.ReferenceIdeal.Facts] [hPre_gates_below_infinity : Cert.Pre_gates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)) (v4 : (c : Dev Cert.Kernel3Ideal.nD) → Buf (Elt Ideal) ((c.tc : Thread Cert.Kernel3Ideal.nD Cert.Kernel3Ideal.τ).loc Cert.Kernel3Ideal.main_v9_4)) (v5 : (c : Dev Cert.Kernel3Ideal.nD) → Buf (Elt Ideal) ((c.tc : Thread Cert.Kernel3Ideal.nD Cert.Kernel3Ideal.τ).loc Cert.Kernel3Ideal.main_v9_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_v9_4) = v4 c
          ∧ r.2.mem ((c.tc : Thread Cert.Kernel3Ideal.nD Cert.Kernel3Ideal.τ).loc Cert.Kernel3Ideal.main_v9_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v43) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_below_infinity : Cert.Pre_gates_below_infinity.Facts),
    quiescent_Kernel (hKernel := hKernel)
    ∧ quiescent_KernelIdeal (hKernelIdeal := hKernelIdeal)
    ∧ quiescent_KernelIdeal_pre_gates_below_infinity (hKernelIdeal := hKernelIdeal) (hPre_gates_below_infinity := hPre_gates_below_infinity)
    ∧ quiescent_ReferenceIdeal (hReferenceIdeal := hReferenceIdeal)
    ∧ quiescent_ReferenceIdeal_pre_gates_below_infinity (hReferenceIdeal := hReferenceIdeal) (hPre_gates_below_infinity := hPre_gates_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_gates_below_infinity (hKernelIdeal := hKernelIdeal) (hReferenceIdeal := hReferenceIdeal) (hPre_gates_below_infinity := hPre_gates_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_gates_below_infinity.lean ====
abbrev S9216x2048 : Shape := ⟨2, ![9216, 2048]⟩
abbrev S1x2048x11272 : Shape := ⟨3, ![1, 2048, 11272]⟩
abbrev S1x11272 : Shape := ⟨2, ![1, 11272]⟩
abbrev S9216x3072 : Shape := ⟨2, ![9216, 3072]⟩
abbrev S1024x9216 : Shape := ⟨2, ![1024, 9216]⟩
abbrev S128x4x8 : Shape := ⟨3, ![128, 4, 8]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S_ : Shape := ⟨0, ![]⟩
abbrev S128x4 : Shape := ⟨2, ![128, 4]⟩
abbrev S128x4x1 : Shape := ⟨3, ![128, 4, 1]⟩

class Facts : Prop where
  bcast_S_S128x4x8 : S_.BroadcastsInDim S128x4x8 (![] : Fin 0 → Fin S128x4x8.rank)
  shapeCasts_S1x128x4_S128x4 : S1x128x4.ShapeCasts S128x4
  bcast_S128x4_S128x4x1_0_1 : S128x4.BroadcastsInDim S128x4x1 (![0, 1] : Fin 2 → Fin S128x4x1.rank)
  bcast_S_S128x4x1 : S_.BroadcastsInDim S128x4x1 (![] : Fin 0 → Fin S128x4x1.rank)
  bcast_S128x4x1_S128x4x8_0_1_2 : S128x4x1.BroadcastsInDim S128x4x8 (![0, 1, 2] : Fin 3 → Fin S128x4x8.rank)

variable [Facts]

def fn {F : FTy → Type} [FloatOps F] (main_arg0 : FVec F S9216x2048 .bf16) (main_arg1 : FVec F S1x2048x11272 .f32) (main_arg2 : FVec F S1x11272 .f32) (main_arg3 : FVec F S9216x3072 .bf16) (main_arg4 : FVec F S1024x9216 .bf16) (main_arg5 : FVec F S128x4x8 .f32) (main_arg6 : FVec F S128x4x8 .f32) (main_arg7 : FVec F S1x128x4x256x256 .f32) (main_arg8 : FVec F S1x128x4x256 .f32) (main_arg9 : FVec F S1x128x4 .f32) : IVec S128x4x8 1 :=
  let main_cst : FVec F S_ .f32 := constant S_ .f32 0x7F800000#32
  let main_v0 : FVec F S128x4x8 .f32 := broadcastInDim S128x4x8 ![] bcast_S_S128x4x8 main_cst
  let main_v1 : IVec S128x4x8 1 := cmpf .olt main_arg6 main_v0
  let main_cst_0 : FVec F S_ .f32 := constant S_ .f32 0x7F800000#32
  let main_v2 : FVec F S128x4x8 .f32 := broadcastInDim S128x4x8 ![] bcast_S_S128x4x8 main_cst_0
  let main_v3 : IVec S128x4x8 1 := cmpf .olt main_arg5 main_v2
  let main_v4 : IVec S128x4x8 1 := andi main_v1 main_v3
  let main_v5 : FVec F S128x4 .f32 := shapeCast S128x4 main_arg9 shapeCasts_S1x128x4_S128x4
  let main_v6 : FVec F S128x4x1 .f32 := broadcastInDim S128x4x1 ![0, 1] bcast_S128x4_S128x4x1_0_1 main_v5
  let main_cst_1 : FVec F S_ .f32 := constant S_ .f32 0x7F800000#32
  let main_v7 : FVec F S128x4x1 .f32 := broadcastInDim S128x4x1 ![] bcast_S_S128x4x1 main_cst_1
  let main_v8 : IVec S128x4x1 1 := cmpf .olt main_v6 main_v7
  let main_v9 : IVec S128x4x8 1 := broadcastInDim S128x4x8 ![0, 1, 2] bcast_S128x4x1_S128x4x8_0_1_2 main_v8
  let main_v10 : IVec S128x4x8 1 := andi main_v4 main_v9
  main_v10
-- ==== Kernel.lean ====
abbrev S9216x2048 : Shape := ⟨2, ![9216, 2048]⟩
abbrev S1x2048x11272 : Shape := ⟨3, ![1, 2048, 11272]⟩
abbrev S1x11272 : Shape := ⟨2, ![1, 11272]⟩
abbrev S9216x3072 : Shape := ⟨2, ![9216, 3072]⟩
abbrev S1024x9216 : Shape := ⟨2, ![1024, 9216]⟩
abbrev S128x4x8 : Shape := ⟨3, ![128, 4, 8]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S2048x11272 : Shape := ⟨2, ![2048, 11272]⟩
abbrev S11272x2048 : Shape := ⟨2, ![11272, 2048]⟩
abbrev S11272 : Shape := ⟨1, ![11272]⟩
abbrev S3072 : Shape := ⟨1, ![3072]⟩
abbrev S8192 : Shape := ⟨1, ![8192]⟩
abbrev S11264 : Shape := ⟨1, ![11264]⟩
abbrev S_ : Shape := ⟨0, ![]⟩
abbrev S128x4x1 : Shape := ⟨3, ![128, 4, 1]⟩
abbrev S4x128x8 : Shape := ⟨3, ![4, 128, 8]⟩
abbrev S4x1024 : Shape := ⟨2, ![4, 1024]⟩
abbrev S4x1024x1 : Shape := ⟨3, ![4, 1024, 1]⟩
abbrev S4x1024x128 : Shape := ⟨3, ![4, 1024, 128]⟩
abbrev S4x1x1024x128 : Shape := ⟨4, ![4, 1, 1024, 128]⟩
abbrev S4x2x1024x128 : Shape := ⟨4, ![4, 2, 1024, 128]⟩
abbrev S4x1x1024 : Shape := ⟨3, ![4, 1, 1024]⟩
abbrev S4x8x1024 : Shape := ⟨3, ![4, 8, 1024]⟩
abbrev S4x2x8192x128 : Shape := ⟨4, ![4, 2, 8192, 128]⟩
abbrev S4x2x9216x128 : Shape := ⟨4, ![4, 2, 9216, 128]⟩
abbrev S4x8x8192 : Shape := ⟨3, ![4, 8, 8192]⟩
abbrev S4x8x9216 : Shape := ⟨3, ![4, 8, 9216]⟩
abbrev S128x4 : Shape := ⟨2, ![128, 4]⟩
abbrev S128x8x4 : Shape := ⟨3, ![128, 8, 4]⟩
abbrev S1024x4 : Shape := ⟨2, ![1024, 4]⟩
abbrev S1x11264 : Shape := ⟨2, ![1, 11264]⟩
abbrev S128x4x256x256 : Shape := ⟨4, ![128, 4, 256, 256]⟩
abbrev S128x4x256 : Shape := ⟨3, ![128, 4, 256]⟩
abbrev S128x1024 : Shape := ⟨2, ![128, 1024]⟩
abbrev S9216x4096 : Shape := ⟨2, ![9216, 4096]⟩
abbrev S1024x1024 : Shape := ⟨2, ![1024, 1024]⟩
abbrev S1152x2048 : Shape := ⟨2, ![1152, 2048]⟩
abbrev S1024x2048 : Shape := ⟨2, ![1024, 2048]⟩
abbrev S1x1024 : Shape := ⟨2, ![1, 1024]⟩
abbrev S128x256 : Shape := ⟨2, ![128, 256]⟩
abbrev S256x128 : Shape := ⟨2, ![256, 128]⟩
abbrev S1x2x128x128 : Shape := ⟨4, ![1, 2, 128, 128]⟩
abbrev S1x8x128 : Shape := ⟨3, ![1, 8, 128]⟩
abbrev S1x128x128 : Shape := ⟨3, ![1, 128, 128]⟩
abbrev S1x1x128 : Shape := ⟨3, ![1, 1, 128]⟩
abbrev S16x1x256x256 : Shape := ⟨4, ![16, 1, 256, 256]⟩
abbrev S16x256 : Shape := ⟨2, ![16, 256]⟩
abbrev S1152x1024 : Shape := ⟨2, ![1152, 1024]⟩
abbrev S8x128 : Shape := ⟨2, ![8, 128]⟩
abbrev S2x128x128 : Shape := ⟨3, ![2, 128, 128]⟩
abbrev S1x128 : Shape := ⟨2, ![1, 128]⟩
abbrev S128x128 : Shape := ⟨2, ![128, 128]⟩
abbrev S128x384 : Shape := ⟨2, ![128, 384]⟩
abbrev S112x256 : Shape := ⟨2, ![112, 256]⟩
abbrev S1x1 : Shape := ⟨2, ![1, 1]⟩
abbrev S1x1x256x256 : Shape := ⟨4, ![1, 1, 256, 256]⟩
abbrev S256x256 : Shape := ⟨2, ![256, 256]⟩
abbrev S256x384 : Shape := ⟨2, ![256, 384]⟩
abbrev S8x256 : Shape := ⟨2, ![8, 256]⟩
abbrev S8x384 : Shape := ⟨2, ![8, 384]⟩
abbrev S128 : Shape := ⟨1, ![128]⟩
abbrev S128x1 : Shape := ⟨2, ![128, 1]⟩

abbrev nBuf : Space → Nat
  | .hbm => 75
  | .vmem => 35
  | .smem => 0
  | _ => 0

abbrev bufTy : (tb : Table) → Fin (tcTables nBuf tb) → BufTy
  | .hbm, ⟨0, _⟩ => ⟨S9216x2048, .bf16⟩
  | .hbm, ⟨1, _⟩ => ⟨S1x2048x11272, .f32⟩
  | .hbm, ⟨2, _⟩ => ⟨S1x11272, .f32⟩
  | .hbm, ⟨3, _⟩ => ⟨S9216x3072, .bf16⟩
  | .hbm, ⟨4, _⟩ => ⟨S1024x9216, .bf16⟩
  | .hbm, ⟨5, _⟩ => ⟨S128x4x8, .f32⟩
  | .hbm, ⟨6, _⟩ => ⟨S128x4x8, .f32⟩
  | .hbm, ⟨7, _⟩ => ⟨S1x128x4x256x256, .f32⟩
  | .hbm, ⟨8, _⟩ => ⟨S1x128x4x256, .f32⟩
  | .hbm, ⟨9, _⟩ => ⟨S1x128x4, .f32⟩
  | .hbm, ⟨10, _⟩ => ⟨S2048x11272, .f32⟩
  | .hbm, ⟨11, _⟩ => ⟨S11272x2048, .f32⟩
  | .hbm, ⟨12, _⟩ => ⟨S11272, .f32⟩
  | .hbm, ⟨13, _⟩ => ⟨S3072, .f32⟩
  | .hbm, ⟨14, _⟩ => ⟨S8192, .f32⟩
  | .hbm, ⟨15, _⟩ => ⟨S11264, .f32⟩
  | .hbm, ⟨16, _⟩ => ⟨S_, .f32⟩
  | .hbm, ⟨17, _⟩ => ⟨S_, .f32⟩
  | .hbm, ⟨18, _⟩ => ⟨S128x4x8, .f32⟩
  | .hbm, ⟨19, _⟩ => ⟨S128x4x8, .f32⟩
  | .hbm, ⟨20, _⟩ => ⟨S_, .f32⟩
  | .hbm, ⟨21, _⟩ => ⟨S_, .f32⟩
  | .hbm, ⟨22, _⟩ => ⟨S128x4x8, .f32⟩
  | .hbm, ⟨23, _⟩ => ⟨S128x4x8, .f32⟩
  | .hbm, ⟨24, _⟩ => ⟨S128x4x1, .f32⟩
  | .hbm, ⟨25, _⟩ => ⟨S128x4x8, .f32⟩
  | .hbm, ⟨26, _⟩ => ⟨S128x4x8, .f32⟩
  | .hbm, ⟨27, _⟩ => ⟨S4x128x8, .f32⟩
  | .hbm, ⟨28, _⟩ => ⟨S4x1024, .f32⟩
  | .hbm, ⟨29, _⟩ => ⟨S4x128x8, .f32⟩
  | .hbm, ⟨30, _⟩ => ⟨S4x1024, .f32⟩
  | .hbm, ⟨31, _⟩ => ⟨S4x1024x1, .f32⟩
  | .hbm, ⟨32, _⟩ => ⟨S4x1024x128, .f32⟩
  | .hbm, ⟨33, _⟩ => ⟨S4x1024x1, .f32⟩
  | .hbm, ⟨34, _⟩ => ⟨S4x1024x128, .f32⟩
  | .hbm, ⟨35, _⟩ => ⟨S4x1x1024x128, .f32⟩
  | .hbm, ⟨36, _⟩ => ⟨S4x1x1024x128, .f32⟩
  | .hbm, ⟨37, _⟩ => ⟨S4x2x1024x128, .f32⟩
  | .hbm, ⟨38, _⟩ => ⟨S_, .f32⟩
  | .hbm, ⟨39, _⟩ => ⟨S4x1024, .f32⟩
  | .hbm, ⟨40, _⟩ => ⟨S4x128x8, .f32⟩
  | .hbm, ⟨41, _⟩ => ⟨S4x1024, .f32⟩
  | .hbm, ⟨42, _⟩ => ⟨S4x128x8, .f32⟩
  | .hbm, ⟨43, _⟩ => ⟨S4x1024, .f32⟩
  | .hbm, ⟨44, _⟩ => ⟨S4x1x1024, .f32⟩
  | .hbm, ⟨45, _⟩ => ⟨S4x1x1024, .f32⟩
  | .hbm, ⟨46, _⟩ => ⟨S4x1x1024, .f32⟩
  | .hbm, ⟨47, _⟩ => ⟨S4x1x1024, .f32⟩
  | .hbm, ⟨48, _⟩ => ⟨S4x1x1024, .f32⟩
  | .hbm, ⟨49, _⟩ => ⟨S4x1x1024, .f32⟩
  | .hbm, ⟨50, _⟩ => ⟨S4x1x1024, .f32⟩
  | .hbm, ⟨51, _⟩ => ⟨S4x1x1024, .f32⟩
  | .hbm, ⟨52, _⟩ => ⟨S4x8x1024, .f32⟩
  | .hbm, ⟨53, _⟩ => ⟨S_, .f32⟩
  | .hbm, ⟨54, _⟩ => ⟨S4x2x8192x128, .f32⟩
  | .hbm, ⟨55, _⟩ => ⟨S4x2x9216x128, .f32⟩
  | .hbm, ⟨56, _⟩ => ⟨S_, .f32⟩
  | .hbm, ⟨57, _⟩ => ⟨S4x8x8192, .f32⟩
  | .hbm, ⟨58, _⟩ => ⟨S4x8x9216, .f32⟩
  | .hbm, ⟨59, _⟩ => ⟨S128x4, .f32⟩
  | .hbm, ⟨60, _⟩ => ⟨S128x8x4, .f32⟩
  | .hbm, ⟨61, _⟩ => ⟨S1024x4, .f32⟩
  | .hbm, ⟨62, _⟩ => ⟨S4x1024, .f32⟩
  | .hbm, ⟨63, _⟩ => ⟨S1x11264, .f32⟩
  | .hbm, ⟨64, _⟩ => ⟨S4x1024x1, .f32⟩
  | .hbm, ⟨65, _⟩ => ⟨S4x1024x128, .f32⟩
  | .hbm, ⟨66, _⟩ => ⟨S4x1x1024, .f32⟩
  | .hbm, ⟨67, _⟩ => ⟨S128x4x256x256, .f32⟩
  | .hbm, ⟨68, _⟩ => ⟨S128x4x256, .f32⟩
  | .hbm, ⟨69, _⟩ => ⟨S128x1024, .f32⟩
  | .hbm, ⟨70, _⟩ => ⟨S9216x4096, .bf16⟩
  | .hbm, ⟨71, _⟩ => ⟨S1024x1024, .bf16⟩
  | .hbm, ⟨72, _⟩ => ⟨S128x4x256x256, .f32⟩
  | .hbm, ⟨73, _⟩ => ⟨S128x1024, .f32⟩
  | .hbm, ⟨74, _⟩ => ⟨S4x8x1024, .f32⟩
  | .local _ .vmem, ⟨0, _⟩ => ⟨S1152x2048, .bf16⟩
  | .local _ .vmem, ⟨1, _⟩ => ⟨S1152x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S128x256, .bf16⟩
  | .local _ .vmem, ⟨7, _⟩ => ⟨S128x256, .bf16⟩
  | .local _ .vmem, ⟨8, _⟩ => ⟨S256x128, .bf16⟩
  | .local _ .vmem, ⟨9, _⟩ => ⟨S256x128, .bf16⟩
  | .local _ .vmem, ⟨10, _⟩ => ⟨S128x256, .bf16⟩
  | .local _ .vmem, ⟨11, _⟩ => ⟨S128x256, .bf16⟩
  | .local _ .vmem, ⟨12, _⟩ => ⟨S1x2x128x128, .f32⟩
  | .local _ .vmem, ⟨13, _⟩ => ⟨S1x2x128x128, .f32⟩
  | .local _ .vmem, ⟨14, _⟩ => ⟨S1x8x128, .f32⟩
  | .local _ .vmem, ⟨15, _⟩ => ⟨S1x8x128, .f32⟩
  | .local _ .vmem, ⟨16, _⟩ => ⟨S1x128x128, .f32⟩
  | .local _ .vmem, ⟨17, _⟩ => ⟨S1x128x128, .f32⟩
  | .local _ .vmem, ⟨18, _⟩ => ⟨S1x1x128, .f32⟩
  | .local _ .vmem, ⟨19, _⟩ => ⟨S1x1x128, .f32⟩
  | .local _ .vmem, ⟨20, _⟩ => ⟨S16x1x256x256, .f32⟩
  | .local _ .vmem, ⟨21, _⟩ => ⟨S16x1x256x256, .f32⟩
  | .local _ .vmem, ⟨22, _⟩ => ⟨S16x256, .f32⟩
  | .local _ .vmem, ⟨23, _⟩ => ⟨S16x256, .f32⟩
  | .local _ .vmem, ⟨24, _⟩ => ⟨S1152x1024, .bf16⟩
  | .local _ .vmem, ⟨25, _⟩ => ⟨S1152x1024, .bf16⟩
  | .local _ .vmem, ⟨26, _⟩ => ⟨S128x256, .bf16⟩
  | .local _ .vmem, ⟨27, _⟩ => ⟨S128x256, .bf16⟩
  | .local _ .vmem, ⟨28, _⟩ => ⟨S16x1x256x256, .f32⟩
  | .local _ .vmem, ⟨29, _⟩ => ⟨S16x1x256x256, .f32⟩
  | .local _ .vmem, ⟨30, _⟩ => ⟨S16x256, .f32⟩
  | .local _ .vmem, ⟨31, _⟩ => ⟨S16x256, .f32⟩
  | .local _ .vmem, ⟨32, _⟩ => ⟨S1x8x128, .f32⟩
  | .local _ .vmem, ⟨33, _⟩ => ⟨S1x8x128, .f32⟩
  | .local _ .vmem, ⟨34, _⟩ => ⟨S1024x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_call0_cst : Ref sig .tc := ⟨.hbm, 16, rfl⟩
abbrev main_call0_call0_v0 : Ref sig .tc := ⟨.hbm, 17, rfl⟩
abbrev main_v6 : Ref sig .tc := ⟨.hbm, 18, rfl⟩
abbrev main_v7 : Ref sig .tc := ⟨.hbm, 19, rfl⟩
abbrev main_call1_cst : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩
abbrev main_cst_1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c7176_i32 : BitVec 32 := 7176#32
  let arg0 : BitVec 32 := BitVec.ofNat 32 (i 0).val
  let c1024_i32 : BitVec 32 := 1024#32
  let v0 : BitVec 32 := Scalar.muli arg0 c1024_i32
  let v1 : BitVec 32 := Scalar.addi c7176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c7176_i32 : BitVec 32 := 7176#32
  let v1 : BitVec 32 := Scalar.addi c7176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c64_i32 : BitVec 32 := 64#32
  let v20 : BitVec 32 := Scalar.addi c64_i32 v19
  let c8_i32_4 : BitVec 32 := 8#32
  let v21 : BitVec 32 := Scalar.muli arg0 c8_i32_4
  let v22 : BitVec 32 := Scalar.addi v21 arg1
  let c31_i32_5 : BitVec 32 := 31#32
  let v23 : BitVec 32 := Scalar.minsi v22 c31_i32_5
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v23 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c0_i32_12 : BitVec 32 := 0#32
  let v34 : BitVec 32 := Scalar.addi c0_i32_12 v33
  let c0_i32_13 : BitVec 32 := 0#32
  ![v20.toNat, v34.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c64_i32 : BitVec 32 := 64#32
  let v33 : BitVec 32 := Scalar.addi c64_i32 v32
  let c0_i32_12 : BitVec 32 := 0#32
  ![v12.toNat, v33.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c64_i32 : BitVec 32 := 64#32
  let v20 : BitVec 32 := Scalar.addi c64_i32 v19
  let c8_i32_4 : BitVec 32 := 8#32
  let v21 : BitVec 32 := Scalar.muli arg0 c8_i32_4
  let v22 : BitVec 32 := Scalar.addi v21 arg1
  let c31_i32_5 : BitVec 32 := 31#32
  let v23 : BitVec 32 := Scalar.minsi v22 c31_i32_5
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v23 v25
  let c0_i32_9 : BitVec 32 := 0#32
  let v27 : BitVec 1 := Scalar.cmpi .ne v26 c0_i32_9
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let v31 : BitVec 1 := Scalar.andi v30 v27
  let v32 : BitVec 32 := Scalar.addi v26 v25
  let v33 : BitVec 32 := Scalar.select v31 v32 v26
  let c4_i32_12 : BitVec 32 := 4#32
  let v34 : BitVec 32 := Scalar.addi c4_i32_12 v33
  let c0_i32_13 : BitVec 32 := 0#32
  ![v20.toNat, v34.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c64_i32 : BitVec 32 := 64#32
  let v33 : BitVec 32 := Scalar.addi c64_i32 v32
  let c0_i32_12 : BitVec 32 := 0#32
  let c0_i32_13 : BitVec 32 := 0#32
  let c0_i32_14 : BitVec 32 := 0#32
  ![v12.toNat, c0_i32_12.toNat, v33.toNat, c0_i32_13.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c64_i32 : BitVec 32 := 64#32
  let v33 : BitVec 32 := Scalar.addi c64_i32 v32
  let c0_i32_12 : BitVec 32 := 0#32
  let c0_i32_13 : BitVec 32 := 0#32
  ![v12.toNat, c0_i32_12.toNat, v33.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c0_i32_12 : BitVec 32 := 0#32
  let c0_i32_13 : BitVec 32 := 0#32
  ![v12.toNat, v32.toNat, c0_i32_12.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c0_i32_12 : BitVec 32 := 0#32
  let c0_i32_13 : BitVec 32 := 0#32
  ![v12.toNat, c0_i32_12.toNat, v32.toNat]

def cc0_transform_10 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  let c0_i32_13 : BitVec 32 := 0#32
  let c0_i32_14 : BitVec 32 := 0#32
  ![v19.toNat, v32.toNat, c0_i32_12.toNat, c0_i32_13.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v19.toNat, v32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v19.toNat, v32.toNat]

def cc0_transform_14 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  let c0_i32_13 : BitVec 32 := 0#32
  let c0_i32_14 : BitVec 32 := 0#32
  ![v19.toNat, v32.toNat, c0_i32_12.toNat, c0_i32_13.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli arg0 c8_i32_4
  let v21 : BitVec 32 := Scalar.addi v20 arg1
  let c31_i32_5 : BitVec 32 := 31#32
  let v22 : BitVec 32 := Scalar.minsi v21 c31_i32_5
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v19.toNat, v32.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c4_i32 : BitVec 32 := 4#32
  let c0_i32 : BitVec 32 := 0#32
  let v3 : BitVec 1 := Scalar.cmpi .eq c4_i32 c0_i32
  let c1_i32 : BitVec 32 := 1#32
  let v4 : BitVec 32 := Scalar.select v3 c1_i32 c4_i32
  let v5 : BitVec 32 := Scalar.remsi v2 v4
  let c0_i32_0 : BitVec 32 := 0#32
  let v6 : BitVec 1 := Scalar.cmpi .ne v5 c0_i32_0
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let v10 : BitVec 1 := Scalar.andi v9 v6
  let v11 : BitVec 32 := Scalar.addi v5 v4
  let v12 : BitVec 32 := Scalar.select v10 v11 v5
  let c8_i32_3 : BitVec 32 := 8#32
  let v13 : BitVec 32 := Scalar.muli arg0 c8_i32_3
  let v14 : BitVec 32 := Scalar.addi v13 arg1
  let c31_i32_4 : BitVec 32 := 31#32
  let v15 : BitVec 32 := Scalar.minsi v14 c31_i32_4
  let c4_i32_5 : BitVec 32 := 4#32
  let v16 : BitVec 32 := Scalar.divsi v15 c4_i32_5
  let c0_i32_6 : BitVec 32 := 0#32
  let v17 : BitVec 1 := Scalar.cmpi .sgt v15 c0_i32_6
  let v18 : BitVec 32 := Scalar.extui v17
  let c0_i32_7 : BitVec 32 := 0#32
  let v19 : BitVec 1 := Scalar.cmpi .slt v15 c0_i32_7
  let v20 : BitVec 32 := Scalar.extui v19
  let v21 : BitVec 32 := Scalar.subi v18 v20
  let c0_i32_8 : BitVec 32 := 0#32
  let v22 : BitVec 1 := Scalar.cmpi .sgt c4_i32_5 c0_i32_8
  let v23 : BitVec 32 := Scalar.extui v22
  let c0_i32_9 : BitVec 32 := 0#32
  let v24 : BitVec 1 := Scalar.cmpi .slt c4_i32_5 c0_i32_9
  let v25 : BitVec 32 := Scalar.extui v24
  let v26 : BitVec 32 := Scalar.subi v23 v25
  let v27 : BitVec 1 := Scalar.cmpi .ne v21 v26
  let v28 : BitVec 32 := Scalar.remsi v15 c4_i32_5
  let c0_i32_10 : BitVec 32 := 0#32
  let v29 : BitVec 1 := Scalar.cmpi .ne v28 c0_i32_10
  let v30 : BitVec 1 := Scalar.andi v27 v29
  let c1_i32_11 : BitVec 32 := 1#32
  let v31 : BitVec 32 := Scalar.subi v16 c1_i32_11
  let v32 : BitVec 32 := Scalar.select v30 v31 v16
  let c0_i32_12 : BitVec 32 := 0#32
  let c0_i32_13 : BitVec 32 := 0#32
  ![v12.toNat, c0_i32_12.toNat, v32.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1152x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S9216x2048 : Shape := ⟨2, ![9216, 2048]⟩
abbrev S1x2048x11272 : Shape := ⟨3, ![1, 2048, 11272]⟩
abbrev S1x11272 : Shape := ⟨2, ![1, 11272]⟩
abbrev S9216x3072 : Shape := ⟨2, ![9216, 3072]⟩
abbrev S1024x9216 : Shape := ⟨2, ![1024, 9216]⟩
abbrev S128x4x8 : Shape := ⟨3, ![128, 4, 8]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S2048x11272 : Shape := ⟨2, ![2048, 11272]⟩
abbrev S2048x4096 : Shape := ⟨2, ![2048, 4096]⟩
abbrev S9216x4096 : Shape := ⟨2, ![9216, 4096]⟩
abbrev S11272 : Shape := ⟨1, ![11272]⟩
abbrev S4096 : Shape := ⟨1, ![4096]⟩
abbrev S1x4096 : Shape := ⟨2, ![1, 4096]⟩
abbrev S_ : Shape := ⟨0, ![]⟩
abbrev S1024x1024 : Shape := ⟨2, ![1024, 1024]⟩
abbrev S128x8x4x256 : Shape := ⟨4, ![128, 8, 4, 256]⟩
abbrev S128x4x8x256 : Shape := ⟨4, ![128, 4, 8, 256]⟩
abbrev S128x4x256x256 : Shape := ⟨4, ![128, 4, 256, 256]⟩
abbrev S128x4x256 : Shape := ⟨3, ![128, 4, 256]⟩
abbrev S128x4 : Shape := ⟨2, ![128, 4]⟩
abbrev S8x8 : Shape := ⟨2, ![8, 8]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S128x4x1 : Shape := ⟨3, ![128, 4, 1]⟩
abbrev S128x4x1x1 : Shape := ⟨4, ![128, 4, 1, 1]⟩
abbrev S4x128 : Shape := ⟨2, ![4, 128]⟩
abbrev S4x1x128x1 : Shape := ⟨4, ![4, 1, 128, 1]⟩
abbrev S4x8x128x8 : Shape := ⟨4, ![4, 8, 128, 8]⟩
abbrev S4x8x1024 : Shape := ⟨3, ![4, 8, 1024]⟩
abbrev S128x1024 : Shape := ⟨2, ![128, 1024]⟩

abbrev nBuf : Space → Nat
  | .hbm => 139
  | .vmem => 0
  | .smem => 0
  | _ => 0

abbrev hbmTy0_0 (i : Nat) : BufTy := match i % 128 with
  | 0 => ⟨S9216x2048, .bf16⟩
  | 1 => ⟨S1x2048x11272, .f32⟩
  | 2 => ⟨S1x11272, .f32⟩
  | 3 => ⟨S9216x3072, .bf16⟩
  | 4 => ⟨S1024x9216, .bf16⟩
  | 5 => ⟨S128x4x8, .f32⟩
  | 6 => ⟨S128x4x8, .f32⟩
  | 7 => ⟨S1x128x4x256x256, .f32⟩
  | 8 => ⟨S1x128x4x256, .f32⟩
  | 9 => ⟨S1x128x4, .f32⟩
  | 10 => ⟨S9216x2048, .f32⟩
  | 11 => ⟨S2048x11272, .f32⟩
  | 12 => ⟨S2048x4096, .f32⟩
  | 13 => ⟨S9216x4096, .f32⟩
  | 14 => ⟨S11272, .f32⟩
  | 15 => ⟨S4096, .f32⟩
  | 16 => ⟨S1x4096, .f32⟩
  | 17 => ⟨S9216x4096, .f32⟩
  | 18 => ⟨S9216x4096, .f32⟩
  | 19 => ⟨S9216x4096, .f32⟩
  | 20 => ⟨S9216x4096, .f32⟩
  | 21 => ⟨S_, .f32⟩
  | 22 => ⟨S9216x4096, .f32⟩
  | 23 => ⟨S9216x4096, .f32⟩
  | 24 => ⟨S_, .f32⟩
  | 25 => ⟨S9216x4096, .f32⟩
  | 26 => ⟨S9216x4096, .f32⟩
  | 27 => ⟨S1024x1024, .bf16⟩
  | 28 => ⟨S1024x1024, .f32⟩
  | 29 => ⟨S128x8x4x256, .f32⟩
  | 30 => ⟨S128x4x8x256, .f32⟩
  | 31 => ⟨S1024x1024, .bf16⟩
  | 32 => ⟨S1024x1024, .f32⟩
  | 33 => ⟨S128x8x4x256, .f32⟩
  | 34 => ⟨S128x4x8x256, .f32⟩
  | 35 => ⟨S1024x1024, .bf16⟩
  | 36 => ⟨S1024x1024, .f32⟩
  | 37 => ⟨S1024x1024, .f32⟩
  | 38 => ⟨S128x8x4x256, .f32⟩
  | 39 => ⟨S128x4x8x256, .f32⟩
  | 40 => ⟨S128x4x256x256, .f32⟩
  | 41 => ⟨S128x4x256, .f32⟩
  | 42 => ⟨S128x4, .f32⟩
  | 43 => ⟨S_, .f32⟩
  | 44 => ⟨S_, .f32⟩
  | 45 => ⟨S128x4x8, .f32⟩
  | 46 => ⟨S_, .i1⟩
  | 47 => ⟨S8x8, .i1⟩
  | 48 => ⟨S8x8, .i32⟩
  | 49 => ⟨S_, .i32⟩
  | 50 => ⟨S8x8, .i32⟩
  | 51 => ⟨S8x8, .i32⟩
  | 52 => ⟨S8x8, .i32⟩
  | 53 => ⟨S8x8, .i1⟩
  | 54 => ⟨S_, .i1⟩
  | 55 => ⟨S8x8, .i1⟩
  | 56 => ⟨S8x8, .i1⟩
  | 57 => ⟨S128x4x8x1, .f32⟩
  | 58 => ⟨S128x4x1x8, .f32⟩
  | 59 => ⟨S128x4x8x8, .f32⟩
  | 60 => ⟨S128x4x8x8, .f32⟩
  | 61 => ⟨S128x4x8x8, .f32⟩
  | 62 => ⟨S128x4x1x8, .f32⟩
  | 63 => ⟨S128x4x8x8, .f32⟩
  | 64 => ⟨S128x4x8x8, .f32⟩
  | 65 => ⟨S_, .f32⟩
  | 66 => ⟨S_, .f32⟩
  | 67 => ⟨S128x4x8x8, .i1⟩
  | 68 => ⟨S128x4x8x8, .f32⟩
  | 69 => ⟨S128x4x8x8, .f32⟩
  | 70 => ⟨S128x4x1, .f32⟩
  | 71 => ⟨S128x4x8, .f32⟩
  | 72 => ⟨S128x4x8, .f32⟩
  | 73 => ⟨S_, .f32⟩
  | 74 => ⟨S128x4x8, .f32⟩
  | 75 => ⟨S128x4x8, .f32⟩
  | 76 => ⟨S128x4x8, .f32⟩
  | 77 => ⟨S128x4x8, .f32⟩
  | 78 => ⟨S128x4x8x8, .f32⟩
  | 79 => ⟨S128x4x8x1, .f32⟩
  | 80 => ⟨S128x4x8x8, .f32⟩
  | 81 => ⟨S128x4x8x8, .f32⟩
  | 82 => ⟨S128x4x8x8, .f32⟩
  | 83 => ⟨S128x4x8x8, .f32⟩
  | 84 => ⟨S128x4x8x1, .f32⟩
  | 85 => ⟨S128x4x8x256, .f32⟩
  | 86 => ⟨S128x4x8x256, .f32⟩
  | 87 => ⟨S128x4x8x256, .f32⟩
  | 88 => ⟨S128x4x8x256, .f32⟩
  | 89 => ⟨S128x4x8x256, .f32⟩
  | 90 => ⟨S128x4x8, .f32⟩
  | 91 => ⟨S128x4x8, .f32⟩
  | 92 => ⟨S_, .f32⟩
  | 93 => ⟨S128x4x8, .f32⟩
  | 94 => ⟨S128x4x8, .f32⟩
  | 95 => ⟨S128x4x8, .f32⟩
  | 96 => ⟨S128x4x8, .f32⟩
  | 97 => ⟨S128x4x8, .f32⟩
  | 98 => ⟨S128x4x8, .f32⟩
  | 99 => ⟨S128x4x8x1, .f32⟩
  | 100 => ⟨S128x4x8x256, .f32⟩
  | 101 => ⟨S128x4x8x256, .f32⟩
  | 102 => ⟨S128x4x1, .f32⟩
  | 103 => ⟨S128x4, .f32⟩
  | 104 => ⟨S128x4x1, .f32⟩
  | 105 => ⟨S128x4, .f32⟩
  | 106 => ⟨S128x4, .f32⟩
  | 107 => ⟨S128x4, .f32⟩
  | 108 => ⟨S128x4, .f32⟩
  | 109 => ⟨S128x4x1, .f32⟩
  | 110 => ⟨S128x4x8, .f32⟩
  | 111 => ⟨S128x4x8, .f32⟩
  | 112 => ⟨S128x4x8, .f32⟩
  | 113 => ⟨S128x4x1, .f32⟩
  | 114 => ⟨S128x4x8, .f32⟩
  | 115 => ⟨S128x4x8, .f32⟩
  | 116 => ⟨S128x4x8, .f32⟩
  | 117 => ⟨S128x4x1x1, .f32⟩
  | 118 => ⟨S128x4x256x256, .f32⟩
  | 119 => ⟨S128x4x256x256, .f32⟩
  | 120 => ⟨S128x4x8x1, .f32⟩
  | 121 => ⟨S128x4x8x256, .f32⟩
  | 122 => ⟨S128x4x8x256, .f32⟩
  | 123 => ⟨S128x4x256x256, .f32⟩
  | 124 => ⟨S128x4x256x256, .f32⟩
  | 125 => ⟨S128x4x1, .f32⟩
  | 126 => ⟨S128x4x256, .f32⟩
  | 127 => ⟨S128x4x256, .f32⟩
  | _ => ⟨S9216x2048, .bf16⟩

abbrev hbmTy0_1 (i : Nat) : BufTy := match i % 128 with
  | 0 => ⟨S128x4x256, .f32⟩
  | 1 => ⟨S128x4x256, .f32⟩
  | 2 => ⟨S128x8x4x256, .f32⟩
  | 3 => ⟨S1024x1024, .f32⟩
  | 4 => ⟨S1024x1024, .bf16⟩
  | 5 => ⟨S4x128, .f32⟩
  | 6 => ⟨S4x1x128x1, .f32⟩
  | 7 => ⟨S4x8x128x8, .f32⟩
  | 8 => ⟨S4x8x1024, .f32⟩
  | 9 => ⟨S9216x4096, .bf16⟩
  | 10 => ⟨S128x1024, .f32⟩
  | _ => ⟨S9216x2048, .bf16⟩

abbrev hbmTy (i : Nat) : BufTy := match i / 128 with
  | 0 => hbmTy0_0 i
  | 1 => hbmTy0_1 i
  | _ => ⟨S9216x2048, .bf16⟩

abbrev bufTy : (tb : Table) → Fin (tcTables nBuf tb) → BufTy
  | .hbm, ⟨i, _⟩ => hbmTy i
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_call0_cst : Ref sig .tc := ⟨.hbm, 43, rfl⟩
abbrev main_call0_call0_v0 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_1 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_3 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== Kernel2.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S1x2048x8192, .bf16⟩
  | .hbm, ⟨6, _⟩ => ⟨S2048x8192, .bf16⟩
  | .hbm, ⟨7, _⟩ => ⟨S1x8192x2048, .bf16⟩
  | .hbm, ⟨8, _⟩ => ⟨S8192x2048, .bf16⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S1x2048x8192, .bf16⟩
  | .hbm, ⟨6, _⟩ => ⟨S2048x8192, .bf16⟩
  | .hbm, ⟨7, _⟩ => ⟨S1x8192x2048, .bf16⟩
  | .hbm, ⟨8, _⟩ => ⟨S8192x2048, .bf16⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S9216x2048 : Shape := ⟨2, ![9216, 2048]⟩
abbrev S128x2048 : Shape := ⟨2, ![128, 2048]⟩
abbrev S1x2048x11272 : Shape := ⟨3, ![1, 2048, 11272]⟩
abbrev S1x11272 : Shape := ⟨2, ![1, 11272]⟩
abbrev S1x2048x8192 : Shape := ⟨3, ![1, 2048, 8192]⟩
abbrev S1x8192x2048 : Shape := ⟨3, ![1, 8192, 2048]⟩
abbrev S11272 : Shape := ⟨1, ![11272]⟩
abbrev S3072 : Shape := ⟨1, ![3072]⟩
abbrev S8192 : Shape := ⟨1, ![8192]⟩
abbrev S11264 : Shape := ⟨1, ![11264]⟩
abbrev S1x11264 : Shape := ⟨2, ![1, 11264]⟩
abbrev S2048x11272 : Shape := ⟨2, ![2048, 11272]⟩
abbrev S11272x2048 : Shape := ⟨2, ![11272, 2048]⟩
abbrev S2048x8192 : Shape := ⟨2, ![2048, 8192]⟩
abbrev S8192x2048 : Shape := ⟨2, ![8192, 2048]⟩
abbrev S9216x3072 : Shape := ⟨2, ![9216, 3072]⟩
abbrev S1024x9216 : Shape := ⟨2, ![1024, 9216]⟩
abbrev S1024x128 : Shape := ⟨2, ![1024, 128]⟩
abbrev S1024x2048 : Shape := ⟨2, ![1024, 2048]⟩
abbrev S1x1024 : Shape := ⟨2, ![1, 1024]⟩
abbrev S64x8192 : Shape := ⟨2, ![64, 8192]⟩
abbrev S256x2048 : Shape := ⟨2, ![256, 2048]⟩
abbrev S1024x1024 : Shape := ⟨2, ![1024, 1024]⟩
abbrev S128x1024 : Shape := ⟨2, ![128, 1024]⟩
abbrev S1x128 : Shape := ⟨2, ![1, 128]⟩
abbrev S128x128 : Shape := ⟨2, ![128, 128]⟩

abbrev nBuf : Space → Nat
  | .hbm => 21
  | .vmem => 24
  | .smem => 0
  | _ => 0

abbrev bufTy : (tb : Table) → Fin (tcTables nBuf tb) → BufTy
  | .hbm, ⟨0, _⟩ => ⟨S9216x2048, .bf16⟩
  | .hbm, ⟨1, _⟩ => ⟨S128x2048, .bf16⟩
  | .hbm, ⟨2, _⟩ => ⟨S1x2048x11272, .f32⟩
  | .hbm, ⟨3, _⟩ => ⟨S1x11272, .f32⟩
  | .hbm, ⟨4, _⟩ => ⟨S1x2048x8192, .f32⟩
  | .hbm, ⟨5, _⟩ => ⟨S1x8192x2048, .f32⟩
  | .hbm, ⟨6, _⟩ => ⟨S11272, .f32⟩
  | .hbm, ⟨7, _⟩ => ⟨S3072, .f32⟩
  | .hbm, ⟨8, _⟩ => ⟨S8192, .f32⟩
  | .hbm, ⟨9, _⟩ => ⟨S11264, .f32⟩
  | .hbm, ⟨10, _⟩ => ⟨S1x11264, .f32⟩
  | .hbm, ⟨11, _⟩ => ⟨S2048x11272, .f32⟩
  | .hbm, ⟨12, _⟩ => ⟨S11272x2048, .f32⟩
  | .hbm, ⟨13, _⟩ => ⟨S2048x8192, .f32⟩
  | .hbm, ⟨14, _⟩ => ⟨S8192x2048, .f32⟩
  | .hbm, ⟨15, _⟩ => ⟨S9216x3072, .bf16⟩
  | .hbm, ⟨16, _⟩ => ⟨S1024x9216, .bf16⟩
  | .hbm, ⟨17, _⟩ => ⟨S128x2048, .bf16⟩
  | .hbm, ⟨18, _⟩ => ⟨S1024x128, .bf16⟩
  | .hbm, ⟨19, _⟩ => ⟨S2048x8192, .bf16⟩
  | .hbm, ⟨20, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x2048, .f32⟩
  | .local _ .vmem, ⟨4, _⟩ => ⟨S1024x2048, .f32⟩
  | .local _ .vmem, ⟨5, _⟩ => ⟨S1x1024, .f32⟩
  | .local _ .vmem, ⟨6, _⟩ => ⟨S1x1024, .f32⟩
  | .local _ .vmem, ⟨7, _⟩ => ⟨S64x8192, .f32⟩
  | .local _ .vmem, ⟨8, _⟩ => ⟨S64x8192, .f32⟩
  | .local _ .vmem, ⟨9, _⟩ => ⟨S256x2048, .f32⟩
  | .local _ .vmem, ⟨10, _⟩ => ⟨S256x2048, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S128x1024, .bf16⟩
  | .local _ .vmem, ⟨16, _⟩ => ⟨S128x1024, .bf16⟩
  | .local _ .vmem, ⟨17, _⟩ => ⟨S1024x128, .bf16⟩
  | .local _ .vmem, ⟨18, _⟩ => ⟨S64x8192, .bf16⟩
  | .local _ .vmem, ⟨19, _⟩ => ⟨S64x8192, .bf16⟩
  | .local _ .vmem, ⟨20, _⟩ => ⟨S256x2048, .bf16⟩
  | .local _ .vmem, ⟨21, _⟩ => ⟨S256x2048, .bf16⟩
  | .local _ .vmem, ⟨22, _⟩ => ⟨S1024x2048, .bf16⟩
  | .local _ .vmem, ⟨23, _⟩ => ⟨S1024x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let arg0 : BitVec 32 := BitVec.ofNat 32 (i 0).val
  let c3_i32 : BitVec 32 := 3#32
  let v0 : BitVec 1 := Scalar.cmpi .eq arg0 c3_i32
  let c3080_i32 : BitVec 32 := 3080#32
  let c1024_i32 : BitVec 32 := 1024#32
  let v1 : BitVec 32 := Scalar.muli arg0 c1024_i32
  let v2 : BitVec 32 := Scalar.select v0 c3080_i32 v1
  v2
def k0_cond4 (i : grid0.Coords) : BitVec 1 :=
  let arg0 : BitVec 32 := BitVec.ofNat 32 (i 0).val
  let c0_i32_1 : BitVec 32 := 0#32
  let v3 : BitVec 1 := Scalar.cmpi .eq arg0 c0_i32_1
  let c2_i32 : BitVec 32 := 2#32
  let v4 : BitVec 1 := Scalar.cmpi .eq arg0 c2_i32
  let v5 : BitVec 1 := Scalar.ori v3 v4
  let v6 : BitVec 32 := Scalar.extui v5
  let c0_i32_2 : BitVec 32 := 0#32
  let v7 : BitVec 1 := Scalar.cmpi .ne v6 c0_i32_2
  v7

def k0_cond6 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_4 : BitVec 32 := 0#32
  let v13 : BitVec 1 := Scalar.cmpi .ne v12 c0_i32_4
  v13

def k0_cond5 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_3 : BitVec 32 := 0#32
  let v10 : BitVec 1 := Scalar.cmpi .ne v9 c0_i32_3
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v20 : BitVec 1 := Scalar.cmpi .eq arg0 c0_i32_8
  let c2_i32_9 : BitVec 32 := 2#32
  let v21 : BitVec 1 := Scalar.cmpi .eq arg0 c2_i32_9
  let v22 : BitVec 1 := Scalar.ori v20 v21
  let v23 : BitVec 32 := Scalar.extui v22
  let c0_i32_10 : BitVec 32 := 0#32
  let v24 : BitVec 1 := Scalar.cmpi .ne v23 c0_i32_10
  v24

def k0_cond3 (i : grid0.Coords) : BitVec 1 :=
  let arg0 : BitVec 32 := BitVec.ofNat 32 (i 0).val
  let c1_i32_11 : BitVec 32 := 1#32
  let v25 : BitVec 1 := Scalar.cmpi .eq arg0 c1_i32_11
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c1024_i32 : BitVec 32 := 1024#32
  let v1 : BitVec 32 := Scalar.muli arg0 c1024_i32
  let c3080_i32 : BitVec 32 := 3080#32
  let v2 : BitVec 32 := Scalar.select v0 c3080_i32 v1
  let v3 : BitVec 32 := v2
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c8_i32 : BitVec 32 := 8#32
  let v1 : BitVec 32 := Scalar.select v0 c8_i32 arg1
  let c1_i32_0 : BitVec 32 := 1#32
  let v2 : BitVec 1 := Scalar.cmpi .sle arg0 c1_i32_0
  let c1_i32_1 : BitVec 32 := 1#32
  let v3 : BitVec 32 := Scalar.subi arg0 c1_i32_1
  let c0_i32 : BitVec 32 := 0#32
  let v4 : BitVec 32 := Scalar.select v2 c0_i32 v3
  let c0_i32_2 : BitVec 32 := 0#32
  ![v1.toNat, v4.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c8_i32 : BitVec 32 := 8#32
  let v2 : BitVec 32 := Scalar.select v1 c0_i32 c8_i32
  let v3 : BitVec 32 := Scalar.select v0 arg1 v2
  let c0_i32_1 : BitVec 32 := 0#32
  let c0_i32_2 : BitVec 32 := 0#32
  ![c0_i32_1.toNat, v3.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let v1 : BitVec 32 := Scalar.extui v0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S9216x2048 : Shape := ⟨2, ![9216, 2048]⟩
abbrev S128x2048 : Shape := ⟨2, ![128, 2048]⟩
abbrev S1x2048x11272 : Shape := ⟨3, ![1, 2048, 11272]⟩
abbrev S1x11272 : Shape := ⟨2, ![1, 11272]⟩
abbrev S1x2048x8192 : Shape := ⟨3, ![1, 2048, 8192]⟩
abbrev S1x8192x2048 : Shape := ⟨3, ![1, 8192, 2048]⟩
abbrev S2048x11272 : Shape := ⟨2, ![2048, 11272]⟩
abbrev S2048x4104 : Shape := ⟨2, ![2048, 4104]⟩
abbrev S9216x4104 : Shape := ⟨2, ![9216, 4104]⟩
abbrev S11272 : Shape := ⟨1, ![11272]⟩
abbrev S4104 : Shape := ⟨1, ![4104]⟩
abbrev S1x4104 : Shape := ⟨2, ![1, 4104]⟩
abbrev S9216x1024 : Shape := ⟨2, ![9216, 1024]⟩
abbrev S_ : Shape := ⟨0, ![]⟩
abbrev S128x4104 : Shape := ⟨2, ![128, 4104]⟩
abbrev S128x1024 : Shape := ⟨2, ![128, 1024]⟩
abbrev S9216x3072 : Shape := ⟨2, ![9216, 3072]⟩
abbrev S1024x9216 : Shape := ⟨2, ![1024, 9216]⟩
abbrev S1024x128 : Shape := ⟨2, ![1024, 128]⟩
abbrev S2048x8192 : Shape := ⟨2, ![2048, 8192]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S128x2048, .bf16⟩
  | .hbm, ⟨2, _⟩ => ⟨S1x2048x11272, .f32⟩
  | .hbm, ⟨3, _⟩ => ⟨S1x11272, .f32⟩
  | .hbm, ⟨4, _⟩ => ⟨S1x2048x8192, .f32⟩
  | .hbm, ⟨5, _⟩ => ⟨S1x8192x2048, .f32⟩
  | .hbm, ⟨6, _⟩ => ⟨S9216x2048, .f32⟩
  | .hbm, ⟨7, _⟩ => ⟨S2048x11272, .f32⟩
  | .hbm, ⟨8, _⟩ => ⟨S2048x4104, .f32⟩
  | .hbm, ⟨9, _⟩ => ⟨S9216x4104, .f32⟩
  | .hbm, ⟨10, _⟩ => ⟨S11272, .f32⟩
  | .hbm, ⟨11, _⟩ => ⟨S4104, .f32⟩
  | .hbm, ⟨12, _⟩ => ⟨S1x4104, .f32⟩
  | .hbm, ⟨13, _⟩ => ⟨S9216x4104, .f32⟩
  | .hbm, ⟨14, _⟩ => ⟨S9216x4104, .f32⟩
  | .hbm, ⟨15, _⟩ => ⟨S9216x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S128x2048, .f32⟩
  | .hbm, ⟨23, _⟩ => ⟨S2048x11272, .f32⟩
  | .hbm, ⟨24, _⟩ => ⟨S2048x4104, .f32⟩
  | .hbm, ⟨25, _⟩ => ⟨S128x4104, .f32⟩
  | .hbm, ⟨26, _⟩ => ⟨S11272, .f32⟩
  | .hbm, ⟨27, _⟩ => ⟨S4104, .f32⟩
  | .hbm, ⟨28, _⟩ => ⟨S1x4104, .f32⟩
  | .hbm, ⟨29, _⟩ => ⟨S128x4104, .f32⟩
  | .hbm, ⟨30, _⟩ => ⟨S128x4104, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S9216x1024, .f32⟩
  | .hbm, ⟨39, _⟩ => ⟨S9216x1024, .f32⟩
  | .hbm, ⟨40, _⟩ => ⟨S_, .f32⟩
  | .hbm, ⟨41, _⟩ => ⟨S9216x1024, .f32⟩
  | .hbm, ⟨42, _⟩ => ⟨S9216x1024, .f32⟩
  | .hbm, ⟨43, _⟩ => ⟨S_, .f32⟩
  | .hbm, ⟨44, _⟩ => ⟨S9216x1024, .f32⟩
  | .hbm, ⟨45, _⟩ => ⟨S9216x1024, .f32⟩
  | .hbm, ⟨46, _⟩ => ⟨S9216x3072, .f32⟩
  | .hbm, ⟨47, _⟩ => ⟨S9216x3072, .bf16⟩
  | .hbm, ⟨48, _⟩ => ⟨S1024x9216, .f32⟩
  | .hbm, ⟨49, _⟩ => ⟨S1024x9216, .bf16⟩
  | .hbm, ⟨50, _⟩ => ⟨S128x2048, .f32⟩
  | .hbm, ⟨51, _⟩ => ⟨S128x2048, .bf16⟩
  | .hbm, ⟨52, _⟩ => ⟨S1024x128, .f32⟩
  | .hbm, ⟨53, _⟩ => ⟨S1024x128, .bf16⟩
  | .hbm, ⟨54, _⟩ => ⟨S2048x8192, .f32⟩
  | .hbm, ⟨55, _⟩ => ⟨S2048x8192, .bf16⟩
  | .hbm, ⟨56, _⟩ => ⟨S8192x2048, .f32⟩
  | .hbm, ⟨57, _⟩ => ⟨S8192x2048, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel4.lean ====
abbrev S1024x2048 : Shape := ⟨2, ![1024, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S1x2048x8192, .bf16⟩
  | .hbm, ⟨6, _⟩ => ⟨S2048x8192, .bf16⟩
  | .hbm, ⟨7, _⟩ => ⟨S1x8192x2048, .bf16⟩
  | .hbm, ⟨8, _⟩ => ⟨S8192x2048, .bf16⟩
  | .hbm, ⟨9, _⟩ => ⟨S1x2048, .f32⟩
  | .hbm, ⟨10, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S1024x2048 : Shape := ⟨2, ![1024, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S1024x8192 : Shape := ⟨2, ![1024, 8192]⟩
abbrev S_ : Shape := ⟨0, ![]⟩
abbrev S8192x2048 : Shape := ⟨2, ![8192, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S1024x2048, .f32⟩
  | .hbm, ⟨6, _⟩ => ⟨S2048x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S8192x2048, .f32⟩
  | .hbm, ⟨13, _⟩ => ⟨S1024x2048, .f32⟩
  | .hbm, ⟨14, _⟩ => ⟨S1024x2048, .f32⟩
  | .hbm, ⟨15, _⟩ => ⟨S1024x2048, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x2048, .f32⟩
  | .hbm, ⟨27, _⟩ => ⟨S1024x2048, .f32⟩
  | .hbm, ⟨28, _⟩ => ⟨S1x2048, .f32⟩
  | .hbm, ⟨29, _⟩ => ⟨S1024x2048, .f32⟩
  | .hbm, ⟨30, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.FfnPoint.lean ====
module

public import proofs.«01_k».proof.Proof.Gen.Kernel2Ideal.Skeleton
public import proofs.«01_k».proof.Proof.Gen.Reference2Ideal.Run
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Ffn

section
open Cert.Kernel2Ideal Cert.Kernel2Ideal.Gen

/-- The share of one block of 2048 hidden units in the feed-forward sum: the block's squared rectified
    pre-activations against the block's rows of the second weight. -/
def part (x : FVec Ideal S512x2048 .bf16) (u d : FVec Ideal S2048x2048 .bf16) (r : Fin 512) (l : Fin 2048) : EReal :=
  ∑ k : Fin 2048, max (∑ q : Fin 2048, x (ix2 r q) * u (ix2 q k)) 0 * max (∑ q : Fin 2048, x (ix2 r q) * u (ix2 q k)) 0 * d (ix2 k l)

/-- The first block's payload: the residual plus the block's share. -/
theorem pay1_at (v11 : FVec Ideal S512x2048 .f32) (v12 : FVec Ideal S512x2048 .bf16) (v13 v20 : FVec Ideal S2048x2048 .bf16) (r : Fin 512) (l : Fin 2048) :
    k0_pay1 (F := Ideal) v11 v12 v13 v20 (ix2 r l) = v11 (ix2 r l) + part v12 v13 v20 r l := by
  pointwise [k0_pay1, part]

/-- A middle block's payload: what the buffer holds plus the block's share. -/
theorem pay2_at (v11 : FVec Ideal S512x2048 .f32) (v12 : FVec Ideal S512x2048 .bf16) (v13 v20 : FVec Ideal S2048x2048 .bf16) (r : Fin 512) (l : Fin 2048) :
    k0_pay2 (F := Ideal) v11 v12 v13 v20 (ix2 r l) = v11 (ix2 r l) + part v12 v13 v20 r l := by
  pointwise [k0_pay2, part]

/-- The normalisation of a row by the root of its mean square, times a gain. -/
def norm (s : Fin 2048 → EReal) (g : Fin 2048 → EReal) (l : Fin 2048) : EReal :=
  s l * Ideal.rsqrt (Ideal.div (∑ k : Fin 2048, s k * s k) (Ideal.ofBits .f32 0x45000000#32) + Ideal.ofBits .f32 0x358637BD#32) * g l

/-- The last block's payload: the completed sum, normalised. -/
theorem pay3_at (v11 : FVec Ideal S512x2048 .f32) (v12 : FVec Ideal S512x2048 .bf16) (v13 v20 : FVec Ideal S2048x2048 .bf16) (v25 : FVec Ideal S1x2048 .f32) (r : Fin 512) (l : Fin 2048) :
    k0_pay3 (F := Ideal) v11 v12 v13 v20 v25 (ix2 r l)
      = norm (fun l => v11 (ix2 r l) + part v12 v13 v20 r l) (fun l => v25 (ix2 0 l)) l := by
  pointwise [k0_pay3, part, norm]
end

section
open Cert.Reference2Ideal Cert.Reference2Ideal.Gen Cert.Reference2Ideal.Read

/-- The reference at a row and a lane: residual plus feed-forward, normalised. -/
theorem ref_at (x0 : FVec Ideal S8192x2048 .f32) (x1 : FVec Ideal S8192x2048 .bf16) (x2 : FVec Ideal S1x2048x8192 .f32)
    (x3 : FVec Ideal S1x8192x2048 .f32) (x4 : FVec Ideal S2048 .f32) (r : Fin 8192) (l : Fin 2048) :
    val_main_v20 (F := Ideal) x0 x1 x2 x3 x4 (ix2 r l)
      = norm (fun l => x0 (ix2 r l) + ∑ k : Fin 8192, max (∑ q : Fin 2048, x1 (ix2 r q) * x2 (ix3 0 q k)) 0 * max (∑ q : Fin 2048, x1 (ix2 r q) * x2 (ix3 0 q k)) 0 * x3 (ix3 0 k l))
          (fun l => x4 (ix1 l)) l := by
  pointwise [val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_call0_v0, val_main_call0_cst, val_main_v2, val_main_v1, val_main_v0, norm]
end

end Cert.Ffn

end
-- ==== Proof.FfnValue.lean ====
module

public import proofs.«01_k».proof.Proof.FfnPoint
public import proofs.«01_k».proof.Proof.Gen.Kernel2Ideal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- The windows' block indices: rows by the point's quotient by four, hidden units by its remainder. -/
theorem idx : ∀ t : Fin cfg0.N, win0_0.index t = ![t.val / 4, 0] ∧ win0_1.index t = ![t.val / 4, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- What one point adds, over the point's blocks. -/
def add (c : Dev nD) (t : Fin cfg0.N) (r : Fin 512) (l : Fin 2048) : EReal :=
  part (iblk m c 1 t) (iblk m c 2 t) (iblk m c 3 t) r l

/-- The first point of a run leaves the residual plus its share. -/
theorem out_A (c : Dev nD) (t : Fin cfg0.N) (h : t.val % 4 = 0) (r : Fin 512) (l : Fin 2048) :
    outsAt0 m c t.val t.isLt (ix2 r l) = (show FVec Ideal S512x2048 .f32 from iblk m c 0 t) (ix2 r l) + add m c t r l := by
  rw [outsAt0_A m c t h (by omega) (by omega)]
  frame_out
  exact pay1_at _ _ _ _ r l

/-- A middle point adds its share. -/
theorem out_B (c : Dev nD) (t : Fin cfg0.N) (h : 1 ≤ t.val % 4 ∧ t.val % 4 ≤ 2) (r : Fin 512) (l : Fin 2048) :
    outsAt0 m c t.val t.isLt (ix2 r l)
      = outsAt0 m c (t.val - 1) (Nat.lt_of_le_of_lt (Nat.sub_le _ _) t.isLt) (ix2 r l) + add m c t r l := by
  rw [outsAt0_B m c t (by omega) h (by omega)]
  frame_out
  exact pay2_at _ _ _ _ r l

/-- The last point adds its share and normalises. -/
theorem out_C (c : Dev nD) (t : Fin cfg0.N) (h : t.val % 4 = 3) (r : Fin 512) (l : Fin 2048) :
    outsAt0 m c t.val t.isLt (ix2 r l)
      = norm (fun l => outsAt0 m c (t.val - 1) (Nat.lt_of_le_of_lt (Nat.sub_le _ _) t.isLt) (ix2 r l) + add m c t r l)
          (fun l => (show FVec Ideal S1x2048 .f32 from iblk m c 4 t) (ix2 0 l)) l := by
  rw [outsAt0_C m c t (by omega) (by omega) h]
  frame_out
  exact pay3_at _ _ _ _ _ r l

/-- The share of one hidden unit in the feed-forward sum of a row, over the whole arrays. -/
def unit (x1 : FVec Ideal S8192x2048 .bf16) (x2 : FVec Ideal S1x2048x8192 .f32) (x3 : FVec Ideal S1x8192x2048 .f32)
    (r : Fin 8192) (l : Fin 2048) (k : Fin 8192) : EReal :=
  max (∑ q : Fin 2048, x1 (ix2 r q) * x2 (ix3 0 q k)) 0 * max (∑ q : Fin 2048, x1 (ix2 r q) * x2 (ix3 0 q k)) 0 * x3 (ix3 0 k l)

/-- What a point adds is the sum of its 2048 hidden units' shares. -/
theorem add_eq (c : Dev nD) (t : Fin cfg0.N) (r : Fin 512) (l : Fin 2048) (R : Fin 8192) (hR : (R : ℕ) = t.val / 4 * 512 + r)
    (p : ℕ) (hp : t.val % 4 = p) :
    add m c t r l = ∑ k : Fin 2048, unit (m ((c : Thread nD τ).loc main_arg1)) (m ((c : Thread nD τ).loc main_arg2))
      (m ((c : Thread nD τ).loc main_arg3)) R l ⟨p * 2048 + k, by omega⟩ := by
  unfold add part unit
  blk_point [iblk, V, idx t]

/-- At the last point of a run the four blocks' shares make the whole feed-forward sum. -/
theorem sum_eq (c : Dev nD) (t : Fin cfg0.N) (h : t.val % 4 = 3) (r : Fin 512) (l : Fin 2048) (R : Fin 8192)
    (hR : (R : ℕ) = t.val / 4 * 512 + r) :
    outsAt0 m c (t.val - 1) (Nat.lt_of_le_of_lt (Nat.sub_le _ _) t.isLt) (ix2 r l) + add m c t r l
      = (show FVec Ideal S8192x2048 .f32 from m ((c : Thread nD τ).loc main_arg0)) (ix2 R l)
        + ∑ k : Fin 8192, unit (m ((c : Thread nD τ).loc main_arg1)) (m ((c : Thread nD τ).loc main_arg2))
            (m ((c : Thread nD τ).loc main_arg3)) R l k := by
  have hN : t.val < 64 := lt_of_lt_of_eq t.isLt (show cfg0.N = 64 from N_0)
  have h2 := out_B m c ⟨t.val - 1, by omega⟩ (by dsimp only; omega) r l
  have h1 := out_B m c ⟨t.val - 1 - 1, by omega⟩ (by dsimp only; omega) r l
  have h0 := out_A m c ⟨t.val - 1 - 1 - 1, by omega⟩ (by dsimp only; omega) r l
  dsimp only at h2 h1 h0
  rw [h2, h1, h0, add_eq m c t r l R hR 3 h,
    add_eq m c ⟨t.val - 1, by omega⟩ r l R (by dsimp only; omega) 2 (by dsimp only; omega),
    add_eq m c ⟨t.val - 1 - 1, by omega⟩ r l R (by dsimp only; omega) 1 (by dsimp only; omega),
    add_eq m c ⟨t.val - 1 - 1 - 1, by omega⟩ r l R (by dsimp only; omega) 0 (by dsimp only; omega),
    Fin.sum_univ_tiles 4 2048 rfl, Fin.sum_univ_four, ← add_assoc, ← add_assoc, ← add_assoc]
  refine congrArg₂ (· + ·) (congrArg₂ (· + ·) (congrArg₂ (· + ·) (congrArg₂ (· + ·) ?_ rfl) rfl) rfl) rfl
  blk_point [iblk, V, idx ⟨t.val - 1 - 1 - 1, by omega⟩]

/-- The written array is the reference's last stage. -/
theorem final (c : Dev nD) : (dats m 0 c).arrAt 5 (cfgs 0).N
    = Cert.Reference2Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 4 = 3 := (flush0_5 t).mp hf
  have hN : t.val < 64 := lt_of_lt_of_eq t.isLt (show cfg0.N = 64 from N_0)
  blk_simp
  rw [after0_5]
  have hy0 : (y 0 : ℕ) < 512 := (y 0).isLt
  have hy1 : (y 1 : ℕ) < 2048 := (y 1).isLt
  have ey : y = (ix2 (y 0) (y 1) : S512x2048.Idx) := eq_ix2 _
  have ee : ((cfg0.win 5).blk t).view.emb y = (ix2 (⟨t.val / 4 * 512 + y 0, by omega⟩ : Fin 8192) (⟨y 1, hy1⟩ : Fin 2048) : S8192x2048.Idx) := by
    blk_ext [idx t]
  refine (congrArg (outsAt0 m c t.val t.isLt) ey).trans ?_
  refine (out_C m c t h (y 0) (y 1)).trans ?_
  refine Eq.trans ?_ (congrArg (Cert.Reference2Ideal.Read.val_main_v20 (F := Ideal) _ _ _ _ _) ee).symm
  refine Eq.trans ?_ (ref_at _ _ _ _ _ _ _).symm
  refine congrArg₂ (fun s g => norm s g (y 1)) (funext fun l => sum_eq m c t h (y 0) l _ rfl) (funext fun l => ?_)
  blk_point [iblk, V, idx t]

end Cert.Ffn

end
-- ==== Proof.FfnSample.lean ====
module

public import proofs.«01_k».proof.Proof.FfnPoint
public import proofs.«01_k».proof.Proof.Gen.Kernel4Ideal.Skeleton
public import proofs.«01_k».proof.Proof.Gen.Reference4Ideal.Run
public import proofs.«01_k».proof.Proof.Gen.Reference4Ideal.Read
public import proofs.«01_k».proof.Proof.Gen.Kernel4Ideal.Frame
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnSample

/-! The feed-forward call on the sample's rows: the shares and the normalisation of the prompt's call, on 1024 rows. -/

open Cert.Ffn (part norm)

section
open Cert.Reference4Ideal Cert.Reference4Ideal.Gen Cert.Reference4Ideal.Read

/-- The reference at a row and a lane: residual plus feed-forward, normalised. -/
theorem ref_at (x0 : FVec Ideal S1024x2048 .f32) (x1 : FVec Ideal S1024x2048 .bf16) (x2 : FVec Ideal S1x2048x8192 .f32)
    (x3 : FVec Ideal S1x8192x2048 .f32) (x4 : FVec Ideal S2048 .f32) (r : Fin 1024) (l : Fin 2048) :
    val_main_v20 (F := Ideal) x0 x1 x2 x3 x4 (ix2 r l)
      = norm (fun l => x0 (ix2 r l) + ∑ k : Fin 8192, max (∑ q : Fin 2048, x1 (ix2 r q) * x2 (ix3 0 q k)) 0 * max (∑ q : Fin 2048, x1 (ix2 r q) * x2 (ix3 0 q k)) 0 * x3 (ix3 0 k l))
          (fun l => x4 (ix1 l)) l := by
  pointwise [val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_call0_v0, val_main_call0_cst, val_main_v2, val_main_v1, val_main_v0, Cert.Ffn.norm]
end

open Cert.Kernel4Ideal Cert.Kernel4Ideal.Gen

variable (m : (ℓ : Loc nD τ sig) → Buf (Elt Ideal) ℓ)

/-- The windows' block indices: rows by the point's quotient by four, hidden units by its remainder. -/
theorem idx : ∀ t : Fin cfg0.N, win0_0.index t = ![t.val / 4, 0] ∧ win0_1.index t = ![t.val / 4, 0]
    ∧ win0_2.index t = ![0, t.val % 4] ∧ win0_3.index t = ![t.val % 4, 0] ∧ win0_4.index t = ![0, 0]
    ∧ win0_5.index t = ![t.val / 4, 0] :=
  (by decide +kernel : ∀ t : Fin grid0.N, _)

/-- What one point adds, over the point's blocks. -/
def add (c : Dev nD) (t : Fin cfg0.N) (r : Fin 512) (l : Fin 2048) : EReal :=
  part (iblk m c 1 t) (iblk m c 2 t) (iblk m c 3 t) r l

/-- The first point of a run leaves the residual plus its share. -/
theorem out_A (c : Dev nD) (t : Fin cfg0.N) (h : t.val % 4 = 0) (r : Fin 512) (l : Fin 2048) :
    outsAt0 m c t.val t.isLt (ix2 r l) = (show FVec Ideal S512x2048 .f32 from iblk m c 0 t) (ix2 r l) + add m c t r l := by
  rw [outsAt0_A m c t h (by omega) (by omega)]
  frame_out
  exact Cert.Ffn.pay1_at _ _ _ _ r l

/-- A middle point adds its share. -/
theorem out_B (c : Dev nD) (t : Fin cfg0.N) (h : 1 ≤ t.val % 4 ∧ t.val % 4 ≤ 2) (r : Fin 512) (l : Fin 2048) :
    outsAt0 m c t.val t.isLt (ix2 r l)
      = outsAt0 m c (t.val - 1) (Nat.lt_of_le_of_lt (Nat.sub_le _ _) t.isLt) (ix2 r l) + add m c t r l := by
  rw [outsAt0_B m c t (by omega) h (by omega)]
  frame_out
  exact Cert.Ffn.pay2_at _ _ _ _ r l

/-- The last point adds its share and normalises. -/
theorem out_C (c : Dev nD) (t : Fin cfg0.N) (h : t.val % 4 = 3) (r : Fin 512) (l : Fin 2048) :
    outsAt0 m c t.val t.isLt (ix2 r l)
      = norm (fun l => outsAt0 m c (t.val - 1) (Nat.lt_of_le_of_lt (Nat.sub_le _ _) t.isLt) (ix2 r l) + add m c t r l)
          (fun l => (show FVec Ideal S1x2048 .f32 from iblk m c 4 t) (ix2 0 l)) l := by
  rw [outsAt0_C m c t (by omega) (by omega) h]
  frame_out
  exact Cert.Ffn.pay3_at _ _ _ _ _ r l

/-- The share of one hidden unit in the feed-forward sum of a row, over the whole arrays. -/
def unit (x1 : FVec Ideal S1024x2048 .bf16) (x2 : FVec Ideal S1x2048x8192 .f32) (x3 : FVec Ideal S1x8192x2048 .f32)
    (r : Fin 1024) (l : Fin 2048) (k : Fin 8192) : EReal :=
  max (∑ q : Fin 2048, x1 (ix2 r q) * x2 (ix3 0 q k)) 0 * max (∑ q : Fin 2048, x1 (ix2 r q) * x2 (ix3 0 q k)) 0 * x3 (ix3 0 k l)

/-- What a point adds is the sum of its 2048 hidden units' shares. -/
theorem add_eq (c : Dev nD) (t : Fin cfg0.N) (r : Fin 512) (l : Fin 2048) (R : Fin 1024) (hR : (R : ℕ) = t.val / 4 * 512 + r)
    (p : ℕ) (hp : t.val % 4 = p) :
    add m c t r l = ∑ k : Fin 2048, unit (m ((c : Thread nD τ).loc main_arg1)) (m ((c : Thread nD τ).loc main_arg2))
      (m ((c : Thread nD τ).loc main_arg3)) R l ⟨p * 2048 + k, by omega⟩ := by
  unfold add part unit
  blk_point [iblk, V, idx t]

/-- At the last point of a run the four blocks' shares make the whole feed-forward sum. -/
theorem sum_eq (c : Dev nD) (t : Fin cfg0.N) (h : t.val % 4 = 3) (r : Fin 512) (l : Fin 2048) (R : Fin 1024)
    (hR : (R : ℕ) = t.val / 4 * 512 + r) :
    outsAt0 m c (t.val - 1) (Nat.lt_of_le_of_lt (Nat.sub_le _ _) t.isLt) (ix2 r l) + add m c t r l
      = (show FVec Ideal S1024x2048 .f32 from m ((c : Thread nD τ).loc main_arg0)) (ix2 R l)
        + ∑ k : Fin 8192, unit (m ((c : Thread nD τ).loc main_arg1)) (m ((c : Thread nD τ).loc main_arg2))
            (m ((c : Thread nD τ).loc main_arg3)) R l k := by
  have hN : t.val < 8 := lt_of_lt_of_eq t.isLt (show cfg0.N = 8 from N_0)
  have h2 := out_B m c ⟨t.val - 1, by omega⟩ (by dsimp only; omega) r l
  have h1 := out_B m c ⟨t.val - 1 - 1, by omega⟩ (by dsimp only; omega) r l
  have h0 := out_A m c ⟨t.val - 1 - 1 - 1, by omega⟩ (by dsimp only; omega) r l
  dsimp only at h2 h1 h0
  rw [h2, h1, h0, add_eq m c t r l R hR 3 h,
    add_eq m c ⟨t.val - 1, by omega⟩ r l R (by dsimp only; omega) 2 (by dsimp only; omega),
    add_eq m c ⟨t.val - 1 - 1, by omega⟩ r l R (by dsimp only; omega) 1 (by dsimp only; omega),
    add_eq m c ⟨t.val - 1 - 1 - 1, by omega⟩ r l R (by dsimp only; omega) 0 (by dsimp only; omega),
    Fin.sum_univ_tiles 4 2048 rfl, Fin.sum_univ_four, ← add_assoc, ← add_assoc, ← add_assoc]
  refine congrArg₂ (· + ·) (congrArg₂ (· + ·) (congrArg₂ (· + ·) (congrArg₂ (· + ·) ?_ rfl) rfl) rfl) rfl
  blk_point [iblk, V, idx ⟨t.val - 1 - 1 - 1, by omega⟩]

/-- The written array is the reference's last stage. -/
theorem final (c : Dev nD) : (dats m 0 c).arrAt 5 (cfgs 0).N
    = Cert.Reference4Ideal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 4 = 3 := (flush0_5 t).mp hf
  have hN : t.val < 8 := lt_of_lt_of_eq t.isLt (show cfg0.N = 8 from N_0)
  blk_simp
  rw [after0_5]
  have hy0 : (y 0 : ℕ) < 512 := (y 0).isLt
  have hy1 : (y 1 : ℕ) < 2048 := (y 1).isLt
  have ey : y = (ix2 (y 0) (y 1) : S512x2048.Idx) := eq_ix2 _
  have ee : ((cfg0.win 5).blk t).view.emb y = (ix2 (⟨t.val / 4 * 512 + y 0, by omega⟩ : Fin 1024) (⟨y 1, hy1⟩ : Fin 2048) : S1024x2048.Idx) := by
    blk_ext [idx t]
  refine (congrArg (outsAt0 m c t.val t.isLt) ey).trans ?_
  refine (out_C m c t h (y 0) (y 1)).trans ?_
  refine Eq.trans ?_ (congrArg (Cert.Reference4Ideal.Read.val_main_v20 (F := Ideal) _ _ _ _ _) ee).symm
  refine Eq.trans ?_ (ref_at _ _ _ _ _ _ _).symm
  refine congrArg₂ (fun s g => norm s g (y 1)) (funext fun l => sum_eq m c t h (y 0) l _ rfl) (funext fun l => ?_)
  blk_point [iblk, V, idx t]

end Cert.FfnSample

end
-- ==== Proof.MlstmSpec.lean ====
module

public import Idealize.ShloMosaic.Lib.Claim
public import Idealize.ShloMosaic.Lib.Pointwise

@[expose] public section

set_option maxRecDepth 16384

noncomputable section

open Idealize.ShloMosaic

/-! The chunk step of the recurrence for one guest and one head, as plain formulas over eight tokens: `b` the running
sum of the log forget gates, `ig` the log input gates, `mm` the running maximum carried in, `q`, `k`, `v` the tokens'
rows, `C` and `n` the carried state. -/

namespace Cert.Mlstm

/-- The log weight of source token `s` for token `t`. -/
def lw (b ig : Fin 8 → EReal) (t s : Fin 8) : EReal := if s ≤ t then b t - b s + ig s else ⊥

/-- The stabilizer of token `t`. -/
def mt (b ig : Fin 8 → EReal) (mm : EReal) (t : Fin 8) : EReal := max (b t + mm) (Finset.univ.sup (lw b ig t))

/-- The weight of the carried state for token `t`. -/
def wi (b ig : Fin 8 → EReal) (mm : EReal) (t : Fin 8) : EReal := Ideal.exp (b t + mm - mt b ig mm t)

/-- The weighted score of tokens `t` and `s`. -/
def sc (b ig : Fin 8 → EReal) (mm : EReal) (q k : Fin 8 → Fin 256 → EReal) (t s : Fin 8) : EReal :=
  (∑ d, q t d * k s d) * Ideal.exp (lw b ig t s - mt b ig mm t)

/-- The normalizer of token `t`. -/
def den (b ig : Fin 8 → EReal) (mm : EReal) (q k : Fin 8 → Fin 256 → EReal) (n : Fin 256 → EReal) (t : Fin 8) : EReal :=
  wi b ig mm t * ∑ d, q t d * n d + ∑ s, sc b ig mm q k t s

/-- The head's result at token `t`, lane `e`. -/
def hOf (b ig : Fin 8 → EReal) (mm : EReal) (q k v : Fin 8 → Fin 256 → EReal) (C : Fin 256 → Fin 256 → EReal) (n : Fin 256 → EReal)
    (t : Fin 8) (e : Fin 256) : EReal :=
  Ideal.div (wi b ig mm t * ∑ d, q t d * C d e + ∑ s, sc b ig mm q k t s * v s e)
    (max (FloatOps.absf (F := Ideal) (φ := .f32) (den b ig mm q k n t)) (Ideal.exp (-mt b ig mm t)))

/-- The decay of the carried state over the eight tokens. -/
def dec (b ig : Fin 8 → EReal) (mm : EReal) : EReal := Ideal.exp (b 7 + mm - mt b ig mm 7)

/-- The weight of token `s` in the new state. -/
def wk (b ig : Fin 8 → EReal) (mm : EReal) (s : Fin 8) : EReal := Ideal.exp (b 7 - b s + ig s - mt b ig mm 7)

/-- The new matrix state. -/
def cNew (b ig : Fin 8 → EReal) (mm : EReal) (k v : Fin 8 → Fin 256 → EReal) (C : Fin 256 → Fin 256 → EReal) (d e : Fin 256) : EReal :=
  dec b ig mm * C d e + ∑ s, wk b ig mm s * k s d * v s e

/-- The new normalizer state. -/
def nNew (b ig : Fin 8 → EReal) (mm : EReal) (k : Fin 8 → Fin 256 → EReal) (n : Fin 256 → EReal) (d : Fin 256) : EReal :=
  dec b ig mm * n d + ∑ s, wk b ig mm s * k s d

/-- The running sum of eight log forget gates. -/
def cum (lf : Fin 8 → EReal) (t : Fin 8) : EReal := ∑ r, if r ≤ t then lf r else 0

/-- The supremum over eight tokens, spelled out. -/
theorem sup_eight (f : Fin 8 → EReal) : Finset.univ.sup f = max (max (max (max (max (max (max (f 0) (f 1)) (f 2)) (f 3)) (f 4)) (f 5)) (f 6)) (f 7) := by
  rw [show (Finset.univ : Finset (Fin 8)) = {0, 1, 2, 3, 4, 5, 6, 7} from rfl]
  simp [max_assoc]

/-- Where no gate is `+∞`, neither is a running sum. -/
theorem cum_ne_top (lf : Fin 8 → EReal) (h : ∀ r, lf r < ⊤) (t : Fin 8) : cum lf t ≠ ⊤ := by
  have H : ∀ (s : Finset (Fin 8)), (∑ r ∈ s, if r ≤ t then lf r else 0) ≠ ⊤ := by
    intro s
    induction s using Finset.induction_on with
    | empty => simp
    | insert a s ha ih =>
      rw [Finset.sum_insert ha]
      refine EReal.add_ne_top ?_ ih
      split
      · exact (h a).ne
      · exact EReal.zero_ne_top
  exact H _

/-- Where a running sum is `-∞`, so is every later one. -/
theorem cum_bot (lf : Fin 8 → EReal) (t u : Fin 8) (htu : t ≤ u) (h : cum lf t = ⊥) : cum lf u = ⊥ := by
  have e : ∃ r, r ≤ t ∧ lf r = ⊥ := by
    by_contra hne
    have hne' : ∀ r, r ≤ t → lf r ≠ ⊥ := fun r hrt hr => hne ⟨r, hrt, hr⟩
    have H : ∀ (s : Finset (Fin 8)), (∑ r ∈ s, if r ≤ t then lf r else 0) ≠ ⊥ := by
      intro s
      induction s using Finset.induction_on with
      | empty => simp
      | insert a s ha ih =>
        rw [Finset.sum_insert ha]
        refine fun hb => ?_
        rcases EReal.add_eq_bot_iff.1 hb with h1 | h1
        · split at h1
          · exact hne' a (by assumption) h1
          · exact EReal.zero_ne_bot h1
        · exact ih h1
    exact H _ h
  obtain ⟨r, hrt, hr⟩ := e
  unfold cum
  rw [← Finset.add_sum_erase _ _ (Finset.mem_univ r), if_pos (le_trans hrt htu), hr, EReal.bot_add]

/-- A running sum and what is left after it make the last running sum, where no gate is `+∞`. -/
theorem cum_rest (lf : Fin 8 → EReal) (h : ∀ r, lf r < ⊤) (t : Fin 8) : cum lf t + (cum lf 7 - cum lf t) = cum lf 7 := by
  by_cases hb : cum lf t = ⊥
  · rw [cum_bot lf t 7 (by omega) hb, hb, EReal.bot_add]
  · have ht := cum_ne_top lf h t
    rw [sub_eq_add_neg, add_left_comm, ← sub_eq_add_neg, EReal.sub_self ht hb, add_zero]

/-- The stabilizer from the running maximum of `ig - b`. -/
theorem sup_lw (b ig : Fin 8 → EReal) (t : Fin 8) :
    b t + Finset.univ.sup (fun s : Fin 8 => if s ≤ t then ig s - b s else ⊥) = Finset.univ.sup (lw b ig t) := by
  have hm : ∀ (a x y : EReal), a + max x y = max (a + x) (a + y) := fun a x y =>
    (Monotone.map_max (f := fun z : EReal => a + z) (fun _ _ hz => add_le_add_right hz a))
  have hs : ∀ s, lw b ig t s = b t + (if s ≤ t then ig s - b s else ⊥) := by
    intro s
    unfold lw
    split
    · rw [sub_eq_add_neg, sub_eq_add_neg, add_assoc, add_comm (ig s)]
    · rw [EReal.add_bot]
  rw [show lw b ig t = fun s => b t + (if s ≤ t then ig s - b s else ⊥) from funext hs, sup_eight, sup_eight]
  simp only [hm]

/-- The last stabilizer from the gates and what is left after them. -/
theorem mt_last (b ig : Fin 8 → EReal) (mm : EReal) :
    mt b ig mm 7 = max (b 7 + mm) (Finset.univ.sup (fun s : Fin 8 => b 7 - b s + ig s)) := by
  unfold mt
  congr 2
  funext s
  exact if_pos (by omega)

/-- With every gate and the carried maximum below `+∞`, so is every stabilizer. -/
theorem mt_ne_top (lf ig : Fin 8 → EReal) (mm : EReal) (hl : ∀ r, lf r < ⊤) (hi : ∀ r, ig r < ⊤) (hm : mm < ⊤) (t : Fin 8) :
    mt (cum lf) ig mm t ≠ ⊤ := by
  refine ne_of_lt (max_lt (lt_top_iff_ne_top.2 (EReal.add_ne_top (cum_ne_top lf hl t) hm.ne)) ((Finset.sup_lt_iff bot_lt_top).2 fun s _ => ?_))
  unfold lw
  split
  · rename_i hst
    by_cases hb : cum lf s = ⊥
    · rw [cum_bot lf s t hst hb, sub_eq_add_neg, EReal.bot_add, EReal.bot_add]
      exact bot_lt_top
    · refine lt_top_iff_ne_top.2 (EReal.add_ne_top ?_ (hi s).ne)
      rw [sub_eq_add_neg]
      refine EReal.add_ne_top (cum_ne_top lf hl t) fun h => hb ?_
      rw [← neg_neg (cum lf s), h, EReal.neg_top]
  · exact bot_lt_top

/-- The exponential of anything but `-∞` is positive. -/
theorem exp_pos (x : EReal) (h : x ≠ ⊥) : 0 < Ideal.exp x := by
  induction x with
  | bot => exact absurd rfl h
  | top => exact EReal.zero_lt_top
  | coe r => exact EReal.coe_pos.2 (Real.exp_pos r)

/-- Where the stabilizer is below `+∞`, dividing by the normalizer is multiplying by its reciprocal. -/
theorem mul_recip (a y m : EReal) (h : m ≠ ⊤) : a * Ideal.div 1 (max y (Ideal.exp (-m))) = Ideal.div a (max y (Ideal.exp (-m))) := by
  have hy : max y (Ideal.exp (-m)) ≠ 0 := by
    refine (lt_of_lt_of_le (exp_pos _ fun hb => h ?_) (le_max_right _ _)).ne'
    rw [← neg_neg m, hb, EReal.neg_bot]
  unfold Ideal.div
  rw [if_neg hy, if_neg hy, one_mul]

end Cert.Mlstm
end
-- ==== Proof.MlstmPoint.lean ====
module

public import proofs.«01_k».proof.Proof.Gen.KernelIdeal.Frame
public import proofs.«01_k».proof.Proof.MlstmSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The chunk step's payloads read at a point. The 128 lanes of a block are sixteen guests' eight tokens: lane `8 a + s`
is token `s` of the block's guest `a`. -/

namespace Cert.Mlstm

open Cert.KernelIdeal Cert.KernelIdeal.Gen

/-- The lane of guest `a`'s token `s`. -/
def ln (a : Fin 16) (s : Fin 8) : Fin 128 := ⟨8 * a + s, by omega⟩

/-- Every lane is some guest's token. -/
theorem ln_split (l : Fin 128) : l = ln ⟨l.val / 8, by omega⟩ ⟨l.val % 8, by omega⟩ := by
  ext
  simp only [ln]
  omega

/-- A sum over the lanes, guest by guest. -/
theorem sum_ln (f : Fin 128 → EReal) : ∑ l, f l = ∑ a, ∑ s, f (ln a s) := by
  rw [Fin.sum_univ_tiles 16 8 rfl f]
  refine Finset.sum_congr rfl fun a _ => Finset.sum_congr rfl fun s _ => congrArg f ?_
  ext
  simp only [ln]
  omega

/-- Lane `x` belongs to guest `a` exactly when the program's comparison says so. -/
theorem guest_cmp : ∀ (a : Fin 16) (x : Fin 128), IntOp.cmpi .eq (IntOp.shrsi ArithUnit.vector (BitVec.ofNat 32 x.val) 3#32) (BitVec.ofNat 32 a.val) =
    if x.val / 8 = a.val then 1#1 else 0#1 := by decide +kernel

/-- The same comparison, the other way round, against a lane number. -/
theorem guest_cmp' : ∀ (g x : Fin 128), IntOp.cmpi .eq (BitVec.ofNat 32 g.val) (IntOp.shrsi ArithUnit.vector (BitVec.ofNat 32 x.val) 3#32) =
    if x.val / 8 = g.val then 1#1 else 0#1 := by decide +kernel

/-- Only guest `a`'s lanes count in a sum over the lanes of terms that vanish elsewhere. -/
theorem sum_guest (a : Fin 16) (f : Fin 128 → EReal) (h : ∀ x : Fin 128, x.val / 8 ≠ a.val → f x = 0) : ∑ x, f x = ∑ s, f (ln a s) := by
  rw [sum_ln, Finset.sum_eq_single a]
  · intro b _ hb
    refine Finset.sum_eq_zero fun s _ => h _ ?_
    simp only [ln]
    intro e
    exact hb (Fin.ext (by omega))
  · intro h
    exact absurd (Finset.mem_univ a) h

/-- A lane of guest `a` is a lane of guest `a`. -/
theorem ln_div (a : Fin 16) (s : Fin 8) : (ln a s).val / 8 = a.val := by
  simp only [ln]
  omega
theorem ln_mod (a : Fin 16) (s : Fin 8) : (ln a s).val % 8 = s.val := by
  simp only [ln]
  omega

/-- A masked sum keeps one guest's lanes. -/
theorem mask_sum (a : Fin 16) (f : Fin 128 → EReal) :
    ∑ x : Fin 128, Scalar.select (IntOp.cmpi .eq (IntOp.shrsi ArithUnit.vector (BitVec.ofNat 32 x.val) 3#32) (BitVec.ofNat 32 a.val)) (f x) 0 = ∑ s, f (ln a s) := by
  rw [sum_guest a]
  · refine Finset.sum_congr rfl fun s _ => ?_
    rw [guest_cmp, if_pos (ln_div a s)]
    rfl
  · intro x hx
    rw [guest_cmp, if_neg hx]
    rfl

/-- The same with a mask of ones and zeros as second factor. -/
theorem ones_sum (g : Fin 128) (a : Fin 16) (hg : g.val = a.val) (f : Fin 128 → EReal) :
    ∑ x : Fin 128, f x * Scalar.select (IntOp.cmpi .eq (BitVec.ofNat 32 g.val) (IntOp.shrsi ArithUnit.vector (BitVec.ofNat 32 x.val) 3#32)) 1 0 =
      ∑ s, f (ln a s) := by
  rw [sum_guest a]
  · refine Finset.sum_congr rfl fun s _ => ?_
    rw [guest_cmp', if_pos (by rw [ln_div, hg])]
    exact mul_one _
  · intro x hx
    rw [guest_cmp', if_neg (by rw [hg]; exact hx)]
    exact mul_zero _

/-- A lane's neighbour at distance `1`, `2` or `4` inside its guest. -/
def nb1 (l : Fin 128) : Fin 128 := if l.val % 2 = 0 then ⟨(l.val + 1) % 128, by omega⟩ else ⟨(l.val + 127) % 128, by omega⟩
def nb2 (l : Fin 128) : Fin 128 := if l.val / 2 % 2 = 0 then ⟨(l.val + 2) % 128, by omega⟩ else ⟨(l.val + 126) % 128, by omega⟩
def nb4 (l : Fin 128) : Fin 128 := if l.val / 4 % 2 = 0 then ⟨(l.val + 4) % 128, by omega⟩ else ⟨(l.val + 124) % 128, by omega⟩

/-- The program's parity tests. -/
theorem bit1 : ∀ l : Fin 128, IntOp.cmpi .eq (IntOp.andi (BitVec.ofNat 32 l.val) 1#32) 0#32 = if l.val % 2 = 0 then 1#1 else 0#1 := by decide +kernel
theorem bit2 : ∀ l : Fin 128, IntOp.cmpi .eq (IntOp.andi (BitVec.ofNat 32 l.val) 2#32) 0#32 = if l.val / 2 % 2 = 0 then 1#1 else 0#1 := by decide +kernel
theorem bit4 : ∀ l : Fin 128, IntOp.cmpi .eq (IntOp.andi (BitVec.ofNat 32 l.val) 4#32) 0#32 = if l.val / 4 % 2 = 0 then 1#1 else 0#1 := by decide +kernel

/-- One stage of the group maximum: a lane against its neighbour at distance `k`. -/
def stage (k k' : BitVec 32) (x : FVec Ideal S1x128 .f32) : FVec Ideal S1x128 .f32 :=
  maximumf x (select (cmpi .eq (andi (iota .tc S1x128 32 [1] iota_S1x128_d1_w32) (broadcast S1x128 k)) (broadcast S1x128 0#32))
    (dynamicRotate 1 k' none x rotates_S1x128_d1) (dynamicRotate 1 k none x rotates_S1x128_d1))

theorem stage1_at (x : FVec Ideal S1x128 .f32) (l : Fin 128) : stage 1#32 127#32 x (ix2 0 l) = max (x (ix2 0 l)) (x (ix2 0 (nb1 l))) := by
  pointwise [stage]
  rw [bit1]
  congr 1
  by_cases h : l.val % 2 = 0
  · rw [if_pos h]
    show x _ = _
    refine congrArg (fun z : Fin 128 => x (ix2 0 z)) (Fin.ext ?_)
    rw [nb1, if_pos h]
    show (l.val + 128 - 127) % 128 = (l.val + 1) % 128
    omega
  · rw [if_neg h]
    show x _ = _
    refine congrArg (fun z : Fin 128 => x (ix2 0 z)) (Fin.ext ?_)
    rw [nb1, if_neg h]
    show (l.val + 128 - 1) % 128 = (l.val + 127) % 128
    omega
theorem stage2_at (x : FVec Ideal S1x128 .f32) (l : Fin 128) : stage 2#32 126#32 x (ix2 0 l) = max (x (ix2 0 l)) (x (ix2 0 (nb2 l))) := by
  pointwise [stage]
  rw [bit2]
  congr 1
  by_cases h : l.val / 2 % 2 = 0
  · rw [if_pos h]
    show x _ = _
    refine congrArg (fun z : Fin 128 => x (ix2 0 z)) (Fin.ext ?_)
    rw [nb2, if_pos h]
    show (l.val + 128 - 126) % 128 = (l.val + 2) % 128
    omega
  · rw [if_neg h]
    show x _ = _
    refine congrArg (fun z : Fin 128 => x (ix2 0 z)) (Fin.ext ?_)
    rw [nb2, if_neg h]
    show (l.val + 128 - 2) % 128 = (l.val + 126) % 128
    omega
theorem stage4_at (x : FVec Ideal S1x128 .f32) (l : Fin 128) : stage 4#32 124#32 x (ix2 0 l) = max (x (ix2 0 l)) (x (ix2 0 (nb4 l))) := by
  pointwise [stage]
  rw [bit4]
  congr 1
  by_cases h : l.val / 4 % 2 = 0
  · rw [if_pos h]
    show x _ = _
    refine congrArg (fun z : Fin 128 => x (ix2 0 z)) (Fin.ext ?_)
    rw [nb4, if_pos h]
    show (l.val + 128 - 124) % 128 = (l.val + 4) % 128
    omega
  · rw [if_neg h]
    show x _ = _
    refine congrArg (fun z : Fin 128 => x (ix2 0 z)) (Fin.ext ?_)
    rw [nb4, if_neg h]
    show (l.val + 128 - 4) % 128 = (l.val + 124) % 128
    omega

/-- The eight lanes the three stages reach from a lane. -/
def reach (l : Fin 128) : Fin 8 → Fin 128 := ![l, nb1 l, nb2 l, nb1 (nb2 l), nb4 l, nb1 (nb4 l), nb2 (nb4 l), nb1 (nb2 (nb4 l))]

/-- They are lanes of the same guest, -/
theorem reach_in : ∀ (l : Fin 128) (j : Fin 8), (reach l j).val = 8 * (l.val / 8) + (reach l j).val % 8 := by decide +kernel

/-- and all of them. -/
theorem reach_all : ∀ (l : Fin 128) (s : Fin 8), ∃ j : Fin 8, (reach l j).val = 8 * (l.val / 8) + s.val := by decide +kernel

/-- The three stages take the maximum over a guest's lanes. -/
theorem stages_at (x : FVec Ideal S1x128 .f32) (a : Fin 16) (s : Fin 8) :
    stage 4#32 124#32 (stage 2#32 126#32 (stage 1#32 127#32 x)) (ix2 0 (ln a s)) = Finset.univ.sup fun r => x (ix2 0 (ln a r)) := by
  rw [stage4_at, stage2_at, stage2_at, stage1_at, stage1_at, stage1_at, stage1_at]
  have e : max (max (max (x (ix2 0 (ln a s))) (x (ix2 0 (nb1 (ln a s))))) (max (x (ix2 0 (nb2 (ln a s)))) (x (ix2 0 (nb1 (nb2 (ln a s)))))))
      (max (max (x (ix2 0 (nb4 (ln a s)))) (x (ix2 0 (nb1 (nb4 (ln a s)))))) (max (x (ix2 0 (nb2 (nb4 (ln a s))))) (x (ix2 0 (nb1 (nb2 (nb4 (ln a s)))))))) =
      Finset.univ.sup fun j : Fin 8 => x (ix2 0 (reach (ln a s) j)) := by
    rw [sup_eight]
    simp only [max_assoc]
    rfl
  rw [e]
  refine le_antisymm (Finset.sup_le fun j _ => ?_) (Finset.sup_le fun r _ => ?_)
  · have h := reach_in (ln a s) j
    rw [ln_div] at h
    refine le_trans (le_of_eq (congrArg (fun z : Fin 128 => x (ix2 0 z)) ?_)) (Finset.le_sup (f := fun r => x (ix2 0 (ln a r))) (Finset.mem_univ ⟨(reach (ln a s) j).val % 8, by omega⟩))
    exact Fin.ext h
  · obtain ⟨j, h⟩ := reach_all (ln a s) r
    rw [ln_div] at h
    refine le_trans (le_of_eq (congrArg (fun z : Fin 128 => x (ix2 0 z)) ?_)) (Finset.le_sup (f := fun j => x (ix2 0 (reach (ln a s) j))) (Finset.mem_univ j))
    exact Fin.ext h.symm

/-- The running maximum of the chunk's end, stage by stage. -/
theorem pay21_stage (v10 v11 v12 v18 : FVec Ideal S1x128 .f32) :
    k0_pay21 v10 v11 v12 v18 = maximumf (addf (k0_pay20 v11 v12) v18) (stage 4#32 124#32 (stage 2#32 126#32 (stage 1#32 127#32 (k0_pay19 v10 v12)))) := rfl

/-- What the row tables hold, lane by lane: log input gates, running sums of the log forget gates, what is left of them
to the chunk's end, and the carried maximum. -/
structure Rows (B IG : Fin 16 → Fin 8 → EReal) (MM : Fin 16 → EReal) (g : FVec Ideal S1x8x128 .f32) (mr : FVec Ideal S1x1x128 .f32) : Prop where
  ig : ∀ a s, g (ix3 0 0 (ln a s)) = IG a s
  b : ∀ a s, g (ix3 0 1 (ln a s)) = B a s
  rest : ∀ a s, g (ix3 0 2 (ln a s)) = B a 7 - B a s
  m : ∀ a s, mr (ix3 0 0 (ln a s)) = MM a
  tot : ∀ a s, B a s + (B a 7 - B a s) = B a 7

/-- What the column tables hold, lane by lane: running sums, running maxima of the causal log weights, and the carried
maximum, each repeated along a row. -/
structure Cols (B IG : Fin 16 → Fin 8 → EReal) (MM : Fin 16 → EReal) (gc : FVec Ideal S1x2x128x128 .f32) (mc : FVec Ideal S1x128x128 .f32) : Prop where
  b : ∀ a s k, gc (ix4 0 0 (ln a s) k) = B a s
  mi : ∀ a s k, gc (ix4 0 1 (ln a s) k) = Finset.univ.sup (lw (B a) (IG a) s)
  m : ∀ a s k, mc (ix3 0 (ln a s) k) = MM a

variable {B IG : Fin 16 → Fin 8 → EReal} {MM : Fin 16 → EReal} {g : FVec Ideal S1x8x128 .f32} {mr : FVec Ideal S1x1x128 .f32}

theorem pay5_at (l : Fin 128) : k0_pay5 (F := Ideal) g (ix2 0 l) = g (ix3 0 0 l) := by pointwise [k0_pay5, k0_pay3]
theorem pay6_at (l : Fin 128) : k0_pay6 (F := Ideal) g (ix2 0 l) = g (ix3 0 1 l) := by pointwise [k0_pay6, k0_pay3]
theorem pay7_at (l : Fin 128) : k0_pay7 (F := Ideal) g (ix2 0 l) = g (ix3 0 2 l) := by pointwise [k0_pay7, k0_pay3]
theorem pay10_at (l : Fin 128) : k0_pay10 (F := Ideal) mr (ix2 0 l) = mr (ix3 0 0 l) := by pointwise [k0_pay10]

/-- The running maximum at the chunk's end. -/
theorem m_lane (R : Rows B IG MM g mr) (a : Fin 16) (s : Fin 8) :
    k0_pay21 (F := Ideal) (k0_pay5 (F := Ideal) g) (k0_pay6 (F := Ideal) g) (k0_pay7 (F := Ideal) g) (k0_pay10 (F := Ideal) mr) (ix2 0 (ln a s)) = mt (B a) (IG a) (MM a) 7 := by
  rw [pay21_stage]
  show max ((k0_pay6 (F := Ideal) g (ix2 0 (ln a s)) + k0_pay7 (F := Ideal) g (ix2 0 (ln a s))) + k0_pay10 (F := Ideal) mr (ix2 0 (ln a s))) (stage 4#32 124#32 _ (ix2 0 (ln a s))) = _
  rw [stages_at, mt_last, pay6_at, pay7_at, pay10_at, R.b, R.rest, R.m, R.tot]
  congr 2
  funext r
  show k0_pay7 (F := Ideal) g (ix2 0 (ln a r)) + k0_pay5 (F := Ideal) g (ix2 0 (ln a r)) = _
  rw [pay7_at, pay5_at, R.rest, R.ig]

/-- The decay of the carried state. -/
theorem d_lane (R : Rows B IG MM g mr) (a : Fin 16) (s : Fin 8) :
    k0_pay22 (F := Ideal) (k0_pay5 (F := Ideal) g) (k0_pay6 (F := Ideal) g) (k0_pay7 (F := Ideal) g) (k0_pay10 (F := Ideal) mr) (ix2 0 (ln a s)) = dec (B a) (IG a) (MM a) := by
  show Ideal.exp (((k0_pay6 (F := Ideal) g (ix2 0 (ln a s)) + k0_pay7 (F := Ideal) g (ix2 0 (ln a s))) + k0_pay10 (F := Ideal) mr (ix2 0 (ln a s))) -
    k0_pay21 (F := Ideal) (k0_pay5 (F := Ideal) g) (k0_pay6 (F := Ideal) g) (k0_pay7 (F := Ideal) g) (k0_pay10 (F := Ideal) mr) (ix2 0 (ln a s))) = _
  rw [m_lane R, pay6_at, pay7_at, pay10_at, R.b, R.rest, R.m, R.tot]
  rfl

/-- A token's weighted key. -/
theorem k_lane (R : Rows B IG MM g mr) (kt : FVec Ideal S256x128 .bf16) (d : Fin 256) (a : Fin 16) (s : Fin 8) :
    k0_pay25 (F := Ideal) (k0_pay23 (F := Ideal) kt) (k0_pay24 (k0_pay5 (F := Ideal) g) (k0_pay6 (F := Ideal) g) (k0_pay7 (F := Ideal) g) (k0_pay10 (F := Ideal) mr)) (ix2 d (ln a s)) = wk (B a) (IG a) (MM a) s * kt (ix2 d (ln a s)) := by
  have e : k0_pay24 (k0_pay5 (F := Ideal) g) (k0_pay6 (F := Ideal) g) (k0_pay7 (F := Ideal) g) (k0_pay10 (F := Ideal) mr) (ix2 d (ln a s)) =
      Ideal.exp (k0_pay7 (F := Ideal) g (ix2 0 (ln a s)) + k0_pay5 (F := Ideal) g (ix2 0 (ln a s)) - k0_pay21 (k0_pay5 (F := Ideal) g) (k0_pay6 (F := Ideal) g) (k0_pay7 (F := Ideal) g) (k0_pay10 (F := Ideal) mr) (ix2 0 (ln a s))) := by
    generalize k0_pay5 (F := Ideal) g = v10
    generalize k0_pay6 (F := Ideal) g = v11
    generalize k0_pay7 (F := Ideal) g = v12
    generalize k0_pay10 (F := Ideal) mr = v18
    pointwise [k0_pay24, k0_pay19]
  show kt (ix2 d (ln a s)) * _ = _
  rw [e, m_lane R, pay7_at, pay5_at, R.rest, R.ig, mul_comm]
  rfl

end Cert.Mlstm
end
-- ==== Proof.MlstmPiece.lean ====
module

public import proofs.«01_k».proof.Proof.Gen.KernelIdeal.Frame
public import proofs.«01_k».proof.Proof.MlstmPoint
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The sixteen guests' pieces: what each adds to the results, and its new state. -/

namespace Cert.Mlstm

open Cert.KernelIdeal Cert.KernelIdeal.Gen

section pieces

variable (Q : FVec Ideal S128x256 .bf16) (NN : FVec Ideal S16x256 .f32) (X : FVec Ideal S1x1x256x256 .f32)
  (V : FVec Ideal S128x256 .bf16) (KW : FVec Ideal S256x128 .bf16) (D : FVec Ideal S1x128 .f32)

/-- The carried normalizer as columns: guest `g`'s in column `g`. -/
theorem n_col (d : Fin 256) (g : Fin 16) : k0_pay29 NN (ix2 d ⟨g, by omega⟩) = NN (ix2 g d) := by
  pointwise [k0_pay29]
  by_cases h : d.val < 128
  · rw [dif_pos h]
  · rw [dif_neg h]
    refine congrArg (fun z : Fin 256 => NN (ix2 g z)) (Fin.ext ?_)
    show 128 + (d.val - 128) = d.val
    omega

theorem ln_zero (r : Fin 8) : ln 0 r = ⟨r.val, by omega⟩ := Fin.ext (by simp [ln])

/-- Guest 0's queries against its carried state. -/
theorem z0_lo (r : Fin 8) (e : Fin 256) : (k0_pay34 Q NN X : FVec Ideal S8x384 .f32) (ix2 r ⟨e, by omega⟩) = ∑ x : Fin 256, Q (ix2 (ln 0 r) x) * X (ix4 0 0 x e) := by
  simp only [ln_zero]
  pointwise [k0_pay34, k0_pay33, k0_pay30]
theorem z0_hi (r : Fin 8) (g : Fin 128) : (k0_pay34 Q NN X : FVec Ideal S8x384 .f32) (ix2 r ⟨256 + g, by omega⟩) =
    ∑ x : Fin 256, Q (ix2 (ln 0 r) x) * Scalar.select (IntOp.cmpi .eq (BitVec.ofNat 32 g.val) 0#32) (k0_pay29 (F := Ideal) NN (ix2 x g) : EReal) 0 := by
  simp only [ln_zero]
  pointwise [k0_pay34, k0_pay33, k0_pay30]
/-- Guest 0's new matrix state. -/
theorem c0_at (d e : Fin 256) : (k0_pay37 V KW (k0_pay31 D) (k0_pay33 X) k0_pay35 k0_pay36 : FVec Ideal S1x1x256x256 .f32) (ix4 0 0 d e) =
    D (ix2 0 (ln 0 0)) * X (ix4 0 0 d e) + ∑ s : Fin 8, KW (ix2 d (ln 0 s)) * V (ix2 (ln 0 s) e) := by
  pointwise [k0_pay37, k0_pay31, k0_pay33, k0_pay35, k0_pay36]
  refine congrArg₂ (· + ·) rfl (mask_sum 0 (fun x => KW (ix2 d x) * V (ix2 x e)))
/-- Guest 1's queries against its carried state. -/
theorem z1_lo (r : Fin 8) (e : Fin 256) : (k0_pay41 (k0_pay29 NN) (iota .tc S256x128 32 [1] iota_S256x128_d1_w32) (k0_pay30 Q) X : FVec Ideal S8x384 .f32) (ix2 r ⟨e, by omega⟩) = ∑ x : Fin 256, Q (ix2 (ln 1 r) x) * X (ix4 0 0 x e) := by
  pointwise [k0_pay41, k0_pay30, k0_pay40]
  refine Finset.sum_congr rfl fun x _ => ?_
  rfl
theorem z1_hi (r : Fin 8) (g : Fin 128) : (k0_pay41 (k0_pay29 NN) (iota .tc S256x128 32 [1] iota_S256x128_d1_w32) (k0_pay30 Q) X : FVec Ideal S8x384 .f32) (ix2 r ⟨256 + g, by omega⟩) =
    ∑ x : Fin 256, Q (ix2 (ln 1 r) x) * Scalar.select (IntOp.cmpi .eq (BitVec.ofNat 32 g.val) 1#32) (k0_pay29 (F := Ideal) NN (ix2 x g) : EReal) 0 := by
  pointwise [k0_pay41, k0_pay30, k0_pay40]
  refine Finset.sum_congr rfl fun x _ => ?_
  rfl
/-- Guest 1's new matrix state. -/
theorem c1_at (d e : Fin 256) : (k0_pay43 (k0_pay42 V D KW (iota .tc S256x128 32 [1] iota_S256x128_d1_w32) X) : FVec Ideal S1x1x256x256 .f32) (ix4 0 0 d e) =
    D (ix2 0 (ln 1 0)) * X (ix4 0 0 d e) + ∑ s : Fin 8, KW (ix2 d (ln 1 s)) * V (ix2 (ln 1 s) e) := by
  pointwise [k0_pay43, k0_pay42, k0_pay38, k0_pay40]
  refine congrArg₂ (· + ·) rfl (mask_sum 1 (fun x => KW (ix2 d x) * V (ix2 x e)))
/-- Guest 2's queries against its carried state. -/
theorem z2_lo (r : Fin 8) (e : Fin 256) : (k0_pay46 (k0_pay29 NN) (iota .tc S256x128 32 [1] iota_S256x128_d1_w32) (k0_pay30 Q) X : FVec Ideal S8x384 .f32) (ix2 r ⟨e, by omega⟩) = ∑ x : Fin 256, Q (ix2 (ln 2 r) x) * X (ix4 0 0 x e) := by
  pointwise [k0_pay46, k0_pay30, k0_pay45]
  refine Finset.sum_congr rfl fun x _ => ?_
  rfl
theorem z2_hi (r : Fin 8) (g : Fin 128) : (k0_pay46 (k0_pay29 NN) (iota .tc S256x128 32 [1] iota_S256x128_d1_w32) (k0_pay30 Q) X : FVec Ideal S8x384 .f32) (ix2 r ⟨256 + g, by omega⟩) =
    ∑ x : Fin 256, Q (ix2 (ln 2 r) x) * Scalar.select (IntOp.cmpi .eq (BitVec.ofNat 32 g.val) 2#32) (k0_pay29 (F := Ideal) NN (ix2 x g) : EReal) 0 := by
  pointwise [k0_pay46, k0_pay30, k0_pay45]
  refine Finset.sum_congr rfl fun x _ => ?_
  rfl
/-- Guest 2's new matrix state. -/
theorem c2_at (d e : Fin 256) : (k0_pay47 V D KW (iota .tc S256x128 32 [1] iota_S256x128_d1_w32) X : FVec Ideal S1x1x256x256 .f32) (ix4 0 0 d e) =
    D (ix2 0 (ln 2 0)) * X (ix4 0 0 d e) + ∑ s : Fin 8, KW (ix2 d (ln 2 s)) * V (ix2 (ln 2 s) e) := by
  pointwise [k0_pay47, k0_pay44, k0_pay45]
  refine congrArg₂ (· + ·) rfl (mask_sum 2 (fun x => KW (ix2 d x) * V (ix2 x e)))
/-- Guest 3's queries against its carried state. -/
theorem z3_lo (r : Fin 8) (e : Fin 256) : (k0_pay51 (k0_pay29 NN) (iota .tc S256x128 32 [1] iota_S256x128_d1_w32) (k0_pay30 Q) X : FVec Ideal S8x384 .f32) (ix2 r ⟨e, by omega⟩) = ∑ x : Fin 256, Q (ix2 (ln 3 r) x) * X (ix4 0 0 x e) := by
  pointwise [k0_pay51, k0_pay30, k0_pay50]
  refine Finset.sum_congr rfl fun x _ => ?_
  rfl
theorem z3_hi (r : Fin 8) (g : Fin 128) : (k0_pay51 (k0_pay29 NN) (iota .tc S256x128 32 [1] iota_S256x128_d1_w32) (k0_pay30 Q) X : FVec Ideal S8x384 .f32) (ix2 r ⟨256 + g, by omega⟩) =
    ∑ x : Fin 256, Q (ix2 (ln 3 r) x) * Scalar.select (IntOp.cmpi .eq (BitVec.ofNat 32 g.val) 3#32) (k0_pay29 (F := Ideal) NN (ix2 x g) : EReal) 0 := by
  pointwise [k0_pay51, k0_pay30, k0_pay50]
  refine Finset.sum_congr rfl fun x _ => ?_
  rfl
/-- Guest 3's new matrix state. -/
theorem c3_at (d e : Fin 256) : (k0_pay52 V KW (iota .tc S256x128 32 [1] iota_S256x128_d1_w32) (k0_pay48 D) X : FVec Ideal S1x1x256x256 .f32) (ix4 0 0 d e) =
    D (ix2 0 (ln 3 0)) * X (ix4 0 0 d e) + ∑ s : Fin 8, KW (ix2 d (ln 3 s)) * V (ix2 (ln 3 s) e) := by
  pointwise [k0_pay52, k0_pay48, k0_pay50]
  refine congrArg₂ (· + ·) rfl (mask_sum 3 (fun x => KW (ix2 d x) * V (ix2 x e)))
/-- Guest 4's queries against its carried state. -/
theorem z4_lo (r : Fin 8) (e : Fin 256) : (k0_pay58 (k0_pay56 (k0_pay29 NN) (iota .tc S256x128 32 [1] iota_S256x128_d1_w32) X) (k0_pay57 (k0_pay30 Q)) : FVec Ideal S8x384 .f32) (ix2 r ⟨e, by omega⟩) = ∑ x : Fin 256, Q (ix2 (ln 4 r) x) * X (ix4 0 0 x e) := by
  pointwise [k0_pay58, k0_pay56, k0_pay57, k0_pay30, k0_pay55]
  refine Finset.sum_congr rfl fun x _ => ?_
  rfl
theorem z4_hi (r : Fin 8) (g : Fin 128) : (k0_pay58 (k0_pay56 (k0_pay29 NN) (iota .tc S256x128 32 [1] iota_S256x128_d1_w32) X) (k0_pay57 (k0_pay30 Q)) : FVec Ideal S8x384 .f32) (ix2 r ⟨256 + g, by omega⟩) =
    ∑ x : Fin 256, Q (ix2 (ln 4 r) x) * Scalar.select (IntOp.cmpi .eq (BitVec.ofNat 32 g.val) 4#32) (k0_pay29 (F := Ideal) NN (ix2 x g) : EReal) 0 := by
  pointwise [k0_pay58, k0_pay56, k0_pay57, k0_pay30, k0_pay55]
  refine Finset.sum_congr rfl fun x _ => ?_
  rfl
/-- Guest 4's new matrix state. -/
theorem c4_at (d e : Fin 256) : (k0_pay59 V KW (iota .tc S256x128 32 [1] iota_S256x128_d1_w32) (k0_pay53 D) (k0_pay55 X) : FVec Ideal S1x1x256x256 .f32) (ix4 0 0 d e) =
    D (ix2 0 (ln 4 0)) * X (ix4 0 0 d e) + ∑ s : Fin 8, KW (ix2 d (ln 4 s)) * V (ix2 (ln 4 s) e) := by
  pointwise [k0_pay59, k0_pay53, k0_pay55]
  refine congrArg₂ (· + ·) rfl (mask_sum 4 (fun x => KW (ix2 d x) * V (ix2 x e)))
/-- Guest 5's queries against its carried state. -/
theorem z5_lo (r : Fin 8) (e : Fin 256) : (k0_pay63 (k0_pay29 NN) (iota .tc S256x128 32 [1] iota_S256x128_d1_w32) (k0_pay30 Q) X : FVec Ideal S8x384 .f32) (ix2 r ⟨e, by omega⟩) = ∑ x : Fin 256, Q (ix2 (ln 5 r) x) * X (ix4 0 0 x e) := by
  pointwise [k0_pay63, k0_pay30, k0_pay62]
  refine Finset.sum_congr rfl fun x _ => ?_
  rfl
theorem z5_hi (r : Fin 8) (g : Fin 128) : (k0_pay63 (k0_pay29 NN) (iota .tc S256x128 32 [1] iota_S256x128_d1_w32) (k0_pay30 Q) X : FVec Ideal S8x384 .f32) (ix2 r ⟨256 + g, by omega⟩) =
    ∑ x : Fin 256, Q (ix2 (ln 5 r) x) * Scalar.select (IntOp.cmpi .eq (BitVec.ofNat 32 g.val) 5#32) (k0_pay29 (F := Ideal) NN (ix2 x g) : EReal) 0 := by
  pointwise [k0_pay63, k0_pay30, k0_pay62]
  refine Finset.sum_congr rfl fun x _ => ?_
  rfl
/-- Guest 5's new matrix state. -/
theorem c5_at (d e : Fin 256) : (k0_pay66 V (k0_pay62 X) (k0_pay64 KW (iota .tc S256x128 32 [1] iota_S256x128_d1_w32)) (k0_pay65 D) : FVec Ideal S1x1x256x256 .f32) (ix4 0 0 d e) =
    D (ix2 0 (ln 5 0)) * X (ix4 0 0 d e) + ∑ s : Fin 8, KW (ix2 d (ln 5 s)) * V (ix2 (ln 5 s) e) := by
  pointwise [k0_pay66, k0_pay62, k0_pay64, k0_pay65, k0_pay60]
  refine congrArg₂ (· + ·) rfl (mask_sum 5 (fun x => KW (ix2 d x) * V (ix2 x e)))
/-- Guest 6's queries against its carried state. -/
theorem z6_lo (r : Fin 8) (e : Fin 256) : (k0_pay70 (k0_pay29 NN) (iota .tc S256x128 32 [1] iota_S256x128_d1_w32) (k0_pay30 Q) X : FVec Ideal S8x384 .f32) (ix2 r ⟨e, by omega⟩) = ∑ x : Fin 256, Q (ix2 (ln 6 r) x) * X (ix4 0 0 x e) := by
  pointwise [k0_pay70, k0_pay30, k0_pay69]
  refine Finset.sum_congr rfl fun x _ => ?_
  rfl
theorem z6_hi (r : Fin 8) (g : Fin 128) : (k0_pay70 (k0_pay29 NN) (iota .tc S256x128 32 [1] iota_S256x128_d1_w32) (k0_pay30 Q) X : FVec Ideal S8x384 .f32) (ix2 r ⟨256 + g, by omega⟩) =
    ∑ x : Fin 256, Q (ix2 (ln 6 r) x) * Scalar.select (IntOp.cmpi .eq (BitVec.ofNat 32 g.val) 6#32) (k0_pay29 (F := Ideal) NN (ix2 x g) : EReal) 0 := by
  pointwise [k0_pay70, k0_pay30, k0_pay69]
  refine Finset.sum_congr rfl fun x _ => ?_
  rfl
/-- Guest 6's new matrix state. -/
theorem c6_at (d e : Fin 256) : (k0_pay71 V D KW (iota .tc S256x128 32 [1] iota_S256x128_d1_w32) X : FVec Ideal S1x1x256x256 .f32) (ix4 0 0 d e) =
    D (ix2 0 (ln 6 0)) * X (ix4 0 0 d e) + ∑ s : Fin 8, KW (ix2 d (ln 6 s)) * V (ix2 (ln 6 s) e) := by
  pointwise [k0_pay71, k0_pay67, k0_pay69]
  refine congrArg₂ (· + ·) rfl (mask_sum 6 (fun x => KW (ix2 d x) * V (ix2 x e)))
/-- Guest 7's queries against its carried state. -/
theorem z7_lo (r : Fin 8) (e : Fin 256) : (k0_pay74 (k0_pay29 NN) (iota .tc S256x128 32 [1] iota_S256x128_d1_w32) (k0_pay30 Q) X : FVec Ideal S8x384 .f32) (ix2 r ⟨e, by omega⟩) = ∑ x : Fin 256, Q (ix2 (ln 7 r) x) * X (ix4 0 0 x e) := by
  pointwise [k0_pay74, k0_pay30, k0_pay73]
  refine Finset.sum_congr rfl fun x _ => ?_
  rfl
theorem z7_hi (r : Fin 8) (g : Fin 128) : (k0_pay74 (k0_pay29 NN) (iota .tc S256x128 32 [1] iota_S256x128_d1_w32) (k0_pay30 Q) X : FVec Ideal S8x384 .f32) (ix2 r ⟨256 + g, by omega⟩) =
    ∑ x : Fin 256, Q (ix2 (ln 7 r) x) * Scalar.select (IntOp.cmpi .eq (BitVec.ofNat 32 g.val) 7#32) (k0_pay29 (F := Ideal) NN (ix2 x g) : EReal) 0 := by
  pointwise [k0_pay74, k0_pay30, k0_pay73]
  refine Finset.sum_congr rfl fun x _ => ?_
  rfl
/-- Guest 7's new matrix state. -/
theorem c7_at (d e : Fin 256) : (k0_pay75 V KW (iota .tc S256x128 32 [1] iota_S256x128_d1_w32) (k0_pay72 D) X : FVec Ideal S1x1x256x256 .f32) (ix4 0 0 d e) =
    D (ix2 0 (ln 7 0)) * X (ix4 0 0 d e) + ∑ s : Fin 8, KW (ix2 d (ln 7 s)) * V (ix2 (ln 7 s) e) := by
  pointwise [k0_pay75, k0_pay72, k0_pay73]
  refine congrArg₂ (· + ·) rfl (mask_sum 7 (fun x => KW (ix2 d x) * V (ix2 x e)))
/-- Guest 8's queries against its carried state. -/
theorem z8_lo (r : Fin 8) (e : Fin 256) : (k0_pay79 (k0_pay29 NN) (iota .tc S256x128 32 [1] iota_S256x128_d1_w32) (k0_pay30 Q) (k0_pay78 X) 8#32 : FVec Ideal S8x384 .f32) (ix2 r ⟨e, by omega⟩) = ∑ x : Fin 256, Q (ix2 (ln 8 r) x) * X (ix4 0 0 x e) := by
  pointwise [k0_pay79, k0_pay30, k0_pay78]
  refine Finset.sum_congr rfl fun x _ => ?_
  rfl
theorem z8_hi (r : Fin 8) (g : Fin 128) : (k0_pay79 (k0_pay29 NN) (iota .tc S256x128 32 [1] iota_S256x128_d1_w32) (k0_pay30 Q) (k0_pay78 X) 8#32 : FVec Ideal S8x384 .f32) (ix2 r ⟨256 + g, by omega⟩) =
    ∑ x : Fin 256, Q (ix2 (ln 8 r) x) * Scalar.select (IntOp.cmpi .eq (BitVec.ofNat 32 g.val) 8#32) (k0_pay29 (F := Ideal) NN (ix2 x g) : EReal) 0 := by
  pointwise [k0_pay79, k0_pay30, k0_pay78]
  refine Finset.sum_congr rfl fun x _ => ?_
  rfl
/-- Guest 8's new matrix state. -/
theorem c8_at (d e : Fin 256) : (k0_pay80 V KW (iota .tc S256x128 32 [1] iota_S256x128_d1_w32) (k0_pay76 D) (k0_pay78 X) : FVec Ideal S1x1x256x256 .f32) (ix4 0 0 d e) =
    D (ix2 0 (ln 8 0)) * X (ix4 0 0 d e) + ∑ s : Fin 8, KW (ix2 d (ln 8 s)) * V (ix2 (ln 8 s) e) := by
  pointwise [k0_pay80, k0_pay76, k0_pay78]
  refine congrArg₂ (· + ·) rfl (mask_sum 8 (fun x => KW (ix2 d x) * V (ix2 x e)))
/-- Guest 9's queries against its carried state. -/
theorem z9_lo (r : Fin 8) (e : Fin 256) : (k0_pay84 (k0_pay29 NN) (iota .tc S256x128 32 [1] iota_S256x128_d1_w32) (k0_pay30 Q) X : FVec Ideal S8x384 .f32) (ix2 r ⟨e, by omega⟩) = ∑ x : Fin 256, Q (ix2 (ln 9 r) x) * X (ix4 0 0 x e) := by
  pointwise [k0_pay84, k0_pay30, k0_pay83]
  refine Finset.sum_congr rfl fun x _ => ?_
  rfl
theorem z9_hi (r : Fin 8) (g : Fin 128) : (k0_pay84 (k0_pay29 NN) (iota .tc S256x128 32 [1] iota_S256x128_d1_w32) (k0_pay30 Q) X : FVec Ideal S8x384 .f32) (ix2 r ⟨256 + g, by omega⟩) =
    ∑ x : Fin 256, Q (ix2 (ln 9 r) x) * Scalar.select (IntOp.cmpi .eq (BitVec.ofNat 32 g.val) 9#32) (k0_pay29 (F := Ideal) NN (ix2 x g) : EReal) 0 := by
  pointwise [k0_pay84, k0_pay30, k0_pay83]
  refine Finset.sum_congr rfl fun x _ => ?_
  rfl
/-- Guest 9's new matrix state. -/
theorem c9_at (d e : Fin 256) : (k0_pay86 V KW (iota .tc S256x128 32 [1] iota_S256x128_d1_w32) (k0_pay81 D) (k0_pay83 X) k0_pay85 : FVec Ideal S1x1x256x256 .f32) (ix4 0 0 d e) =
    D (ix2 0 (ln 9 0)) * X (ix4 0 0 d e) + ∑ s : Fin 8, KW (ix2 d (ln 9 s)) * V (ix2 (ln 9 s) e) := by
  pointwise [k0_pay86, k0_pay81, k0_pay83, k0_pay85]
  refine congrArg₂ (· + ·) rfl (mask_sum 9 (fun x => KW (ix2 d x) * V (ix2 x e)))
/-- Guest 10's queries against its carried state. -/
theorem z10_lo (r : Fin 8) (e : Fin 256) : (k0_pay90 (k0_pay29 NN) (iota .tc S256x128 32 [1] iota_S256x128_d1_w32) (k0_pay30 Q) X : FVec Ideal S8x384 .f32) (ix2 r ⟨e, by omega⟩) = ∑ x : Fin 256, Q (ix2 (ln 10 r) x) * X (ix4 0 0 x e) := by
  pointwise [k0_pay90, k0_pay30, k0_pay89]
  refine Finset.sum_congr rfl fun x _ => ?_
  rfl
theorem z10_hi (r : Fin 8) (g : Fin 128) : (k0_pay90 (k0_pay29 NN) (iota .tc S256x128 32 [1] iota_S256x128_d1_w32) (k0_pay30 Q) X : FVec Ideal S8x384 .f32) (ix2 r ⟨256 + g, by omega⟩) =
    ∑ x : Fin 256, Q (ix2 (ln 10 r) x) * Scalar.select (IntOp.cmpi .eq (BitVec.ofNat 32 g.val) 10#32) (k0_pay29 (F := Ideal) NN (ix2 x g) : EReal) 0 := by
  pointwise [k0_pay90, k0_pay30, k0_pay89]
  refine Finset.sum_congr rfl fun x _ => ?_
  rfl
/-- Guest 10's new matrix state. -/
theorem c10_at (d e : Fin 256) : (k0_pay92 (k0_pay91 V D KW (iota .tc S256x128 32 [1] iota_S256x128_d1_w32) X) : FVec Ideal S1x1x256x256 .f32) (ix4 0 0 d e) =
    D (ix2 0 (ln 10 0)) * X (ix4 0 0 d e) + ∑ s : Fin 8, KW (ix2 d (ln 10 s)) * V (ix2 (ln 10 s) e) := by
  pointwise [k0_pay92, k0_pay91, k0_pay87, k0_pay89]
  refine congrArg₂ (· + ·) rfl (mask_sum 10 (fun x => KW (ix2 d x) * V (ix2 x e)))
/-- Guest 11's queries against its carried state. -/
theorem z11_lo (r : Fin 8) (e : Fin 256) : (k0_pay96 (k0_pay29 NN) (iota .tc S256x128 32 [1] iota_S256x128_d1_w32) (k0_pay30 Q) X : FVec Ideal S8x384 .f32) (ix2 r ⟨e, by omega⟩) = ∑ x : Fin 256, Q (ix2 (ln 11 r) x) * X (ix4 0 0 x e) := by
  pointwise [k0_pay96, k0_pay30, k0_pay95]
  refine Finset.sum_congr rfl fun x _ => ?_
  rfl
theorem z11_hi (r : Fin 8) (g : Fin 128) : (k0_pay96 (k0_pay29 NN) (iota .tc S256x128 32 [1] iota_S256x128_d1_w32) (k0_pay30 Q) X : FVec Ideal S8x384 .f32) (ix2 r ⟨256 + g, by omega⟩) =
    ∑ x : Fin 256, Q (ix2 (ln 11 r) x) * Scalar.select (IntOp.cmpi .eq (BitVec.ofNat 32 g.val) 11#32) (k0_pay29 (F := Ideal) NN (ix2 x g) : EReal) 0 := by
  pointwise [k0_pay96, k0_pay30, k0_pay95]
  refine Finset.sum_congr rfl fun x _ => ?_
  rfl
/-- Guest 11's new matrix state. -/
theorem c11_at (d e : Fin 256) : (k0_pay97 V D KW (iota .tc S256x128 32 [1] iota_S256x128_d1_w32) X : FVec Ideal S1x1x256x256 .f32) (ix4 0 0 d e) =
    D (ix2 0 (ln 11 0)) * X (ix4 0 0 d e) + ∑ s : Fin 8, KW (ix2 d (ln 11 s)) * V (ix2 (ln 11 s) e) := by
  pointwise [k0_pay97, k0_pay93, k0_pay95]
  refine congrArg₂ (· + ·) rfl (mask_sum 11 (fun x => KW (ix2 d x) * V (ix2 x e)))
/-- Guest 12's queries against its carried state. -/
theorem z12_lo (r : Fin 8) (e : Fin 256) : (k0_pay102 (k0_pay29 NN) (iota .tc S256x128 32 [1] iota_S256x128_d1_w32) (k0_pay30 Q) X : FVec Ideal S8x384 .f32) (ix2 r ⟨e, by omega⟩) = ∑ x : Fin 256, Q (ix2 (ln 12 r) x) * X (ix4 0 0 x e) := by
  pointwise [k0_pay102, k0_pay30, k0_pay101]
  refine Finset.sum_congr rfl fun x _ => ?_
  rfl
theorem z12_hi (r : Fin 8) (g : Fin 128) : (k0_pay102 (k0_pay29 NN) (iota .tc S256x128 32 [1] iota_S256x128_d1_w32) (k0_pay30 Q) X : FVec Ideal S8x384 .f32) (ix2 r ⟨256 + g, by omega⟩) =
    ∑ x : Fin 256, Q (ix2 (ln 12 r) x) * Scalar.select (IntOp.cmpi .eq (BitVec.ofNat 32 g.val) 12#32) (k0_pay29 (F := Ideal) NN (ix2 x g) : EReal) 0 := by
  pointwise [k0_pay102, k0_pay30, k0_pay101]
  refine Finset.sum_congr rfl fun x _ => ?_
  rfl
/-- Guest 12's new matrix state. -/
theorem c12_at (d e : Fin 256) : (k0_pay103 V KW (iota .tc S256x128 32 [1] iota_S256x128_d1_w32) (k0_pay98 D) X : FVec Ideal S1x1x256x256 .f32) (ix4 0 0 d e) =
    D (ix2 0 (ln 12 0)) * X (ix4 0 0 d e) + ∑ s : Fin 8, KW (ix2 d (ln 12 s)) * V (ix2 (ln 12 s) e) := by
  pointwise [k0_pay103, k0_pay98, k0_pay101]
  refine congrArg₂ (· + ·) rfl (mask_sum 12 (fun x => KW (ix2 d x) * V (ix2 x e)))
/-- Guest 13's queries against its carried state. -/
theorem z13_lo (r : Fin 8) (e : Fin 256) : (k0_pay108 (k0_pay30 Q) (k0_pay106 X) (k0_pay107 (k0_pay29 NN) (iota .tc S256x128 32 [1] iota_S256x128_d1_w32)) : FVec Ideal S8x384 .f32) (ix2 r ⟨e, by omega⟩) = ∑ x : Fin 256, Q (ix2 (ln 13 r) x) * X (ix4 0 0 x e) := by
  pointwise [k0_pay108, k0_pay30, k0_pay106, k0_pay107]
  refine Finset.sum_congr rfl fun x _ => ?_
  rfl
theorem z13_hi (r : Fin 8) (g : Fin 128) : (k0_pay108 (k0_pay30 Q) (k0_pay106 X) (k0_pay107 (k0_pay29 NN) (iota .tc S256x128 32 [1] iota_S256x128_d1_w32)) : FVec Ideal S8x384 .f32) (ix2 r ⟨256 + g, by omega⟩) =
    ∑ x : Fin 256, Q (ix2 (ln 13 r) x) * Scalar.select (IntOp.cmpi .eq (BitVec.ofNat 32 g.val) 13#32) (k0_pay29 (F := Ideal) NN (ix2 x g) : EReal) 0 := by
  pointwise [k0_pay108, k0_pay30, k0_pay106, k0_pay107]
  refine Finset.sum_congr rfl fun x _ => ?_
  rfl
/-- Guest 13's new matrix state. -/
theorem c13_at (d e : Fin 256) : (k0_pay109 V KW (iota .tc S256x128 32 [1] iota_S256x128_d1_w32) (k0_pay104 D) (k0_pay106 X) : FVec Ideal S1x1x256x256 .f32) (ix4 0 0 d e) =
    D (ix2 0 (ln 13 0)) * X (ix4 0 0 d e) + ∑ s : Fin 8, KW (ix2 d (ln 13 s)) * V (ix2 (ln 13 s) e) := by
  pointwise [k0_pay109, k0_pay104, k0_pay106]
  refine congrArg₂ (· + ·) rfl (mask_sum 13 (fun x => KW (ix2 d x) * V (ix2 x e)))
/-- Guest 14's queries against its carried state. -/
theorem z14_lo (r : Fin 8) (e : Fin 256) : (k0_pay113 (k0_pay29 NN) (iota .tc S256x128 32 [1] iota_S256x128_d1_w32) (k0_pay30 Q) X : FVec Ideal S8x384 .f32) (ix2 r ⟨e, by omega⟩) = ∑ x : Fin 256, Q (ix2 (ln 14 r) x) * X (ix4 0 0 x e) := by
  pointwise [k0_pay113, k0_pay30, k0_pay112]
  refine Finset.sum_congr rfl fun x _ => ?_
  rfl
theorem z14_hi (r : Fin 8) (g : Fin 128) : (k0_pay113 (k0_pay29 NN) (iota .tc S256x128 32 [1] iota_S256x128_d1_w32) (k0_pay30 Q) X : FVec Ideal S8x384 .f32) (ix2 r ⟨256 + g, by omega⟩) =
    ∑ x : Fin 256, Q (ix2 (ln 14 r) x) * Scalar.select (IntOp.cmpi .eq (BitVec.ofNat 32 g.val) 14#32) (k0_pay29 (F := Ideal) NN (ix2 x g) : EReal) 0 := by
  pointwise [k0_pay113, k0_pay30, k0_pay112]
  refine Finset.sum_congr rfl fun x _ => ?_
  rfl
/-- Guest 14's new matrix state. -/
theorem c14_at (d e : Fin 256) : (k0_pay115 V KW (k0_pay110 D) (k0_pay112 X) (k0_pay114 (iota .tc S256x128 32 [1] iota_S256x128_d1_w32)) (FloatOps.ofBits (F := Ideal) FTy.bf16 0#16) : FVec Ideal S1x1x256x256 .f32) (ix4 0 0 d e) =
    D (ix2 0 (ln 14 0)) * X (ix4 0 0 d e) + ∑ s : Fin 8, KW (ix2 d (ln 14 s)) * V (ix2 (ln 14 s) e) := by
  pointwise [k0_pay115, k0_pay110, k0_pay112, k0_pay114]
  refine congrArg₂ (· + ·) rfl (mask_sum 14 (fun x => KW (ix2 d x) * V (ix2 x e)))
/-- Guest 15's queries against its carried state. -/
theorem z15_lo (r : Fin 8) (e : Fin 256) : (k0_pay119 (k0_pay29 NN) (iota .tc S256x128 32 [1] iota_S256x128_d1_w32) (k0_pay30 Q) X : FVec Ideal S8x384 .f32) (ix2 r ⟨e, by omega⟩) = ∑ x : Fin 256, Q (ix2 (ln 15 r) x) * X (ix4 0 0 x e) := by
  pointwise [k0_pay119, k0_pay30, k0_pay118]
  refine Finset.sum_congr rfl fun x _ => ?_
  rfl
theorem z15_hi (r : Fin 8) (g : Fin 128) : (k0_pay119 (k0_pay29 NN) (iota .tc S256x128 32 [1] iota_S256x128_d1_w32) (k0_pay30 Q) X : FVec Ideal S8x384 .f32) (ix2 r ⟨256 + g, by omega⟩) =
    ∑ x : Fin 256, Q (ix2 (ln 15 r) x) * Scalar.select (IntOp.cmpi .eq (BitVec.ofNat 32 g.val) 15#32) (k0_pay29 (F := Ideal) NN (ix2 x g) : EReal) 0 := by
  pointwise [k0_pay119, k0_pay30, k0_pay118]
  refine Finset.sum_congr rfl fun x _ => ?_
  rfl
/-- Guest 15's new matrix state. -/
theorem c15_at (d e : Fin 256) : (k0_pay121 (k0_pay120 V D KW (iota .tc S256x128 32 [1] iota_S256x128_d1_w32) X) : FVec Ideal S1x1x256x256 .f32) (ix4 0 0 d e) =
    D (ix2 0 (ln 15 0)) * X (ix4 0 0 d e) + ∑ s : Fin 8, KW (ix2 d (ln 15 s)) * V (ix2 (ln 15 s) e) := by
  pointwise [k0_pay121, k0_pay120, k0_pay116, k0_pay118]
  refine congrArg₂ (· + ·) rfl (mask_sum 15 (fun x => KW (ix2 d x) * V (ix2 x e)))

end pieces

end Cert.Mlstm
end
-- ==== Proof.MlstmScore.lean ====
module

public import proofs.«01_k».proof.Proof.Gen.KernelIdeal.Frame
public import proofs.«01_k».proof.Proof.MlstmPoint
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The chunk's results from the tables: the weighted scores, the normalizer, the head's result, the new normalizer. -/

namespace Cert.Mlstm

open Cert.KernelIdeal Cert.KernelIdeal.Gen

section scores

variable {B IG : Fin 16 → Fin 8 → EReal} {MM : Fin 16 → EReal} {g : FVec Ideal S1x8x128 .f32} {mr : FVec Ideal S1x1x128 .f32}
  {gc : FVec Ideal S1x2x128x128 .f32} {mc : FVec Ideal S1x128x128 .f32}

theorem pay8_at (l k : Fin 128) : k0_pay8 (F := Ideal) gc (ix2 l k) = gc (ix4 0 0 l k) := by pointwise [k0_pay8, k0_pay4]
theorem pay9_at (l k : Fin 128) : k0_pay9 (F := Ideal) mc (ix2 l k) = mc (ix3 0 l k) := by pointwise [k0_pay9]
theorem pay16_at (v9 : FVec Ideal S2x128x128 .f32) (v14 v16 : FVec Ideal S128x128 .f32) (l k : Fin 128) :
    k0_pay16 (F := Ideal) v9 v14 v16 (ix2 l k) = max (v14 (ix2 l k) + v16 (ix2 l k)) (v9 (ix3 1 l k)) := by pointwise [k0_pay16, k0_pay15]
theorem pay4_at (a : Fin 2) (l k : Fin 128) : k0_pay4 (F := Ideal) gc (ix3 a l k) = gc (ix4 0 a l k) := by pointwise [k0_pay4]

/-- A token's stabilizer, repeated along its row. -/
theorem mt_lane (K : Cols B IG MM gc mc) (a : Fin 16) (t : Fin 8) (k : Fin 128) :
    k0_pay16 (F := Ideal) (k0_pay4 gc) (k0_pay8 gc) (k0_pay9 mc) (ix2 (ln a t) k) = mt (B a) (IG a) (MM a) t := by
  rw [pay16_at, pay8_at, pay9_at, pay4_at, K.b, K.m, K.mi]
  rfl

/-- The carried state's weight for a token, repeated along its row. -/
theorem wi_lane (K : Cols B IG MM gc mc) (a : Fin 16) (t : Fin 8) (k : Fin 128) :
    k0_pay17 (F := Ideal) (k0_pay4 gc) (k0_pay8 gc) (k0_pay9 mc) (ix2 (ln a t) k) = wi (B a) (IG a) (MM a) t := by
  show Ideal.exp ((k0_pay8 (F := Ideal) gc (ix2 (ln a t) k) + k0_pay9 (F := Ideal) mc (ix2 (ln a t) k)) -
    k0_pay16 (F := Ideal) (k0_pay4 gc) (k0_pay8 gc) (k0_pay9 mc) (ix2 (ln a t) k)) = _
  rw [mt_lane K, pay8_at, pay9_at, K.b, K.m]
  rfl

/-- Two lanes are of one guest, -/
theorem same_cmp : ∀ l x : Fin 128, IntOp.cmpi .eq (IntOp.shrsi ArithUnit.vector (BitVec.ofNat 32 l.val) 3#32)
    (IntOp.shrsi ArithUnit.vector (BitVec.ofNat 32 x.val) 3#32) = if l.val / 8 = x.val / 8 then 1#1 else 0#1 := by decide +kernel
/-- and one not behind the other. -/
theorem le_cmp : ∀ l x : Fin 128, IntOp.cmpi .sle (BitVec.ofNat 32 x.val) (BitVec.ofNat 32 l.val) = if x.val ≤ l.val then 1#1 else 0#1 := by decide +kernel

theorem mask_at (l x : Fin 128) : k0_pay12 (ix2 l x) = IntOp.andi (if l.val / 8 = x.val / 8 then 1#1 else 0#1) (if x.val ≤ l.val then 1#1 else 0#1) := by
  rw [← same_cmp, ← le_cmp]
  pointwise [k0_pay12, k0_pay11]

theorem lw_at (l x : Fin 128) : k0_pay13 (F := Ideal) g gc (ix2 l x) = gc (ix4 0 0 l x) - g (ix3 0 1 x) + g (ix3 0 0 x) := by
  pointwise [k0_pay13, k0_pay8, k0_pay4, k0_pay6, k0_pay5, k0_pay3]

/-- The masked entries' constant is `-∞`. -/
theorem masked_at (l x : Fin 128) : k0_pay14 (F := Ideal) (ix2 l x) = ⊥ :=
  IdealRules.named_const.ideal_named_scalar _ _ _ _ rfl

/-- The masked log weights: those of a guest's own tokens, `-∞` elsewhere. -/
theorem lw_lane (R : Rows B IG MM g mr) (K : Cols B IG MM gc mc) (a a' : Fin 16) (t s : Fin 8) :
    select k0_pay12 (k0_pay13 (F := Ideal) g gc) (k0_pay14 (F := Ideal)) (ix2 (ln a t) (ln a' s)) = if a = a' then lw (B a) (IG a) t s else (⊥ : EReal) := by
  show Scalar.select (k0_pay12 (ix2 (ln a t) (ln a' s))) (k0_pay13 (F := Ideal) g gc (ix2 (ln a t) (ln a' s))) (k0_pay14 (F := Ideal) (ix2 (ln a t) (ln a' s))) = _
  rw [mask_at, lw_at, masked_at, K.b, R.b, R.ig, ln_div, ln_div]
  by_cases ha : a = a'
  · subst ha
    rw [if_pos rfl, if_pos rfl]
    unfold lw
    have e : ((ln a s).val ≤ (ln a t).val) ↔ s ≤ t := by
      simp only [ln, Fin.le_def]
      omega
    by_cases h : s ≤ t
    · rw [if_pos (e.2 h), if_pos h]
      rfl
    · rw [if_neg (fun h' => h (e.1 h')), if_neg h]
      rfl
  · rw [if_neg ha, if_neg (fun h => ha (Fin.ext h))]
    by_cases h : (ln a' s).val ≤ (ln a t).val
    · rw [if_pos h]
      rfl
    · rw [if_neg h]
      rfl

variable {Q V : FVec Ideal S128x256 .bf16} {kt : FVec Ideal S256x128 .bf16}

/-- The block's weighted scores. -/
def scores (Q : FVec Ideal S128x256 .bf16) (kt : FVec Ideal S256x128 .bf16) (g : FVec Ideal S1x8x128 .f32) (gc : FVec Ideal S1x2x128x128 .f32)
    (mc : FVec Ideal S1x128x128 .f32) : FVec Ideal S128x128 .f32 :=
  k0_pay18 Q kt (k0_pay4 gc) (k0_pay8 gc) (k0_pay9 mc) k0_pay12 (k0_pay13 g gc) k0_pay14

/-- The rows of a block, guest by guest. -/
def rowsOf (Q : FVec Ideal S128x256 .bf16) (a : Fin 16) (t : Fin 8) (d : Fin 256) : EReal := Q (ix2 (ln a t) d)
def colsOf (kt : FVec Ideal S256x128 .bf16) (a : Fin 16) (s : Fin 8) (d : Fin 256) : EReal := kt (ix2 d (ln a s))

/-- The scores vanish between guests. -/
theorem scores_at (R : Rows B IG MM g mr) (K : Cols B IG MM gc mc) (a a' : Fin 16) (t s : Fin 8) :
    scores Q kt g gc mc (ix2 (ln a t) (ln a' s)) = if a = a' then sc (B a) (IG a) (MM a) (rowsOf Q a) (colsOf kt a) t s else 0 := by
  have e : scores Q kt g gc mc (ix2 (ln a t) (ln a' s)) = (∑ d, rowsOf Q a t d * colsOf kt a' s d) *
      Ideal.exp (select k0_pay12 (k0_pay13 (F := Ideal) g gc) (k0_pay14 (F := Ideal)) (ix2 (ln a t) (ln a' s)) -
        k0_pay16 (F := Ideal) (k0_pay4 gc) (k0_pay8 gc) (k0_pay9 mc) (ix2 (ln a t) (ln a' s))) := by
    unfold scores rowsOf colsOf
    generalize k0_pay13 (F := Ideal) g gc = v31
    generalize k0_pay14 (F := Ideal) = v32
    generalize k0_pay12 = v27
    generalize ln a t = l
    generalize ln a' s = x
    pointwise [k0_pay18]
  rw [e, lw_lane R K, mt_lane K]
  by_cases ha : a = a'
  · subst ha
    rw [if_pos rfl, if_pos rfl]
    rfl
  · rw [if_neg ha, if_neg ha, sub_eq_add_neg, EReal.bot_add]
    exact mul_zero _

/-- The scores against the values and against the guests' mask. -/
def mixed (V : FVec Ideal S128x256 .bf16) (S : FVec Ideal S128x128 .f32) : FVec Ideal S128x384 .f32 :=
  k0_pay28 V (iota .tc S128x128 32 [1] iota_S128x128_d1_w32) k0_pay11 S

theorem mixed_lo (S : FVec Ideal S128x128 .f32) (l : Fin 128) (e : Fin 256) : mixed V S (ix2 l ⟨e, by omega⟩) = ∑ x : Fin 128, S (ix2 l x) * V (ix2 x e) := by
  pointwise [mixed, k0_pay28, k0_pay27, k0_pay26, k0_pay11]
theorem mixed_hi (S : FVec Ideal S128x128 .f32) (l : Fin 128) (b : Fin 128) (a : Fin 16) (hb : b.val = a.val) :
    mixed V S (ix2 l ⟨256 + b, by omega⟩) = ∑ s : Fin 8, S (ix2 l (ln a s)) := by
  refine Eq.trans ?_ (ones_sum b a hb fun x => S (ix2 l x))
  pointwise [mixed, k0_pay28, k0_pay27, k0_pay26, k0_pay11]

theorem mixed_v (R : Rows B IG MM g mr) (K : Cols B IG MM gc mc) (a : Fin 16) (t : Fin 8) (e : Fin 256) :
    mixed V (scores Q kt g gc mc) (ix2 (ln a t) ⟨e, by omega⟩) = ∑ s, sc (B a) (IG a) (MM a) (rowsOf Q a) (colsOf kt a) t s * rowsOf V a s e := by
  rw [mixed_lo, sum_guest a]
  · refine Finset.sum_congr rfl fun s _ => ?_
    rw [scores_at R K, if_pos rfl]
    rfl
  · intro x hx
    rw [ln_split x, scores_at R K, if_neg]
    · exact zero_mul _
    · intro h
      exact hx (congrArg Fin.val h).symm

theorem mixed_d (R : Rows B IG MM g mr) (K : Cols B IG MM gc mc) (a : Fin 16) (t : Fin 8) (b : Fin 128) (hb : b.val = a.val) :
    mixed V (scores Q kt g gc mc) (ix2 (ln a t) ⟨256 + b, by omega⟩) = ∑ s, sc (B a) (IG a) (MM a) (rowsOf Q a) (colsOf kt a) t s := by
  rw [mixed_hi _ _ _ a hb]
  refine Finset.sum_congr rfl fun s _ => ?_
  rw [scores_at R K, if_pos rfl]

end scores

end Cert.Mlstm
end
-- ==== Proof.MlstmOut.lean ====
module

public import proofs.«01_k».proof.Proof.Gen.KernelIdeal.Frame
public import proofs.«01_k».proof.Proof.MlstmPiece
public import proofs.«01_k».proof.Proof.MlstmScore
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The head's result and the new normalizer, from the sixteen guests' pieces. -/

namespace Cert.Mlstm

open Cert.KernelIdeal Cert.KernelIdeal.Gen

/-- The head's result, from the rows' stabilizers and weights, the scores' part, and the carried state's part. -/
def hOut (v37 v39 : FVec Ideal S128x128 .f32) (v82 : IVec S128x128 1) (v89 v588 : FVec Ideal S128x384 .f32) : FVec Ideal S128x256 .bf16 :=
  have v587 : FVec Ideal S128x384 .f32 := concatenate S128x384 1 [⟨S128x128, v39⟩, ⟨S128x128, v39⟩, ⟨S128x128, v39⟩] concatenates_S128x128_S128x128_S128x128_S128x384_d1
  have v590 : FVec Ideal S128x384 .f32 := addf (mulf v587 v588) v89
  have v591 : FVec Ideal S128x128 .f32 := extractStridedSlice S128x128 ![0, 256] v590 slices_S128x384_o0_256_S128x128
  have v593 : FVec Ideal S128x128 .f32 := select v82 v591 (broadcast S128x128 (Scalar.ofBits .f32 0x00000000#32))
  have v595 : FVec Ideal S128x1 .f32 := shapeCast S128x1 (multiReduction .add [1] S128 v593 0x00000000#32 reduces_S128x128_S128 (.inl rfl) rfl) shapeCasts_S128_S128x1
  have v597 : FVec Ideal S128x1 .f32 := extractStridedSlice S128x1 ![0, 0] v37 slices_S128x128_o0_0_S128x1
  have v600 : FVec Ideal S128x1 .f32 := exp (subf (broadcast S128x1 (Scalar.ofBits .f32 0x00000000#32)) v597)
  have v603 : FVec Ideal S128x1 .f32 := divf (broadcast S128x1 (Scalar.ofBits .f32 0x3F800000#32)) (maximumf (absf v595) v600)
  have v604 : FVec Ideal S128x256 .f32 := extractStridedSlice S128x256 ![0, 0] v590 slices_S128x384_o0_0_S128x256
  truncf .bf16 (mulf v604 (broadcastTo S128x256 v603 broadcasts_S128x1_S128x256)) bitsLt_bf16_f32

/-- Sixteen guests' rows, one under another. -/
def stack16 (a : Fin 16 → FVec Ideal S8x384 .f32) : FVec Ideal S128x384 .f32 :=
  concatenate S128x384 0 (List.ofFn fun n : Fin 16 => (⟨S8x384, a n⟩ : (s : Shape) × (s.Idx → EReal))) concatenates_S8x384_S8x384_S8x384_S8x384_S8x384_S8x384_S8x384_S8x384_S8x384_S8x384_S8x384_S8x384_S8x384_S8x384_S8x384_S8x384_S128x384_d0

theorem stack16_at (a : Fin 16 → FVec Ideal S8x384 .f32) (n : Fin 16) (r : Fin 8) (e : Fin 384) : stack16 a (ix2 (ln n r) e) = a n (ix2 r e) :=
  concatenate_ofFn_apply (t := S128x384) (s₁ := S8x384) 0 a _ rfl 8 rfl (ix2 (ln n r) e) n (ln_div n r) (ix2 r e) (ln_mod n r).symm
    (by intro b hb; fin_cases b <;> first | rfl | exact absurd rfl hb)

section out

variable {B IG : Fin 16 → Fin 8 → EReal} {MM : Fin 16 → EReal} {g : FVec Ideal S1x8x128 .f32} {mr : FVec Ideal S1x1x128 .f32}
  {gc : FVec Ideal S1x2x128x128 .f32} {mc : FVec Ideal S1x128x128 .f32} {Q V : FVec Ideal S128x256 .bf16} {kt : FVec Ideal S256x128 .bf16}
  {NN : FVec Ideal S16x256 .f32}

/-- What the sixteen guests' carried states give their queries. -/
def carried (Q : FVec Ideal S128x256 .bf16) (NN : FVec Ideal S16x256 .f32) (P : Fin 16 → FVec Ideal S1x1x256x256 .f32) : Fin 16 → FVec Ideal S8x384 .f32 :=
  ![k0_pay34 Q NN (P 0),
    k0_pay41 (k0_pay29 NN) (iota .tc S256x128 32 [1] iota_S256x128_d1_w32) (k0_pay30 Q) (P 1),
    k0_pay46 (k0_pay29 NN) (iota .tc S256x128 32 [1] iota_S256x128_d1_w32) (k0_pay30 Q) (P 2),
    k0_pay51 (k0_pay29 NN) (iota .tc S256x128 32 [1] iota_S256x128_d1_w32) (k0_pay30 Q) (P 3),
    k0_pay58 (k0_pay56 (k0_pay29 NN) (iota .tc S256x128 32 [1] iota_S256x128_d1_w32) (P 4)) (k0_pay57 (k0_pay30 Q)),
    k0_pay63 (k0_pay29 NN) (iota .tc S256x128 32 [1] iota_S256x128_d1_w32) (k0_pay30 Q) (P 5),
    k0_pay70 (k0_pay29 NN) (iota .tc S256x128 32 [1] iota_S256x128_d1_w32) (k0_pay30 Q) (P 6),
    k0_pay74 (k0_pay29 NN) (iota .tc S256x128 32 [1] iota_S256x128_d1_w32) (k0_pay30 Q) (P 7),
    k0_pay79 (k0_pay29 NN) (iota .tc S256x128 32 [1] iota_S256x128_d1_w32) (k0_pay30 Q) (k0_pay78 (P 8)) 8#32,
    k0_pay84 (k0_pay29 NN) (iota .tc S256x128 32 [1] iota_S256x128_d1_w32) (k0_pay30 Q) (P 9),
    k0_pay90 (k0_pay29 NN) (iota .tc S256x128 32 [1] iota_S256x128_d1_w32) (k0_pay30 Q) (P 10),
    k0_pay96 (k0_pay29 NN) (iota .tc S256x128 32 [1] iota_S256x128_d1_w32) (k0_pay30 Q) (P 11),
    k0_pay102 (k0_pay29 NN) (iota .tc S256x128 32 [1] iota_S256x128_d1_w32) (k0_pay30 Q) (P 12),
    k0_pay108 (k0_pay30 Q) (k0_pay106 (P 13)) (k0_pay107 (k0_pay29 NN) (iota .tc S256x128 32 [1] iota_S256x128_d1_w32)),
    k0_pay113 (k0_pay29 NN) (iota .tc S256x128 32 [1] iota_S256x128_d1_w32) (k0_pay30 Q) (P 14),
    k0_pay119 (k0_pay29 NN) (iota .tc S256x128 32 [1] iota_S256x128_d1_w32) (k0_pay30 Q) (P 15)]

theorem carried_lo (P : Fin 16 → FVec Ideal S1x1x256x256 .f32) (a : Fin 16) (r : Fin 8) (e : Fin 256) :
    carried Q NN P a (ix2 r ⟨e, by omega⟩) = ∑ x : Fin 256, Q (ix2 (ln a r) x) * P a (ix4 0 0 x e) := by
  fin_cases a
  exacts [z0_lo Q NN (P 0) r e, z1_lo Q NN (P 1) r e, z2_lo Q NN (P 2) r e, z3_lo Q NN (P 3) r e, z4_lo Q NN (P 4) r e, z5_lo Q NN (P 5) r e, z6_lo Q NN (P 6) r e, z7_lo Q NN (P 7) r e, z8_lo Q NN (P 8) r e, z9_lo Q NN (P 9) r e, z10_lo Q NN (P 10) r e, z11_lo Q NN (P 11) r e, z12_lo Q NN (P 12) r e, z13_lo Q NN (P 13) r e, z14_lo Q NN (P 14) r e, z15_lo Q NN (P 15) r e]

theorem carried_hi (P : Fin 16 → FVec Ideal S1x1x256x256 .f32) (a : Fin 16) (r : Fin 8) (b : Fin 128) (hb : b.val = a.val) :
    carried Q NN P a (ix2 r ⟨256 + b, by omega⟩) = ∑ x : Fin 256, Q (ix2 (ln a r) x) * NN (ix2 a x) := by
  have e : carried Q NN P a (ix2 r ⟨256 + b, by omega⟩) =
      ∑ x : Fin 256, Q (ix2 (ln a r) x) * Scalar.select (IntOp.cmpi .eq (BitVec.ofNat 32 b.val) (BitVec.ofNat 32 a.val)) (k0_pay29 (F := Ideal) NN (ix2 x b) : EReal) 0 := by
    fin_cases a
    exacts [z0_hi Q NN (P 0) r b, z1_hi Q NN (P 1) r b, z2_hi Q NN (P 2) r b, z3_hi Q NN (P 3) r b, z4_hi Q NN (P 4) r b, z5_hi Q NN (P 5) r b, z6_hi Q NN (P 6) r b, z7_hi Q NN (P 7) r b, z8_hi Q NN (P 8) r b, z9_hi Q NN (P 9) r b, z10_hi Q NN (P 10) r b, z11_hi Q NN (P 11) r b, z12_hi Q NN (P 12) r b, z13_hi Q NN (P 13) r b, z14_hi Q NN (P 14) r b, z15_hi Q NN (P 15) r b]
  rw [e]
  refine Finset.sum_congr rfl fun x _ => ?_
  have eb : b = ⟨a.val, lt_of_lt_of_le a.isLt (by norm_num)⟩ := Fin.ext hb
  subst eb
  rw [n_col]
  have ec : IntOp.cmpi .eq (BitVec.ofNat 32 a.val) (BitVec.ofNat 32 a.val) = 1#1 := by simp [IntOp.cmpi]
  rw [ec]
  rfl

/-- The result's payload is `hOut` of the stacked rows. -/
theorem pay122_stack (v37 v39 : FVec Ideal S128x128 .f32) (v82 : IVec S128x128 1) (v89 : FVec Ideal S128x384 .f32) (P : Fin 16 → FVec Ideal S1x1x256x256 .f32) :
    k0_pay122 (F := Ideal) v37 v39 v82 v89 (k0_pay34 Q NN (P 0))
      (k0_pay41 (k0_pay29 NN) (iota .tc S256x128 32 [1] iota_S256x128_d1_w32) (k0_pay30 Q) (P 1))
      (k0_pay46 (k0_pay29 NN) (iota .tc S256x128 32 [1] iota_S256x128_d1_w32) (k0_pay30 Q) (P 2))
      (k0_pay51 (k0_pay29 NN) (iota .tc S256x128 32 [1] iota_S256x128_d1_w32) (k0_pay30 Q) (P 3))
      (k0_pay58 (k0_pay56 (k0_pay29 NN) (iota .tc S256x128 32 [1] iota_S256x128_d1_w32) (P 4)) (k0_pay57 (k0_pay30 Q)))
      (k0_pay63 (k0_pay29 NN) (iota .tc S256x128 32 [1] iota_S256x128_d1_w32) (k0_pay30 Q) (P 5))
      (k0_pay70 (k0_pay29 NN) (iota .tc S256x128 32 [1] iota_S256x128_d1_w32) (k0_pay30 Q) (P 6))
      (k0_pay74 (k0_pay29 NN) (iota .tc S256x128 32 [1] iota_S256x128_d1_w32) (k0_pay30 Q) (P 7))
      (k0_pay79 (k0_pay29 NN) (iota .tc S256x128 32 [1] iota_S256x128_d1_w32) (k0_pay30 Q) (k0_pay78 (P 8)) 8#32)
      (k0_pay84 (k0_pay29 NN) (iota .tc S256x128 32 [1] iota_S256x128_d1_w32) (k0_pay30 Q) (P 9))
      (k0_pay90 (k0_pay29 NN) (iota .tc S256x128 32 [1] iota_S256x128_d1_w32) (k0_pay30 Q) (P 10))
      (k0_pay96 (k0_pay29 NN) (iota .tc S256x128 32 [1] iota_S256x128_d1_w32) (k0_pay30 Q) (P 11))
      (k0_pay102 (k0_pay29 NN) (iota .tc S256x128 32 [1] iota_S256x128_d1_w32) (k0_pay30 Q) (P 12))
      (k0_pay108 (k0_pay30 Q) (k0_pay106 (P 13)) (k0_pay107 (k0_pay29 NN) (iota .tc S256x128 32 [1] iota_S256x128_d1_w32)))
      (k0_pay113 (k0_pay29 NN) (iota .tc S256x128 32 [1] iota_S256x128_d1_w32) (k0_pay30 Q) (P 14))
      (k0_pay119 (k0_pay29 NN) (iota .tc S256x128 32 [1] iota_S256x128_d1_w32) (k0_pay30 Q) (P 15))
      = hOut v37 v39 v82 v89 (stack16 (carried Q NN P)) := rfl

theorem hOut_at (v37 v39 : FVec Ideal S128x128 .f32) (v82 : IVec S128x128 1) (v89 v588 : FVec Ideal S128x384 .f32) (t : Fin 128) (e : Fin 256) (w : EReal)
    (hw : ∀ k, v39 (ix2 t k) = w) :
    hOut v37 v39 v82 v89 v588 (ix2 t e) = (w * v588 (ix2 t ⟨e, by omega⟩) + v89 (ix2 t ⟨e, by omega⟩)) *
      Ideal.div 1 (max (FloatOps.absf (F := Ideal) (φ := .f32) (∑ x : Fin 128, Scalar.select (v82 (ix2 t x)) (w * v588 (ix2 t ⟨256 + x, by omega⟩) + v89 (ix2 t ⟨256 + x, by omega⟩)) 0))
        (Ideal.exp (0 - v37 (ix2 t 0)))) := by
  pointwise [hOut]
  simp only [hw, dite_eq_ite, ite_self]

/-- The head's result. -/
theorem h_lane (R : Rows B IG MM g mr) (K : Cols B IG MM gc mc) (ht : ∀ a t, mt (B a) (IG a) (MM a) t ≠ ⊤) (P : Fin 16 → FVec Ideal S1x1x256x256 .f32)
    (a : Fin 16) (t : Fin 8) (e : Fin 256) :
    hOut (k0_pay16 (k0_pay4 gc) (k0_pay8 gc) (k0_pay9 mc)) (k0_pay17 (k0_pay4 gc) (k0_pay8 gc) (k0_pay9 mc))
      (k0_pay26 (iota .tc S128x128 32 [1] iota_S128x128_d1_w32) k0_pay11) (mixed V (scores Q kt g gc mc)) (stack16 (carried Q NN P)) (ix2 (ln a t) e) =
      hOf (B a) (IG a) (MM a) (rowsOf Q a) (colsOf kt a) (rowsOf V a) (fun d e => P a (ix4 0 0 d e)) (fun d => NN (ix2 a d)) t e := by
  rw [hOut_at _ _ _ _ _ _ _ _ (fun k => wi_lane K a t k), mt_lane K, stack16_at, carried_lo, mixed_v R K]
  have hd : ∑ x : Fin 128, Scalar.select (k0_pay26 (iota .tc S128x128 32 [1] iota_S128x128_d1_w32) k0_pay11 (ix2 (ln a t) x))
      (wi (B a) (IG a) (MM a) t * stack16 (carried Q NN P) (ix2 (ln a t) ⟨256 + x, by omega⟩) + mixed V (scores Q kt g gc mc) (ix2 (ln a t) ⟨256 + x, by omega⟩)) 0 =
      den (B a) (IG a) (MM a) (rowsOf Q a) (colsOf kt a) (fun d => NN (ix2 a d)) t := by
    have hc : ∀ x : Fin 128, k0_pay26 (iota .tc S128x128 32 [1] iota_S128x128_d1_w32) k0_pay11 (ix2 (ln a t) x) = if (ln a t).val / 8 = x.val then 1#1 else 0#1 := by
      intro x
      rw [← guest_cmp']
      generalize ln a t = l
      pointwise [k0_pay26, k0_pay11]
    rw [Finset.sum_eq_single (⟨a.val, by omega⟩ : Fin 128)]
    · rw [hc, if_pos (ln_div a t), mixed_d R K a t _ rfl, stack16_at, carried_hi P a t _ rfl]
      rfl
    · intro x _ hx
      rw [hc, if_neg]
      · rfl
      · intro h
        rw [ln_div] at h
        exact hx (Fin.ext h.symm)
    · intro h
      exact absurd (Finset.mem_univ _) h
  rw [hd, zero_sub]
  exact mul_recip _ _ _ (ht a t)

/-- The decays of the sixteen guests, one a lane. -/
def decays (D : FVec Ideal S1x128 .f32) : FVec Ideal S1x128 .f32 :=
  k0_pay117 D (iota .tc S1x128 32 [1] iota_S1x128_d1_w32) (k0_pay111 D (iota .tc S1x128 32 [1] iota_S1x128_d1_w32) (k0_pay105 D (iota .tc S1x128 32 [1] iota_S1x128_d1_w32) (k0_pay94 D (iota .tc S1x128 32 [1] iota_S1x128_d1_w32) (k0_pay88 D (iota .tc S1x128 32 [1] iota_S1x128_d1_w32) (k0_pay82 D (iota .tc S1x128 32 [1] iota_S1x128_d1_w32) (k0_pay77 D (iota .tc S1x128 32 [1] iota_S1x128_d1_w32) (k0_pay68 D (iota .tc S1x128 32 [1] iota_S1x128_d1_w32) (k0_pay61 D (iota .tc S1x128 32 [1] iota_S1x128_d1_w32) (k0_pay54 D (iota .tc S1x128 32 [1] iota_S1x128_d1_w32) (k0_pay49 D (iota .tc S1x128 32 [1] iota_S1x128_d1_w32) (k0_pay39 D (iota .tc S1x128 32 [1] iota_S1x128_d1_w32) (k0_pay32 D)))))) (k0_pay72 D))))) (k0_pay99 (iota .tc S1x128 32 [1] iota_S1x128_d1_w32)) (k0_pay100 D)))

theorem decays_at (D : FVec Ideal S1x128 .f32) (a : Fin 16) : decays D (ix2 0 ⟨a, by omega⟩) = D (ix2 0 (ln a 0)) := by
  pointwise [decays, k0_pay117, k0_pay111, k0_pay105, k0_pay94, k0_pay88, k0_pay82, k0_pay77, k0_pay68, k0_pay61, k0_pay54, k0_pay49, k0_pay39, k0_pay32, k0_pay72, k0_pay99, k0_pay100, k0_pay116, k0_pay110, k0_pay104, k0_pay93, k0_pay87, k0_pay81, k0_pay76, k0_pay67, k0_pay60, k0_pay53, k0_pay44, k0_pay48, k0_pay38, k0_pay31, k0_pay98]
  fin_cases a <;> rfl

theorem pay123_at (KW : FVec Ideal S256x128 .bf16) (mk : FVec Ideal S128x128 .bf16) (NT : FVec Ideal S256x128 .f32) (dd : FVec Ideal S1x128 .f32) (a : Fin 16) (d : Fin 256) :
    k0_pay123 KW mk NT dd (ix2 a d) = dd (ix2 0 ⟨a, by omega⟩) * NT (ix2 d ⟨a, by omega⟩) + ∑ x : Fin 128, KW (ix2 d x) * mk (ix2 x ⟨a, by omega⟩) := by
  pointwise [k0_pay123]
  by_cases h : d.val < 128
  · rw [dif_pos h]
  · rw [dif_neg h]
    have e : (⟨128 + (d.val - 128), by omega⟩ : Fin 256) = d := Fin.ext (by show 128 + (d.val - 128) = d.val; omega)
    rw [e]

/-- The new normalizer. -/
theorem n_lane (R : Rows B IG MM g mr) (a : Fin 16) (d : Fin 256) :
    k0_pay123 (F := Ideal) (k0_pay25 (k0_pay23 kt) (k0_pay24 (k0_pay5 g) (k0_pay6 g) (k0_pay7 g) (k0_pay10 mr)))
      (k0_pay27 (iota .tc S128x128 32 [1] iota_S128x128_d1_w32) k0_pay11) (k0_pay29 NN)
      (decays (k0_pay22 (k0_pay5 g) (k0_pay6 g) (k0_pay7 g) (k0_pay10 mr))) (ix2 a d) =
      nNew (B a) (IG a) (MM a) (colsOf kt a) (fun d => NN (ix2 a d)) d := by
  rw [pay123_at, decays_at, d_lane R, n_col]
  refine congrArg₂ (· + ·) rfl ?_
  have e : ∀ x : Fin 128, k0_pay27 (F := Ideal) (iota .tc S128x128 32 [1] iota_S128x128_d1_w32) k0_pay11 (ix2 x ⟨a.val, by omega⟩) =
      Scalar.select (IntOp.cmpi .eq (BitVec.ofNat 32 a.val) (IntOp.shrsi ArithUnit.vector (BitVec.ofNat 32 x.val) 3#32)) (1 : EReal) 0 := by
    intro x
    pointwise [k0_pay27, k0_pay26, k0_pay11]
  simp only [e]
  refine (ones_sum (⟨a.val, by omega⟩ : Fin 128) a rfl (fun x => k0_pay25 (F := Ideal) (k0_pay23 kt) (k0_pay24 (k0_pay5 g) (k0_pay6 g) (k0_pay7 g) (k0_pay10 mr)) (ix2 d x))).trans ?_
  exact Finset.sum_congr rfl fun s _ => k_lane R kt d a s

/-- The new running maximum. -/
theorem m_out (R : Rows B IG MM g mr) (r : Fin 8) (a : Fin 16) (s : Fin 8) :
    k0_pay124 (F := Ideal) (k0_pay21 (k0_pay5 g) (k0_pay6 g) (k0_pay7 g) (k0_pay10 mr)) (ix3 0 r (ln a s)) = mt (B a) (IG a) (MM a) 7 := by
  rw [← m_lane R a s]
  generalize k0_pay21 (F := Ideal) (k0_pay5 g) (k0_pay6 g) (k0_pay7 g) (k0_pay10 mr) = x
  generalize ln a s = l
  pointwise [k0_pay124]

/-- The new matrix state, from a piece's sum. -/
theorem c_lane (R : Rows B IG MM g mr) (X : EReal) (P : Fin 256 → Fin 256 → EReal) (a : Fin 16) (d e : Fin 256) (hX : X = P d e) :
    k0_pay22 (F := Ideal) (k0_pay5 g) (k0_pay6 g) (k0_pay7 g) (k0_pay10 mr) (ix2 0 (ln a 0)) * X +
      ∑ s : Fin 8, k0_pay25 (F := Ideal) (k0_pay23 kt) (k0_pay24 (k0_pay5 g) (k0_pay6 g) (k0_pay7 g) (k0_pay10 mr)) (ix2 d (ln a s)) * V (ix2 (ln a s) e) =
      cNew (B a) (IG a) (MM a) (colsOf kt a) (rowsOf V a) P d e := by
  rw [d_lane R, hX]
  refine congrArg₂ (· + ·) rfl (Finset.sum_congr rfl fun s _ => ?_)
  rw [k_lane R]
  rfl

end out

end Cert.Mlstm
end
-- ==== Proof.MlstmRef.lean ====
module

public import proofs.«01_k».proof.Proof.Gen.ReferenceIdeal.Read
public import proofs.«01_k».proof.Proof.MlstmSpec

@[expose] public section

set_option maxRecDepth 16384

noncomputable section

open Idealize.ShloMosaic Idealize.ShloMosaic.TcCoe Idealize.SL.Sem

/-! What the reference's results hold at an index, as the plain formulas of the chunk step. -/

namespace Cert.Mlstm

open Cert.ReferenceIdeal Cert.ReferenceIdeal.Gen Cert.ReferenceIdeal.Read

variable (x0 : FVec Ideal S9216x2048 .bf16) (x1 : FVec Ideal S1x2048x11272 .f32) (x2 : FVec Ideal S1x11272 .f32)
  (x3 : FVec Ideal S9216x3072 .bf16) (x4 : FVec Ideal S1024x9216 .bf16) (x5 x6 : FVec Ideal S128x4x8 .f32)
  (x7 : FVec Ideal S1x128x4x256x256 .f32) (x8 : FVec Ideal S1x128x4x256 .f32) (x9 : FVec Ideal S1x128x4 .f32)
variable (i : Fin 128) (h : Fin 4) (t s : Fin 8) (d e : Fin 256)

/-- The guest's query rows of one head. -/
def qR (i : Fin 128) (h : Fin 4) (t : Fin 8) (d : Fin 256) : EReal := x3 (ix2 ⟨8192 + (i * 8 + t), by omega⟩ ⟨h * 256 + d, by omega⟩)
/-- The guest's value rows of one head. -/
def vR (i : Fin 128) (h : Fin 4) (t : Fin 8) (d : Fin 256) : EReal := x3 (ix2 ⟨8192 + (i * 8 + t), by omega⟩ ⟨1024 + (h * 256 + d), by omega⟩)
/-- The guest's key rows of one head. -/
def kR (i : Fin 128) (h : Fin 4) (t : Fin 8) (d : Fin 256) : EReal := x4 (ix2 ⟨h * 256 + d, by omega⟩ ⟨8192 + (i * 8 + t), by omega⟩)
/-- The guest's gates of one head. -/
def gR (i : Fin 128) (h : Fin 4) (t : Fin 8) : EReal := x5 (ix3 i h t)
/-- The guest's carried matrix state of one head. -/
def cR (i : Fin 128) (h : Fin 4) (d e : Fin 256) : EReal := x7 (ix5 0 i h d e)
/-- The guest's carried normalizer state of one head. -/
def nR (i : Fin 128) (h : Fin 4) (d : Fin 256) : EReal := x8 (ix4 0 i h d)
/-- The guest's carried maximum of one head. -/
def mR (i : Fin 128) (h : Fin 4) : EReal := x9 (ix3 0 i h)

/-- The running sum of the guest's log forget gates of one head. -/
abbrev bR (i : Fin 128) (h : Fin 4) : Fin 8 → EReal := cum (gR x6 i h)

variable (hW : S128x4x8.ReduceWindows ![1, 1, 8] ![1, 1, 1] ![0, 0, 7] ![0, 0, 0] S128x4x8) (hu : 0 < S_.numel)

/-- The windows of one row: a running fold over eight tokens, padded with the initial value. -/
theorem window_at (f : EReal → EReal → EReal) (x : S128x4x8.Idx → EReal) (init : S_.Idx → EReal) :
    Host.reduceWindow f ![1, 1, 8] ![1, 1, 1] ![0, 0, 7] ![0, 0, 0] x init hW hu (ix3 i h s)
      = (List.finRange 8).foldl (fun r n => f r (if hin : 7 ≤ s.val + n.val then x (ix3 i h ⟨s.val + n.val - 7, by omega⟩) else init ix0)) (init ix0) := by
  unfold Host.reduceWindow
  have hv : init (Shape.Idx.first hu) = init ix0 := congrArg init (funext fun a => a.elim0)
  have hw : ∀ n : Fin 8, (((⟨3, ![1, 1, 8]⟩ : Shape).rowMajor.symm n 0).val = 0 ∧ ((⟨3, ![1, 1, 8]⟩ : Shape).rowMajor.symm n 1).val = 0) ∧ ((⟨3, ![1, 1, 8]⟩ : Shape).rowMajor.symm n 2).val = n.val := by
    decide +kernel
  show (List.finRange 8).foldl _ _ = _
  rw [hv]
  congr 1
  funext r n
  refine congrArg (f r) ?_
  obtain ⟨⟨h0, h1⟩, h2⟩ := hw n
  have hs := s.isLt
  have hn := n.isLt
  by_cases hin : 7 ≤ s.val + n.val
  · rw [dif_pos hin]
    refine (dif_pos (fun a => ?_)).trans (congrArg x (funext fun a => Fin.ext ?_))
    · match a with
      | ⟨0, _⟩ =>
        show 0 ≤ i.val * 1 + ((⟨3, ![1, 1, 8]⟩ : Shape).rowMajor.symm n 0).val ∧ i.val * 1 + ((⟨3, ![1, 1, 8]⟩ : Shape).rowMajor.symm n 0).val - 0 < 128
        omega
      | ⟨1, _⟩ =>
        show 0 ≤ h.val * 1 + ((⟨3, ![1, 1, 8]⟩ : Shape).rowMajor.symm n 1).val ∧ h.val * 1 + ((⟨3, ![1, 1, 8]⟩ : Shape).rowMajor.symm n 1).val - 0 < 4
        omega
      | ⟨2, _⟩ =>
        show 7 ≤ s.val * 1 + ((⟨3, ![1, 1, 8]⟩ : Shape).rowMajor.symm n 2).val ∧ s.val * 1 + ((⟨3, ![1, 1, 8]⟩ : Shape).rowMajor.symm n 2).val - 7 < 8
        omega
    · match a with
      | ⟨0, _⟩ =>
        show i.val * 1 + ((⟨3, ![1, 1, 8]⟩ : Shape).rowMajor.symm n 0).val - 0 = i.val
        omega
      | ⟨1, _⟩ =>
        show h.val * 1 + ((⟨3, ![1, 1, 8]⟩ : Shape).rowMajor.symm n 1).val - 0 = h.val
        omega
      | ⟨2, _⟩ =>
        show s.val * 1 + ((⟨3, ![1, 1, 8]⟩ : Shape).rowMajor.symm n 2).val - 7 = s.val + n.val - 7
        omega
  · rw [dif_neg hin]
    refine dif_neg fun hall => hin ?_
    have h3 := (hall 2).1
    change 7 ≤ s.val * 1 + ((⟨3, ![1, 1, 8]⟩ : Shape).rowMajor.symm n 2).val at h3
    omega

/-- A running sum over eight tokens, read at an index. -/
theorem window_sum (x : S128x4x8.Idx → EReal) (init : S_.Idx → EReal) (z : init ix0 = 0) :
    Host.reduceWindow (fun a b : EReal => a + b) ![1, 1, 8] ![1, 1, 1] ![0, 0, 7] ![0, 0, 0] x init hW hu (ix3 i h s)
      = cum (fun r => x (ix3 i h r)) s := by
  rw [window_at, z]
  unfold cum
  fin_cases s <;> simp [List.finRange_succ, Fin.sum_univ_eight]

/-- A running maximum over eight tokens, read at an index. -/
theorem window_max (x : S128x4x8.Idx → EReal) (init : S_.Idx → EReal) (z : init ix0 = ⊥) :
    Host.reduceWindow (fun a b : EReal => max a b) ![1, 1, 8] ![1, 1, 1] ![0, 0, 7] ![0, 0, 0] x init hW hu (ix3 i h s)
      = Finset.univ.sup (fun r : Fin 8 => if r ≤ s then x (ix3 i h r) else ⊥) := by
  rw [window_at, z, sup_eight]
  fin_cases s <;> simp [List.finRange_succ]

theorem ref_b : val_main_v31 (F := Ideal) x6 (ix3 i h t) = bR x6 i h t := by
  refine (window_sum i h t reduceWindows_S128x4x8_S128x4x8_w1s1p0_0_w1s1p0_0_w8s1p7_0 h_S_ x6 _ ?_)
  pointwise [val_main_call0_call0_v0, val_main_call0_call0_cst]

theorem neg_inf : Ideal.ofBits FTy.f32 0xFF800000#32 = ⊥ := by
  simp [Ideal.ofBits, Ideal.ieee]

/-- The causal mask. -/
theorem causal : ∀ t s : Fin 8, Scalar.select (IntOp.cmpi CmpIPredicate.sge (IntOp.addi (BitVec.ofNat 32 t.val) 0#32) (BitVec.ofNat 32 s.val)) 1#1 0#1 = if s ≤ t then 1#1 else 0#1 := by
  decide +kernel

theorem ref_lw : val_main_v42 (F := Ideal) x5 x6 (ix4 i h t s) = lw (bR x6 i h) (gR x5 i h) t s := by
  pointwise [val_main_v42, val_main_call2_v1, val_main_call2_v2, val_main_call2_v0, val_main_cst_1, val_main_v41, val_main_v40, val_main_v39, val_main_v38, val_main_v37, val_main_v36, val_main_v35, val_main_v34, val_main_v33, val_main_v32, val_main_call1_v5, val_main_call1_v4, val_main_call1_v3, val_main_call1_v2, val_main_call1_v1, val_main_call1_v0, val_main_c, val_main_call1_c, val_main_call1_c_0]
  rw [causal, ref_b, ref_b]
  unfold lw gR
  split
  · rfl
  · exact neg_inf

theorem ref_q : val_main_v18 (F := Ideal) x3 (ix4 i h t d) = qR x3 i h t d := by
  pointwise [val_main_v18, val_main_v17, val_main_v16, val_main_v15, qR]
theorem ref_v : val_main_v22 (F := Ideal) x3 (ix4 i h t d) = vR x3 i h t d := by
  pointwise [val_main_v22, val_main_v21, val_main_v20, val_main_v19, vR]
theorem ref_k : val_main_v27 (F := Ideal) x4 (ix4 i h t d) = kR x4 i h t d := by
  pointwise [val_main_v27, val_main_v26, val_main_v25, val_main_v24, val_main_v23, kR]
theorem ref_c : val_main_v28 (F := Ideal) x7 (ix4 i h d e) = cR x7 i h d e := by
  pointwise [val_main_v28, cR]
theorem ref_n : val_main_v29 (F := Ideal) x8 (ix3 i h e) = nR x8 i h e := by
  pointwise [val_main_v29, nR]
theorem ref_m : val_main_v30 (F := Ideal) x9 (ix2 i h) = mR x9 i h := by
  pointwise [val_main_v30, mR]

theorem ref_mt : val_main_v47 (F := Ideal) x5 x6 x9 (ix3 i h t) = mt (bR x6 i h) (gR x5 i h) (mR x9 i h) t := by
  pointwise [val_main_v47, val_main_v46, val_main_v45, val_main_v44, val_main_v43, val_main_cst_2]
  rw [neg_inf, ref_b, ref_m]
  simp only [ref_lw]
  rfl
theorem ref_wi : val_main_v49 (F := Ideal) x5 x6 x9 (ix3 i h t) = wi (bR x6 i h) (gR x5 i h) (mR x9 i h) t := by
  pointwise [val_main_v49, val_main_v48, val_main_v45, val_main_v44, val_main_v43]
  rw [ref_b, ref_m, ref_mt]
  rfl
theorem ref_sc : val_main_v55 (F := Ideal) x3 x4 x5 x6 x9 (ix4 i h t s) = sc (bR x6 i h) (gR x5 i h) (mR x9 i h) (qR x3 i h) (kR x4 i h) t s := by
  pointwise [val_main_v55, val_main_v50, val_main_v54, val_main_v53, val_main_v52, val_main_v51]
  simp only [ref_q, ref_k, ref_lw, ref_mt]
  rfl
theorem ref_den : val_main_v65 (F := Ideal) x3 x4 x5 x6 x8 x9 (ix3 i h t) = den (bR x6 i h) (gR x5 i h) (mR x9 i h) (qR x3 i h) (kR x4 i h) (nR x8 i h) t := by
  pointwise [val_main_v65, val_main_v64, val_main_v63, val_main_v62, val_main_cst_3]
  simp only [ref_wi, ref_q, ref_n, ref_sc]
  rfl
theorem ref_h : val_main_v72 (F := Ideal) x3 x4 x5 x6 x7 x8 x9 (ix4 i h t e) = hOf (bR x6 i h) (gR x5 i h) (mR x9 i h) (qR x3 i h) (kR x4 i h) (vR x3 i h) (cR x7 i h) (nR x8 i h) t e := by
  pointwise [val_main_v72, val_main_v71, val_main_v70, val_main_v69, val_main_v68, val_main_v67, val_main_v66, val_main_v61, val_main_v60, val_main_v59, val_main_v58, val_main_v57, val_main_v56]
  simp only [ref_wi, ref_q, ref_c, ref_v, ref_sc, ref_den, ref_mt]
  rfl
theorem ref_mlast : val_main_v74 (F := Ideal) x5 x6 x9 (ix2 i h) = mt (bR x6 i h) (gR x5 i h) (mR x9 i h) 7 := by
  pointwise [val_main_v74, val_main_v73]
  exact ref_mt ..
theorem ref_dec : val_main_v79 (F := Ideal) x5 x6 x9 (ix2 i h) = dec (bR x6 i h) (gR x5 i h) (mR x9 i h) := by
  pointwise [val_main_v79, val_main_v78, val_main_v77, val_main_v76, val_main_v75]
  rw [ref_mlast, ref_b, ref_m]
  rfl
theorem ref_wk : val_main_v87 (F := Ideal) x5 x6 x9 (ix3 i h t) = wk (bR x6 i h) (gR x5 i h) (mR x9 i h) t := by
  pointwise [val_main_v87, val_main_v86, val_main_v85, val_main_v84, val_main_v83, val_main_v82, val_main_v81, val_main_v80]
  rw [ref_mlast, ref_b, ref_b]
  rfl
/-- The reference's new matrix state at an index. -/
theorem ref_cNew : val_main_v95 (F := Ideal) x3 x4 x5 x6 x7 x9 (ix4 i h d e) = cNew (bR x6 i h) (gR x5 i h) (mR x9 i h) (kR x4 i h) (vR x3 i h) (cR x7 i h) d e := by
  pointwise [val_main_v95, val_main_v94, val_main_v93, val_main_v92, val_main_v91, val_main_v90, val_main_v89, val_main_v88]
  simp only [ref_dec, ref_c, ref_wk, ref_k, ref_v]
  rfl
theorem ref_nNew : val_main_v100 (F := Ideal) x4 x5 x6 x8 x9 (ix3 i h d) = nNew (bR x6 i h) (gR x5 i h) (mR x9 i h) (kR x4 i h) (nR x8 i h) d := by
  pointwise [val_main_v100, val_main_v99, val_main_v98, val_main_v97, val_main_v96]
  simp only [ref_dec, ref_n, ref_wk, ref_k]
  rfl
/-- The reference's new maximum, in the tokens' layout, at an index. -/
theorem ref_m_at (A : Fin 1024) : val_main_v107 (F := Ideal) x5 x6 x9 (ix3 h t A) = mt (bR x6 ⟨A / 8, by omega⟩ h) (gR x5 ⟨A / 8, by omega⟩ h) (mR x9 ⟨A / 8, by omega⟩ h) 7 := by
  pointwise [val_main_v107, val_main_v106, val_main_v105, val_main_v104]
  exact ref_mlast ..
/-- The reference's new normalizer state, flattened, at an index. -/
theorem ref_n_at (A : Fin 1024) : val_main_v109 (F := Ideal) x4 x5 x6 x8 x9 (ix2 i A) = nNew (bR x6 i ⟨A / 256, by omega⟩) (gR x5 i ⟨A / 256, by omega⟩) (mR x9 i ⟨A / 256, by omega⟩) (kR x4 i ⟨A / 256, by omega⟩) (nR x8 i ⟨A / 256, by omega⟩) ⟨A % 256, by omega⟩ := by
  pointwise [val_main_v109]
  exact ref_nNew ..
/-- The reference's heads, in the tokens' layout, at an index. -/
theorem ref_h_at (B A : Fin 1024) : val_main_v103 (F := Ideal) x3 x4 x5 x6 x7 x8 x9 (ix2 B A) = hOf (bR x6 ⟨B / 8, by omega⟩ ⟨A / 256, by omega⟩) (gR x5 ⟨B / 8, by omega⟩ ⟨A / 256, by omega⟩) (mR x9 ⟨B / 8, by omega⟩ ⟨A / 256, by omega⟩) (qR x3 ⟨B / 8, by omega⟩ ⟨A / 256, by omega⟩) (kR x4 ⟨B / 8, by omega⟩ ⟨A / 256, by omega⟩) (vR x3 ⟨B / 8, by omega⟩ ⟨A / 256, by omega⟩) (cR x7 ⟨B / 8, by omega⟩ ⟨A / 256, by omega⟩) (nR x8 ⟨B / 8, by omega⟩ ⟨A / 256, by omega⟩) ⟨B % 8, by omega⟩ ⟨A % 256, by omega⟩ := by
  pointwise [val_main_v103, val_main_v102, val_main_v101]
  exact ref_h ..
/-- The reference's gates at an index. -/
theorem ref_z_at (B : Fin 9216) (A : Fin 4096) : val_main_v108 (F := Ideal) x0 x1 x2 (ix2 B A)
    = Ideal.logistic (∑ x : Fin 2048, x0 (ix2 B x) * x1 (ix3 0 x ⟨7176 + A, by omega⟩) + x2 (ix2 0 ⟨7176 + A, by omega⟩)) := by
  pointwise [val_main_v108, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

end Cert.Mlstm
end
-- ==== Proof.MlstmHost.lean ====
module

public import proofs.«01_k».proof.Proof.Gen.KernelIdeal.Frame
public import proofs.«01_k».proof.Proof.MlstmRef
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gate tables that the kernel's program prepares on the host, read at an index. -/

namespace Cert.Mlstm

open Cert.KernelIdeal Cert.KernelIdeal.Gen

variable (m : (ℓ : Loc nD τ sig) → Buf (Elt Ideal) ℓ)

/-- A table of the guests' tokens, head by head, from a table of guests, heads and tokens. -/
def hTok (x : FVec Ideal S128x4x8 .f32) : FVec Ideal S4x1024 .f32 :=
  shapeCast S4x1024 (transpose S4x128x8 [1, 0, 2] x transposes_S128x4x8_S4x128x8_1_0_2) shapeCasts_S4x128x8_S4x1024
/-- The table of tokens repeated along 128 lanes. -/
def hCol (x : FVec Ideal S4x1024 .f32) : FVec Ideal S4x1x1024x128 .f32 :=
  broadcastInDim S4x1x1024x128 ![0, 2, 3] bcast_S4x1024x128_S4x1x1024x128_0_2_3 (broadcastInDim S4x1024x128 ![0, 1, 2] bcast_S4x1024x1_S4x1024x128_0_1_2 (broadcastInDim S4x1024x1 ![0, 1] bcast_S4x1024_S4x1024x1_0_1 x))
/-- The table of tokens as one row. -/
def hRow (x : FVec Ideal S4x1024 .f32) : FVec Ideal S4x1x1024 .f32 := broadcastInDim S4x1x1024 ![0, 2] bcast_S4x1024_S4x1x1024_0_2 x
/-- Zeros in place of a table of tokens. -/
def hZero : FVec Ideal S4x1024 .f32 := broadcastInDim S4x1024 ![] bcast_S_S4x1024 (constant S_ .f32 0x00000000#32)
/-- The running sums of the log forget gates. -/
def hB (lf : FVec Ideal S128x4x8 .f32) : FVec Ideal S128x4x8 .f32 :=
  Host.reduceWindowAdd ![1, 1, 8] ![1, 1, 1] ![0, 0, 7] ![0, 0, 0] lf (broadcastInDim S_ ![] bcast_S_S_ (constant S_ .f32 0x00000000#32)) reduceWindows_S128x4x8_S128x4x8_w1s1p0_0_w1s1p0_0_w8s1p7_0 h_S_
/-- The running maxima. -/
def hMx (d : FVec Ideal S128x4x8 .f32) : FVec Ideal S128x4x8 .f32 :=
  Host.reduceWindow (FloatOps.maximumf (F := Ideal)) ![1, 1, 8] ![1, 1, 1] ![0, 0, 7] ![0, 0, 0] d (broadcastInDim S_ ![] bcast_S_S_ (constant S_ .f32 0xFF800000#32)) reduceWindows_S128x4x8_S128x4x8_w1s1p0_0_w1s1p0_0_w8s1p7_0 h_S_
/-- The stabilizers of the tokens' own gates. -/
def hMi (ig lf : FVec Ideal S128x4x8 .f32) : FVec Ideal S128x4x8 .f32 := addf (hB lf) (hMx (subf ig (hB lf)))
/-- What is left of the running sums after each token. -/
def hRest (b : FVec Ideal S128x4x8 .f32) : FVec Ideal S128x4x8 .f32 :=
  subf (broadcastInDim S128x4x8 ![0, 1, 2] bcast_S128x4x1_S128x4x8_0_1_2 (extractStridedSlice S128x4x1 ![0, 0, 7] b slices_S128x4x8_S128x4x1_0_0_7)) b
/-- The column tables, behind the prompt's rows. -/
def hV39 (b bm : FVec Ideal S128x4x8 .f32) : FVec Ideal S4x2x9216x128 .f32 :=
  concatenate S4x2x9216x128 2 [⟨S4x2x8192x128, broadcastInDim S4x2x8192x128 ![] bcast_S_S4x2x8192x128 (constant S_ .f32 0x00000000#32)⟩, ⟨S4x2x1024x128, concatenate S4x2x1024x128 1 [⟨S4x1x1024x128, hCol (hTok b)⟩, ⟨S4x1x1024x128, hCol (hTok bm)⟩] concatenates_S4x1x1024x128_S4x1x1024x128_S4x2x1024x128_d1⟩] concatenates_S4x2x8192x128_S4x2x1024x128_S4x2x9216x128_d2
/-- The eight rows of the row tables. -/
def hRows (ig b : FVec Ideal S128x4x8 .f32) : Fin 8 → FVec Ideal S4x1x1024 .f32 :=
  ![hRow (hTok ig), hRow (hTok b), hRow (hTok (hRest b)), hRow hZero, hRow hZero, hRow hZero, hRow hZero, hRow hZero]
/-- The row tables. -/
def hV37 (ig b : FVec Ideal S128x4x8 .f32) : FVec Ideal S4x8x1024 .f32 :=
  concatenate S4x8x1024 1 (List.ofFn fun n : Fin 8 => (⟨S4x1x1024, hRows ig b n⟩ : (s : Shape) × (s.Idx → EReal))) concatenates_S4x1x1024_S4x1x1024_S4x1x1024_S4x1x1024_S4x1x1024_S4x1x1024_S4x1x1024_S4x1x1024_S4x8x1024_d1
/-- The row tables, behind the prompt's columns. -/
def hV41 (ig b : FVec Ideal S128x4x8 .f32) : FVec Ideal S4x8x9216 .f32 :=
  concatenate S4x8x9216 2 [⟨S4x8x8192, broadcastInDim S4x8x8192 ![] bcast_S_S4x8x8192 (constant S_ .f32 0x00000000#32)⟩, ⟨S4x8x1024, hV37 ig b⟩] concatenates_S4x8x8192_S4x8x1024_S4x8x9216_d2

theorem ops_v39 (σ : Valuation τ sig (Elt Ideal)) : StableHlo.after hostOps0_4 σ (Proc.tc.devRef main_v39)
    = hV39 (σ (Proc.tc.devRef main_v6)) (addf (F := Ideal) (s := S128x4x8) (φ := .f32) (σ (Proc.tc.devRef main_v6)) (σ (Proc.tc.devRef main_v8))) := rfl
theorem ops_v41 (σ : Valuation τ sig (Elt Ideal)) : StableHlo.after hostOps0_4 σ (Proc.tc.devRef main_v41)
    = hV41 (σ (Proc.tc.devRef main_arg5)) (σ (Proc.tc.devRef main_v6)) := rfl

/-- The column tables at the region's entry. -/
theorem V39 (c : Dev nD) : V m c main_v39 = hV39 (hB (m (c, Proc.tc.devRef main_arg6))) (hMi (m (c, Proc.tc.devRef main_arg5)) (m (c, Proc.tc.devRef main_arg6))) := by
  unfold V
  simp only [List.flatten_cons, List.flatten_nil, StableHlo.after_append]
  rw [StableHlo.after_nil, ops_v39]
  rfl
/-- The row tables at the region's entry. -/
theorem V41 (c : Dev nD) : V m c main_v41 = hV41 (m (c, Proc.tc.devRef main_arg5)) (hB (m (c, Proc.tc.devRef main_arg6))) := by
  unfold V
  simp only [List.flatten_cons, List.flatten_nil, StableHlo.after_append]
  rw [StableHlo.after_nil, ops_v41]
  rfl

theorem hTok_at (b : FVec Ideal S128x4x8 .f32) (H : Fin 4) (T : Fin 1024) : hTok b (ix2 H T) = b (ix3 ⟨T / 8, by omega⟩ H ⟨T % 8, by omega⟩) := by
  pointwise [hTok]
theorem hCol_at (b : FVec Ideal S4x1024 .f32) (H : Fin 4) (T : Fin 1024) (k : Fin 128) : hCol b (ix4 H 0 T k) = b (ix2 H T) := by
  pointwise [hCol]
theorem hRow_at (b : FVec Ideal S4x1024 .f32) (H : Fin 4) (T : Fin 1024) : hRow b (ix3 H 0 T) = b (ix2 H T) := by
  pointwise [hRow]
theorem hB_at (lf : FVec Ideal S128x4x8 .f32) (i : Fin 128) (h : Fin 4) (s : Fin 8) : hB lf (ix3 i h s) = bR lf i h s := by
  refine window_sum i h s reduceWindows_S128x4x8_S128x4x8_w1s1p0_0_w1s1p0_0_w8s1p7_0 h_S_ lf _ ?_
  pointwise []
theorem hMi_at (ig lf : FVec Ideal S128x4x8 .f32) (i : Fin 128) (h : Fin 4) (s : Fin 8) : hMi ig lf (ix3 i h s) = Finset.univ.sup (lw (bR lf i h) (gR ig i h) s) := by
  rw [← sup_lw]
  show hB lf (ix3 i h s) + hMx (subf ig (hB lf)) (ix3 i h s) = _
  rw [hB_at]
  congr 1
  refine (window_max i h s reduceWindows_S128x4x8_S128x4x8_w1s1p0_0_w1s1p0_0_w8s1p7_0 h_S_ (subf ig (hB lf)) _ ?_).trans ?_
  · pointwise []
    exact neg_inf
  · congr 1
    funext r
    rw [← hB_at]
    rfl
theorem hRest_at (b : FVec Ideal S128x4x8 .f32) (i : Fin 128) (h : Fin 4) (s : Fin 8) : hRest b (ix3 i h s) = b (ix3 i h 7) - b (ix3 i h s) := by
  pointwise [hRest]

theorem hV39_b (b bm : FVec Ideal S128x4x8 .f32) (H : Fin 4) (T : Fin 9216) (k : Fin 128) (i : Fin 128) (s : Fin 8) (h : T.val = 8192 + (i.val * 8 + s.val)) :
    hV39 b bm (ix4 H 0 T k) = b (ix3 i H s) := by
  unfold hV39
  have e := fun T' => (hCol_at (hTok b) H T' k).trans (hTok_at b H T')
  generalize hCol (hTok b) = x at e ⊢
  generalize hCol (hTok bm) = y
  pointwise []
  rw [dif_neg (by omega), e]
  congr 1
  ext a
  fin_cases a <;> simp <;> omega
theorem hV39_m (b bm : FVec Ideal S128x4x8 .f32) (H : Fin 4) (T : Fin 9216) (k : Fin 128) (i : Fin 128) (s : Fin 8) (h : T.val = 8192 + (i.val * 8 + s.val)) :
    hV39 b bm (ix4 H 1 T k) = bm (ix3 i H s) := by
  unfold hV39
  have e := fun T' => (hCol_at (hTok bm) H T' k).trans (hTok_at bm H T')
  generalize hCol (hTok bm) = x at e ⊢
  generalize hCol (hTok b) = y
  pointwise []
  rw [dif_neg (by omega), e]
  congr 1
  ext a
  fin_cases a <;> simp <;> omega
theorem hV37_at (ig b : FVec Ideal S128x4x8 .f32) (H : Fin 4) (r : Fin 8) (T : Fin 1024) : hV37 ig b (ix3 H r T) = hRows ig b r (ix3 H 0 T) :=
  concatenate_ofFn_unit_apply (t := S4x8x1024) (s₁ := S4x1x1024) 1 (hRows ig b) _ rfl rfl (ix3 H r T) r rfl (ix3 H 0 T) (by
    intro a ha
    fin_cases a <;> first | rfl | exact absurd rfl ha)
theorem hV41_row (ig b : FVec Ideal S128x4x8 .f32) (H : Fin 4) (r : Fin 8) (T : Fin 9216) (T' : Fin 1024) (h : T.val = 8192 + T'.val) :
    hV41 ig b (ix3 H r T) = hRows ig b r (ix3 H 0 T') := by
  rw [← hV37_at]
  unfold hV41
  generalize hV37 ig b = x
  pointwise []
  rw [dif_neg (by omega)]
  refine congrArg x ?_
  ext a
  fin_cases a <;> simp <;> omega
theorem hRow_tok (x : FVec Ideal S128x4x8 .f32) (H : Fin 4) (i : Fin 128) (s : Fin 8) : hRow (hTok x) (ix3 H 0 ⟨i * 8 + s, by omega⟩) = x (ix3 i H s) := by
  rw [hRow_at, hTok_at]
  congr 1
  ext a
  fin_cases a <;> simp <;> omega

theorem V48 (c : Dev nD) (H : Fin 4) (T : Fin 1024) (k : Fin 128) :
    (show FVec Ideal S4x1024x128 .f32 from V m c main_v48) (ix3 H T k) = mR (m (c, Proc.tc.devRef main_arg9)) ⟨T / 8, by omega⟩ H := by
  unfold V
  simp only [List.flatten_cons, List.flatten_nil, List.cons_append, List.nil_append, List.append_nil]
  entry_read
  pointwise [mR]
theorem V49 (c : Dev nD) (H : Fin 4) (T : Fin 1024) :
    (show FVec Ideal S4x1x1024 .f32 from V m c main_v49) (ix3 H 0 T) = mR (m (c, Proc.tc.devRef main_arg9)) ⟨T / 8, by omega⟩ H := by
  unfold V
  simp only [List.flatten_cons, List.flatten_nil, List.cons_append, List.nil_append, List.append_nil]
  entry_read
  pointwise [mR]
theorem V50 (c : Dev nD) (i : Fin 128) (H : Fin 4) (d e : Fin 256) :
    (show FVec Ideal S128x4x256x256 .f32 from V m c main_v50) (ix4 i H d e) = cR (m (c, Proc.tc.devRef main_arg7)) i H d e := by
  unfold V
  simp only [List.flatten_cons, List.flatten_nil, List.cons_append, List.nil_append, List.append_nil]
  entry_read
  pointwise [cR]
theorem V52 (c : Dev nD) (i : Fin 128) (A : Fin 1024) :
    (show FVec Ideal S128x1024 .f32 from V m c main_v52) (ix2 i A) = nR (m (c, Proc.tc.devRef main_arg8)) i ⟨A / 256, by omega⟩ ⟨A % 256, by omega⟩ := by
  unfold V
  simp only [List.flatten_cons, List.flatten_nil, List.cons_append, List.nil_append, List.append_nil]
  entry_read
  pointwise [nR]
theorem V1 (c : Dev nD) (A : Fin 11272) (x : Fin 2048) :
    (show FVec Ideal S11272x2048 .f32 from V m c main_v1) (ix2 A x) = (show FVec Ideal S1x2048x11272 .f32 from m (c, Proc.tc.devRef main_arg1)) (ix3 0 x A) := by
  unfold V
  simp only [List.flatten_cons, List.flatten_nil, List.cons_append, List.nil_append, List.append_nil]
  entry_read
  pointwise []
theorem V46 (c : Dev nD) (A : Fin 4096) :
    (show FVec Ideal S1x11264 .f32 from V m c main_v46) (ix2 0 ⟨7168 + A, by omega⟩) = (show FVec Ideal S1x11272 .f32 from m (c, Proc.tc.devRef main_arg2)) (ix2 0 ⟨7176 + A, by omega⟩) := by
  unfold V
  simp only [List.flatten_cons, List.flatten_nil, List.cons_append, List.nil_append, List.append_nil]
  entry_read
  pointwise []
  rw [dif_neg (by omega)]
  congr 1
  ext a
  fin_cases a <;> simp <;> omega

end Cert.Mlstm
end
-- ==== Proof.MlstmBlock.lean ====
module

public import proofs.«01_k».proof.Proof.Gen.KernelIdeal.Frame
public import proofs.«01_k».proof.Proof.MlstmOut
public import proofs.«01_k».proof.Proof.MlstmHost
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The blocks of the chunk step's call, read as entries of its arrays. -/

namespace Cert.Mlstm

open Cert.KernelIdeal Cert.KernelIdeal.Gen

variable (m : (ℓ : Loc nD τ sig) → Buf (Elt Ideal) ℓ)

/-- Where the windows' blocks lie at a point. -/
theorem idx : ∀ t : Fin cfg0.N,
    win0_0.index t = ![t.val % 8, 0] ∧ win0_1.index t = ![7176 + t.val / 8 * 1024, 0] ∧ win0_2.index t = ![0, 7 + t.val / 8] ∧
    win0_3.index t = ![64 + t.val / 4, t.val % 4] ∧ win0_4.index t = ![t.val % 4, 64 + t.val / 4] ∧ win0_5.index t = ![64 + t.val / 4, 4 + t.val % 4] ∧
    win0_6.index t = ![t.val % 4, 0, 64 + t.val / 4, 0] ∧ win0_7.index t = ![t.val % 4, 0, 64 + t.val / 4] ∧
    win0_8.index t = ![t.val % 4, t.val / 4, 0] ∧ win0_9.index t = ![t.val % 4, 0, t.val / 4] ∧
    win0_10.index t = ![t.val / 4, t.val % 4, 0, 0] ∧ win0_11.index t = ![t.val / 4, t.val % 4] ∧
    win0_12.index t = ![t.val % 8, t.val / 8] ∧ win0_13.index t = ![t.val / 4, t.val % 4] ∧ win0_14.index t = ![t.val / 4, t.val % 4, 0, 0] ∧
    win0_15.index t = ![t.val / 4, t.val % 4] ∧ win0_16.index t = ![t.val % 4, 0, t.val / 4] := (by decide +kernel : ∀ t : Fin grid0.N, _)

theorem idx1 : ∀ t : Fin cfg0.N, win0_1.index t = ![7176 + t.val / 8 * 1024, 0] := fun t => (idx t).2.1

theorem lt32 (t : Fin cfg0.N) : t.val < 32 := lt_of_lt_of_eq t.isLt (show cfg0.N = 32 from N_0)

/-- The guest that lane group `a` of a point's block holds, and the point's head. -/
def gst (t : Fin cfg0.N) (a : Fin 16) : Fin 128 := ⟨t.val / 4 * 16 + a, by have := lt32 t; omega⟩
def hd (t : Fin cfg0.N) : Fin 4 := ⟨t.val % 4, by omega⟩

theorem b0 (c : Dev nD) (t : Fin cfg0.N) (a : Fin 1152) (x : Fin 2048) (A : Fin 9216) (h : A.val = t.val % 8 * 1152 + a) :
    (show FVec Ideal S1152x2048 .bf16 from iblk m c 0 t) (ix2 a x) = (show FVec Ideal S9216x2048 .bf16 from m (c, Proc.tc.devRef main_arg0)) (ix2 A x) := by
  blk_point [iblk, V, idx t]
theorem b1 (c : Dev nD) (t : Fin cfg0.N) (a : Fin 1024) (x : Fin 2048) (A : Fin 11272) (h : A.val = 7176 + t.val / 8 * 1024 + a) :
    (show FVec Ideal S1024x2048 .f32 from iblk m c 1 t) (ix2 a x) = (show FVec Ideal S11272x2048 .f32 from V m c main_v1) (ix2 A x) := by
  show (show FVec Ideal S11272x2048 .f32 from V m c main_v1) _ = _
  refine congrArg (show FVec Ideal S11272x2048 .f32 from V m c main_v1) ?_
  ext b
  fin_cases b
  · refine ((win0_1.rect_emb_val_off t (ix2 a x) 0)).trans ?_
    rw [idx1 t]
    exact h.symm
  · refine ((win0_1.rect_emb_val_off t (ix2 a x) 1)).trans ?_
    rw [idx1 t]
    exact Nat.zero_add _
theorem b2 (c : Dev nD) (t : Fin cfg0.N) (a : Fin 1024) (A : Fin 11264) (h : A.val = (7 + t.val / 8) * 1024 + a) :
    (show FVec Ideal S1x1024 .f32 from iblk m c 2 t) (ix2 0 a) = (show FVec Ideal S1x11264 .f32 from V m c main_v46) (ix2 0 A) := by
  blk_point [iblk, idx t]
theorem b3 (c : Dev nD) (t : Fin cfg0.N) (a : Fin 16) (s : Fin 8) (d : Fin 256) :
    (show FVec Ideal S128x256 .bf16 from iblk m c 3 t) (ix2 (ln a s) d) = qR (m (c, Proc.tc.devRef main_arg3)) (gst t a) (hd t) s d := by
  unfold qR gst hd ln
  blk_point [iblk, V, idx t]
theorem b4 (c : Dev nD) (t : Fin cfg0.N) (a : Fin 16) (s : Fin 8) (d : Fin 256) :
    (show FVec Ideal S256x128 .bf16 from iblk m c 4 t) (ix2 d (ln a s)) = kR (m (c, Proc.tc.devRef main_arg4)) (gst t a) (hd t) s d := by
  unfold kR gst hd ln
  blk_point [iblk, V, idx t]
theorem b5 (c : Dev nD) (t : Fin cfg0.N) (a : Fin 16) (s : Fin 8) (d : Fin 256) :
    (show FVec Ideal S128x256 .bf16 from iblk m c 5 t) (ix2 (ln a s) d) = vR (m (c, Proc.tc.devRef main_arg3)) (gst t a) (hd t) s d := by
  unfold vR gst hd ln
  blk_point [iblk, V, idx t]
theorem b6 (c : Dev nD) (t : Fin cfg0.N) (a : Fin 2) (l k : Fin 128) (T : Fin 9216) (h : T.val = 8192 + t.val / 4 * 128 + l) :
    (show FVec Ideal S1x2x128x128 .f32 from iblk m c 6 t) (ix4 0 a l k) = (show FVec Ideal S4x2x9216x128 .f32 from V m c main_v39) (ix4 (hd t) a T k) := by
  unfold hd
  blk_point [iblk, idx t]
theorem b7 (c : Dev nD) (t : Fin cfg0.N) (r : Fin 8) (l : Fin 128) (T : Fin 9216) (h : T.val = 8192 + t.val / 4 * 128 + l) :
    (show FVec Ideal S1x8x128 .f32 from iblk m c 7 t) (ix3 0 r l) = (show FVec Ideal S4x8x9216 .f32 from V m c main_v41) (ix3 (hd t) r T) := by
  unfold hd
  blk_point [iblk, idx t]
theorem b8 (c : Dev nD) (t : Fin cfg0.N) (l k : Fin 128) (T : Fin 1024) (h : T.val = t.val / 4 * 128 + l) :
    (show FVec Ideal S1x128x128 .f32 from iblk m c 8 t) (ix3 0 l k) = (show FVec Ideal S4x1024x128 .f32 from V m c main_v48) (ix3 (hd t) T k) := by
  unfold hd
  blk_point [iblk, idx t]
theorem b9 (c : Dev nD) (t : Fin cfg0.N) (l : Fin 128) (T : Fin 1024) (h : T.val = t.val / 4 * 128 + l) :
    (show FVec Ideal S1x1x128 .f32 from iblk m c 9 t) (ix3 0 0 l) = (show FVec Ideal S4x1x1024 .f32 from V m c main_v49) (ix3 (hd t) 0 T) := by
  unfold hd
  blk_point [iblk, idx t]
theorem b10 (c : Dev nD) (t : Fin cfg0.N) (a : Fin 16) (d e : Fin 256) :
    (show FVec Ideal S16x1x256x256 .f32 from iblk m c 10 t) (ix4 a 0 d e) = cR (m (c, Proc.tc.devRef main_arg7)) (gst t a) (hd t) d e := by
  rw [← V50]
  unfold gst hd
  blk_point [iblk, idx t]
theorem b11 (c : Dev nD) (t : Fin cfg0.N) (a : Fin 16) (d : Fin 256) :
    (show FVec Ideal S16x256 .f32 from iblk m c 11 t) (ix2 a d) = nR (m (c, Proc.tc.devRef main_arg8)) (gst t a) (hd t) d := by
  have h := V52 m c (gst t a) ⟨(hd t).val * 256 + d, by have := (hd t).isLt; omega⟩
  have e : (⟨((hd t).val * 256 + d) / 256, by have := (hd t).isLt; omega⟩ : Fin 4) = hd t := Fin.ext (by dsimp only; omega)
  have e' : (⟨((hd t).val * 256 + d) % 256, by omega⟩ : Fin 256) = d := Fin.ext (by dsimp only; omega)
  rw [e, e'] at h
  rw [← h]
  unfold gst hd
  blk_point [iblk, idx t]

theorem mt_guest (i : Fin 128) (s : Fin 8) (x : FVec Ideal S1x128x4 .f32) (H : Fin 4) (T : Fin 1024) (h : T.val = i.val * 8 + s.val) :
    mR x ⟨T.val / 8, by omega⟩ H = mR x i H := by
  congr 1
  exact Fin.ext (by dsimp only; omega)

theorem tok_row (t : Fin cfg0.N) (a : Fin 16) (s : Fin 8) : 8192 + ((gst t a).val * 8 + s.val) = 8192 + t.val / 4 * 128 + (ln a s).val := by
  simp only [gst, ln]
  omega

/-- The row tables' blocks hold the gates of the point's guests. -/
theorem rows (c : Dev nD) (t : Fin cfg0.N) (hl : ∀ i h s, gR (m (c, Proc.tc.devRef main_arg6)) i h s < ⊤) :
    Rows (fun a => bR (m (c, Proc.tc.devRef main_arg6)) (gst t a) (hd t)) (fun a => gR (m (c, Proc.tc.devRef main_arg5)) (gst t a) (hd t))
      (fun a => mR (m (c, Proc.tc.devRef main_arg9)) (gst t a) (hd t)) (iblk m c 7 t) (iblk m c 9 t) where
  ig a s := by
    have hg := (gst t a).isLt
    refine (b7 m c t 0 (ln a s) ⟨8192 + ((gst t a).val * 8 + s.val), by omega⟩ (tok_row t a s)).trans ?_
    rw [V41]
    refine (hV41_row _ _ _ _ _ ⟨(gst t a).val * 8 + s.val, by omega⟩ rfl).trans ?_
    exact hRow_tok _ _ _ _
  b a s := by
    have hg := (gst t a).isLt
    refine (b7 m c t 1 (ln a s) ⟨8192 + ((gst t a).val * 8 + s.val), by omega⟩ (tok_row t a s)).trans ?_
    rw [V41]
    refine (hV41_row _ _ _ _ _ ⟨(gst t a).val * 8 + s.val, by omega⟩ rfl).trans ?_
    exact (hRow_tok _ _ _ _).trans (hB_at _ _ _ _)
  rest a s := by
    have hg := (gst t a).isLt
    refine (b7 m c t 2 (ln a s) ⟨8192 + ((gst t a).val * 8 + s.val), by omega⟩ (tok_row t a s)).trans ?_
    rw [V41]
    refine (hV41_row _ _ _ _ _ ⟨(gst t a).val * 8 + s.val, by omega⟩ rfl).trans ?_
    refine (hRow_tok (hRest (hB _)) _ _ _).trans ?_
    rw [hRest_at, hB_at, hB_at]
  m a s := by
    have hg := (gst t a).isLt
    have e := tok_row t a s
    refine (b9 m c t (ln a s) ⟨(gst t a).val * 8 + s.val, by omega⟩ (by dsimp only; omega)).trans ?_
    rw [V49]
    exact mt_guest _ s _ _ _ rfl
  tot a s := cum_rest _ (fun r => hl _ _ r) s

/-- The column tables' blocks likewise. -/
theorem cols (c : Dev nD) (t : Fin cfg0.N) :
    Cols (fun a => bR (m (c, Proc.tc.devRef main_arg6)) (gst t a) (hd t)) (fun a => gR (m (c, Proc.tc.devRef main_arg5)) (gst t a) (hd t))
      (fun a => mR (m (c, Proc.tc.devRef main_arg9)) (gst t a) (hd t)) (iblk m c 6 t) (iblk m c 8 t) where
  b a s k := by
    have hg := (gst t a).isLt
    refine (b6 m c t 0 (ln a s) k ⟨8192 + ((gst t a).val * 8 + s.val), by omega⟩ (tok_row t a s)).trans ?_
    rw [V39]
    exact (hV39_b _ _ _ _ _ (gst t a) s rfl).trans (hB_at _ _ _ _)
  mi a s k := by
    have hg := (gst t a).isLt
    refine (b6 m c t 1 (ln a s) k ⟨8192 + ((gst t a).val * 8 + s.val), by omega⟩ (tok_row t a s)).trans ?_
    rw [V39]
    exact (hV39_m _ _ _ _ _ (gst t a) s rfl).trans (hMi_at _ _ _ _ _)
  m a s k := by
    have hg := (gst t a).isLt
    have e := tok_row t a s
    refine (b8 m c t (ln a s) k ⟨(gst t a).val * 8 + s.val, by omega⟩ (by dsimp only; omega)).trans ?_
    rw [V48]
    exact mt_guest _ s _ _ _ rfl

end Cert.Mlstm
end
-- ==== Proof.MlstmValue.lean ====
module

public import proofs.«01_k».proof.Proof.Gen.KernelIdeal.Frame
public import proofs.«01_k».proof.Proof.MlstmBlock
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What one point of the chunk step's grid leaves in its four recurrence outputs. -/

namespace Cert.Mlstm

open Cert.KernelIdeal Cert.KernelIdeal.Gen

variable (m : (ℓ : Loc nD τ sig) → Buf (Elt Ideal) ℓ)

/-- The point's new maxima, in every row of the block. -/
theorem out16 (c : Dev nD) (t : Fin cfg0.N) (hl : ∀ i h s, gR (m (c, Proc.tc.devRef main_arg6)) i h s < ⊤) (r : Fin 8) (a : Fin 16) (s : Fin 8) :
    (outsAt0 m c t t.isLt).2.2.2.2.1 (ix3 0 r (ln a s)) =
      mt (bR (m (c, Proc.tc.devRef main_arg6)) (gst t a) (hd t)) (gR (m (c, Proc.tc.devRef main_arg5)) (gst t a) (hd t)) (mR (m (c, Proc.tc.devRef main_arg9)) (gst t a) (hd t)) 7 := by
  by_cases h : t.val % 8 = 0
  · rw [outsAt0_A m c t h]
    frame_out
    exact m_out (rows m c t hl) r a s
  · rw [outsAt0_B m c t h]
    frame_out
    exact m_out (rows m c t hl) r a s

/-- The point's new normalizer states. -/
theorem out15 (c : Dev nD) (t : Fin cfg0.N) (hl : ∀ i h s, gR (m (c, Proc.tc.devRef main_arg6)) i h s < ⊤) (a : Fin 16) (d : Fin 256) :
    (outsAt0 m c t t.isLt).2.2.2.1 (ix2 a d) =
      nNew (bR (m (c, Proc.tc.devRef main_arg6)) (gst t a) (hd t)) (gR (m (c, Proc.tc.devRef main_arg5)) (gst t a) (hd t)) (mR (m (c, Proc.tc.devRef main_arg9)) (gst t a) (hd t))
        (kR (m (c, Proc.tc.devRef main_arg4)) (gst t a) (hd t)) (nR (m (c, Proc.tc.devRef main_arg8)) (gst t a) (hd t)) d := by
  have hk : colsOf (iblk m c 4 t) a = kR (m (c, Proc.tc.devRef main_arg4)) (gst t a) (hd t) := by
    funext s d
    exact b4 m c t a s d
  have hn : (fun d => (show FVec Ideal S16x256 .f32 from iblk m c 11 t) (ix2 a d)) = nR (m (c, Proc.tc.devRef main_arg8)) (gst t a) (hd t) := by
    funext d
    exact b11 m c t a d
  rw [← hk, ← hn]
  by_cases h : t.val % 8 = 0
  · rw [outsAt0_A m c t h]
    frame_out
    exact n_lane (rows m c t hl) a d
  · rw [outsAt0_B m c t h]
    frame_out
    exact n_lane (rows m c t hl) a d

/-- A block's part for one guest. -/
def part1 (X : FVec Ideal S16x1x256x256 .f32) (i : Fin 16) : FVec Ideal S1x1x256x256 .f32 := fun x => X (ix4 i 0 (x 2) (x 3))

/-- The coordinates of a guest's entries in the block. -/
theorem part_at (i : Fin 16) (z : S1x1x256x256.Idx) (b : Fin 4) : ((ix4 i 0 (z 2) (z 3) : S16x1x256x256.Idx) b : ℕ) = ![i.val, 0, 0, 0] b + (z b).val := by
  have z0 : (z 0).val < 1 := (z 0).isLt
  have z1 : (z 1).val < 1 := (z 1).isLt
  fin_cases b
  · show i.val = i.val + (z 0).val
    omega
  · show 0 = 0 + (z 1).val
    omega
  · exact (Nat.zero_add _).symm
  · exact (Nat.zero_add _).symm

/-- One guest's stored part holds the guest's new matrix state. -/
theorem piece {B IG : Fin 16 → Fin 8 → EReal} {MM : Fin 16 → EReal} {g : FVec Ideal S1x8x128 .f32} {mr : FVec Ideal S1x1x128 .f32} (R : Rows B IG MM g mr)
    (kt : FVec Ideal S256x128 .bf16) (V : FVec Ideal S128x256 .bf16) (CC : FVec Ideal S16x1x256x256 .f32) (i : Fin 16) (X p : FVec Ideal S1x1x256x256 .f32)
    (x : S1x1x256x256.Idx) (y : S16x1x256x256.Idx) (h0 : (y 0).val = i.val + (x 0).val) (h2 : (y 2).val = (x 2).val) (h3 : (y 3).val = (x 3).val)
    (hX : X = part1 CC i)
    (hp : ∀ d e, p (ix4 0 0 d e) = k0_pay22 (F := Ideal) (k0_pay5 g) (k0_pay6 g) (k0_pay7 g) (k0_pay10 mr) (ix2 0 (ln i 0)) * X (ix4 0 0 d e) +
      ∑ s : Fin 8, k0_pay25 (F := Ideal) (k0_pay23 kt) (k0_pay24 (k0_pay5 g) (k0_pay6 g) (k0_pay7 g) (k0_pay10 mr)) (ix2 d (ln i s)) * V (ix2 (ln i s) e)) :
    p x = cNew (B (y 0)) (IG (y 0)) (MM (y 0)) (colsOf kt (y 0)) (rowsOf V (y 0)) (fun d e => CC (ix4 (y 0) 0 d e)) (y 2) (y 3) := by
  have hx0 : (x 0).val < 1 := (x 0).isLt
  have hx1 : (x 1).val < 1 := (x 1).isLt
  have ex : x = (ix4 0 0 (y 2) (y 3) : S1x1x256x256.Idx) := by
    funext b
    fin_cases b
    · exact Fin.ext (by show (x 0).val = 0; omega)
    · exact Fin.ext (by show (x 1).val = 0; omega)
    · exact Fin.ext h2.symm
    · exact Fin.ext h3.symm
  have e0 : i = y 0 := Fin.ext (by omega)
  subst e0
  rw [ex]
  refine (hp _ _).trans ?_
  exact c_lane R _ (fun d e => CC (ix4 (y 0) 0 d e)) (y 0) (y 2) (y 3) (by rw [hX]; rfl)

/-- The point's new matrix states. -/
theorem out14 (c : Dev nD) (t : Fin cfg0.N) (hl : ∀ i h s, gR (m (c, Proc.tc.devRef main_arg6)) i h s < ⊤) (y : S16x1x256x256.Idx) :
    (outsAt0 m c t t.isLt).2.2.1 y =
      cNew (bR (m (c, Proc.tc.devRef main_arg6)) (gst t (y 0)) (hd t)) (gR (m (c, Proc.tc.devRef main_arg5)) (gst t (y 0)) (hd t)) (mR (m (c, Proc.tc.devRef main_arg9)) (gst t (y 0)) (hd t))
        (kR (m (c, Proc.tc.devRef main_arg4)) (gst t (y 0)) (hd t)) (vR (m (c, Proc.tc.devRef main_arg3)) (gst t (y 0)) (hd t)) (cR (m (c, Proc.tc.devRef main_arg7)) (gst t (y 0)) (hd t)) (y 2) (y 3) := by
  have hk : colsOf (iblk m c 4 t) (y 0) = kR (m (c, Proc.tc.devRef main_arg4)) (gst t (y 0)) (hd t) := by
    funext s d
    exact b4 m c t (y 0) s d
  have hv : rowsOf (iblk m c 5 t) (y 0) = vR (m (c, Proc.tc.devRef main_arg3)) (gst t (y 0)) (hd t) := by
    funext s d
    exact b5 m c t (y 0) s d
  have hc : (fun d e => (show FVec Ideal S16x1x256x256 .f32 from iblk m c 10 t) (ix4 (y 0) 0 d e)) = cR (m (c, Proc.tc.devRef main_arg7)) (gst t (y 0)) (hd t) := by
    funext d e
    exact b10 m c t (y 0) d e
  rw [← hk, ← hv, ← hc]
  have R := rows m c t hl
  by_cases h : t.val % 8 = 0
  · rw [outsAt0_A m c t h]
    frame_out
    canon_tiles x u
    · generalize hX : View.ld (iblk m c 10 t) (Rect.unit ![15, 0, 0, 0] ![1, 1, 256, 256] inb_S16x1x256x256_S1x1x256x256_15_0_0_0) = X
      refine piece R _ _ _ 15 X _ x y u0 u2 u3 ?_ (fun d e => ?_)
      · exact hX.symm.trans (funext fun z => View.ld_unit_apply_of _ _ _ _ z _ (part_at 15 z))
      · exact c15_at _ _ _ _ d e
    · generalize hX : View.ld (iblk m c 10 t) (Rect.unit ![14, 0, 0, 0] ![1, 1, 256, 256] inb_S16x1x256x256_S1x1x256x256_14_0_0_0) = X
      refine piece R _ _ _ 14 X _ x y u0 u2 u3 ?_ (fun d e => ?_)
      · exact hX.symm.trans (funext fun z => View.ld_unit_apply_of _ _ _ _ z _ (part_at 14 z))
      · exact c14_at _ _ _ _ d e
    · generalize hX : View.ld (iblk m c 10 t) (Rect.unit ![13, 0, 0, 0] ![1, 1, 256, 256] inb_S16x1x256x256_S1x1x256x256_13_0_0_0) = X
      refine piece R _ _ _ 13 X _ x y u0 u2 u3 ?_ (fun d e => ?_)
      · exact hX.symm.trans (funext fun z => View.ld_unit_apply_of _ _ _ _ z _ (part_at 13 z))
      · exact c13_at _ _ _ _ d e
    · generalize hX : View.ld (iblk m c 10 t) (Rect.unit ![12, 0, 0, 0] ![1, 1, 256, 256] inb_S16x1x256x256_S1x1x256x256_12_0_0_0) = X
      refine piece R _ _ _ 12 X _ x y u0 u2 u3 ?_ (fun d e => ?_)
      · exact hX.symm.trans (funext fun z => View.ld_unit_apply_of _ _ _ _ z _ (part_at 12 z))
      · exact c12_at _ _ _ _ d e
    · generalize hX : View.ld (iblk m c 10 t) (Rect.unit ![11, 0, 0, 0] ![1, 1, 256, 256] inb_S16x1x256x256_S1x1x256x256_11_0_0_0) = X
      refine piece R _ _ _ 11 X _ x y u0 u2 u3 ?_ (fun d e => ?_)
      · exact hX.symm.trans (funext fun z => View.ld_unit_apply_of _ _ _ _ z _ (part_at 11 z))
      · exact c11_at _ _ _ _ d e
    · generalize hX : View.ld (iblk m c 10 t) (Rect.unit ![10, 0, 0, 0] ![1, 1, 256, 256] inb_S16x1x256x256_S1x1x256x256_10_0_0_0) = X
      refine piece R _ _ _ 10 X _ x y u0 u2 u3 ?_ (fun d e => ?_)
      · exact hX.symm.trans (funext fun z => View.ld_unit_apply_of _ _ _ _ z _ (part_at 10 z))
      · exact c10_at _ _ _ _ d e
    · generalize hX : View.ld (iblk m c 10 t) (Rect.unit ![9, 0, 0, 0] ![1, 1, 256, 256] inb_S16x1x256x256_S1x1x256x256_9_0_0_0) = X
      refine piece R _ _ _ 9 X _ x y u0 u2 u3 ?_ (fun d e => ?_)
      · exact hX.symm.trans (funext fun z => View.ld_unit_apply_of _ _ _ _ z _ (part_at 9 z))
      · exact c9_at _ _ _ _ d e
    · generalize hX : View.ld (iblk m c 10 t) (Rect.unit ![8, 0, 0, 0] ![1, 1, 256, 256] inb_S16x1x256x256_S1x1x256x256_8_0_0_0) = X
      refine piece R _ _ _ 8 X _ x y u0 u2 u3 ?_ (fun d e => ?_)
      · exact hX.symm.trans (funext fun z => View.ld_unit_apply_of _ _ _ _ z _ (part_at 8 z))
      · exact c8_at _ _ _ _ d e
    · generalize hX : View.ld (iblk m c 10 t) (Rect.unit ![7, 0, 0, 0] ![1, 1, 256, 256] inb_S16x1x256x256_S1x1x256x256_7_0_0_0) = X
      refine piece R _ _ _ 7 X _ x y u0 u2 u3 ?_ (fun d e => ?_)
      · exact hX.symm.trans (funext fun z => View.ld_unit_apply_of _ _ _ _ z _ (part_at 7 z))
      · exact c7_at _ _ _ _ d e
    · generalize hX : View.ld (iblk m c 10 t) (Rect.unit ![6, 0, 0, 0] ![1, 1, 256, 256] inb_S16x1x256x256_S1x1x256x256_6_0_0_0) = X
      refine piece R _ _ _ 6 X _ x y u0 u2 u3 ?_ (fun d e => ?_)
      · exact hX.symm.trans (funext fun z => View.ld_unit_apply_of _ _ _ _ z _ (part_at 6 z))
      · exact c6_at _ _ _ _ d e
    · generalize hX : View.ld (iblk m c 10 t) (Rect.unit ![5, 0, 0, 0] ![1, 1, 256, 256] inb_S16x1x256x256_S1x1x256x256_5_0_0_0) = X
      refine piece R _ _ _ 5 X _ x y u0 u2 u3 ?_ (fun d e => ?_)
      · exact hX.symm.trans (funext fun z => View.ld_unit_apply_of _ _ _ _ z _ (part_at 5 z))
      · exact c5_at _ _ _ _ d e
    · generalize hX : View.ld (iblk m c 10 t) (Rect.unit ![4, 0, 0, 0] ![1, 1, 256, 256] inb_S16x1x256x256_S1x1x256x256_4_0_0_0) = X
      refine piece R _ _ _ 4 X _ x y u0 u2 u3 ?_ (fun d e => ?_)
      · exact hX.symm.trans (funext fun z => View.ld_unit_apply_of _ _ _ _ z _ (part_at 4 z))
      · exact c4_at _ _ _ _ d e
    · generalize hX : View.ld (iblk m c 10 t) (Rect.unit ![3, 0, 0, 0] ![1, 1, 256, 256] inb_S16x1x256x256_S1x1x256x256_3_0_0_0) = X
      refine piece R _ _ _ 3 X _ x y u0 u2 u3 ?_ (fun d e => ?_)
      · exact hX.symm.trans (funext fun z => View.ld_unit_apply_of _ _ _ _ z _ (part_at 3 z))
      · exact c3_at _ _ _ _ d e
    · generalize hX : View.ld (iblk m c 10 t) (Rect.unit ![2, 0, 0, 0] ![1, 1, 256, 256] inb_S16x1x256x256_S1x1x256x256_2_0_0_0) = X
      refine piece R _ _ _ 2 X _ x y u0 u2 u3 ?_ (fun d e => ?_)
      · exact hX.symm.trans (funext fun z => View.ld_unit_apply_of _ _ _ _ z _ (part_at 2 z))
      · exact c2_at _ _ _ _ d e
    · generalize hX : View.ld (iblk m c 10 t) (Rect.unit ![1, 0, 0, 0] ![1, 1, 256, 256] inb_S16x1x256x256_S1x1x256x256_1_0_0_0) = X
      refine piece R _ _ _ 1 X _ x y u0 u2 u3 ?_ (fun d e => ?_)
      · exact hX.symm.trans (funext fun z => View.ld_unit_apply_of _ _ _ _ z _ (part_at 1 z))
      · exact c1_at _ _ _ _ d e
    · generalize hX : View.ld (iblk m c 10 t) (Rect.unit ![0, 0, 0, 0] ![1, 1, 256, 256] inb_S16x1x256x256_S1x1x256x256_0_0_0_0) = X
      refine piece R _ _ _ 0 X _ x y (u0.trans (Nat.zero_add _).symm) u2 u3 ?_ (fun d e => ?_)
      · exact hX.symm.trans (funext fun z => View.ld_unit_apply_of _ _ _ _ z _ (part_at 0 z))
      · exact c0_at _ _ _ _ d e
  · rw [outsAt0_B m c t h]
    frame_out
    canon_tiles x u
    · generalize hX : View.ld (iblk m c 10 t) (Rect.unit ![15, 0, 0, 0] ![1, 1, 256, 256] inb_S16x1x256x256_S1x1x256x256_15_0_0_0) = X
      refine piece R _ _ _ 15 X _ x y u0 u2 u3 ?_ (fun d e => ?_)
      · exact hX.symm.trans (funext fun z => View.ld_unit_apply_of _ _ _ _ z _ (part_at 15 z))
      · exact c15_at _ _ _ _ d e
    · generalize hX : View.ld (iblk m c 10 t) (Rect.unit ![14, 0, 0, 0] ![1, 1, 256, 256] inb_S16x1x256x256_S1x1x256x256_14_0_0_0) = X
      refine piece R _ _ _ 14 X _ x y u0 u2 u3 ?_ (fun d e => ?_)
      · exact hX.symm.trans (funext fun z => View.ld_unit_apply_of _ _ _ _ z _ (part_at 14 z))
      · exact c14_at _ _ _ _ d e
    · generalize hX : View.ld (iblk m c 10 t) (Rect.unit ![13, 0, 0, 0] ![1, 1, 256, 256] inb_S16x1x256x256_S1x1x256x256_13_0_0_0) = X
      refine piece R _ _ _ 13 X _ x y u0 u2 u3 ?_ (fun d e => ?_)
      · exact hX.symm.trans (funext fun z => View.ld_unit_apply_of _ _ _ _ z _ (part_at 13 z))
      · exact c13_at _ _ _ _ d e
    · generalize hX : View.ld (iblk m c 10 t) (Rect.unit ![12, 0, 0, 0] ![1, 1, 256, 256] inb_S16x1x256x256_S1x1x256x256_12_0_0_0) = X
      refine piece R _ _ _ 12 X _ x y u0 u2 u3 ?_ (fun d e => ?_)
      · exact hX.symm.trans (funext fun z => View.ld_unit_apply_of _ _ _ _ z _ (part_at 12 z))
      · exact c12_at _ _ _ _ d e
    · generalize hX : View.ld (iblk m c 10 t) (Rect.unit ![11, 0, 0, 0] ![1, 1, 256, 256] inb_S16x1x256x256_S1x1x256x256_11_0_0_0) = X
      refine piece R _ _ _ 11 X _ x y u0 u2 u3 ?_ (fun d e => ?_)
      · exact hX.symm.trans (funext fun z => View.ld_unit_apply_of _ _ _ _ z _ (part_at 11 z))
      · exact c11_at _ _ _ _ d e
    · generalize hX : View.ld (iblk m c 10 t) (Rect.unit ![10, 0, 0, 0] ![1, 1, 256, 256] inb_S16x1x256x256_S1x1x256x256_10_0_0_0) = X
      refine piece R _ _ _ 10 X _ x y u0 u2 u3 ?_ (fun d e => ?_)
      · exact hX.symm.trans (funext fun z => View.ld_unit_apply_of _ _ _ _ z _ (part_at 10 z))
      · exact c10_at _ _ _ _ d e
    · generalize hX : View.ld (iblk m c 10 t) (Rect.unit ![9, 0, 0, 0] ![1, 1, 256, 256] inb_S16x1x256x256_S1x1x256x256_9_0_0_0) = X
      refine piece R _ _ _ 9 X _ x y u0 u2 u3 ?_ (fun d e => ?_)
      · exact hX.symm.trans (funext fun z => View.ld_unit_apply_of _ _ _ _ z _ (part_at 9 z))
      · exact c9_at _ _ _ _ d e
    · generalize hX : View.ld (iblk m c 10 t) (Rect.unit ![8, 0, 0, 0] ![1, 1, 256, 256] inb_S16x1x256x256_S1x1x256x256_8_0_0_0) = X
      refine piece R _ _ _ 8 X _ x y u0 u2 u3 ?_ (fun d e => ?_)
      · exact hX.symm.trans (funext fun z => View.ld_unit_apply_of _ _ _ _ z _ (part_at 8 z))
      · exact c8_at _ _ _ _ d e
    · generalize hX : View.ld (iblk m c 10 t) (Rect.unit ![7, 0, 0, 0] ![1, 1, 256, 256] inb_S16x1x256x256_S1x1x256x256_7_0_0_0) = X
      refine piece R _ _ _ 7 X _ x y u0 u2 u3 ?_ (fun d e => ?_)
      · exact hX.symm.trans (funext fun z => View.ld_unit_apply_of _ _ _ _ z _ (part_at 7 z))
      · exact c7_at _ _ _ _ d e
    · generalize hX : View.ld (iblk m c 10 t) (Rect.unit ![6, 0, 0, 0] ![1, 1, 256, 256] inb_S16x1x256x256_S1x1x256x256_6_0_0_0) = X
      refine piece R _ _ _ 6 X _ x y u0 u2 u3 ?_ (fun d e => ?_)
      · exact hX.symm.trans (funext fun z => View.ld_unit_apply_of _ _ _ _ z _ (part_at 6 z))
      · exact c6_at _ _ _ _ d e
    · generalize hX : View.ld (iblk m c 10 t) (Rect.unit ![5, 0, 0, 0] ![1, 1, 256, 256] inb_S16x1x256x256_S1x1x256x256_5_0_0_0) = X
      refine piece R _ _ _ 5 X _ x y u0 u2 u3 ?_ (fun d e => ?_)
      · exact hX.symm.trans (funext fun z => View.ld_unit_apply_of _ _ _ _ z _ (part_at 5 z))
      · exact c5_at _ _ _ _ d e
    · generalize hX : View.ld (iblk m c 10 t) (Rect.unit ![4, 0, 0, 0] ![1, 1, 256, 256] inb_S16x1x256x256_S1x1x256x256_4_0_0_0) = X
      refine piece R _ _ _ 4 X _ x y u0 u2 u3 ?_ (fun d e => ?_)
      · exact hX.symm.trans (funext fun z => View.ld_unit_apply_of _ _ _ _ z _ (part_at 4 z))
      · exact c4_at _ _ _ _ d e
    · generalize hX : View.ld (iblk m c 10 t) (Rect.unit ![3, 0, 0, 0] ![1, 1, 256, 256] inb_S16x1x256x256_S1x1x256x256_3_0_0_0) = X
      refine piece R _ _ _ 3 X _ x y u0 u2 u3 ?_ (fun d e => ?_)
      · exact hX.symm.trans (funext fun z => View.ld_unit_apply_of _ _ _ _ z _ (part_at 3 z))
      · exact c3_at _ _ _ _ d e
    · generalize hX : View.ld (iblk m c 10 t) (Rect.unit ![2, 0, 0, 0] ![1, 1, 256, 256] inb_S16x1x256x256_S1x1x256x256_2_0_0_0) = X
      refine piece R _ _ _ 2 X _ x y u0 u2 u3 ?_ (fun d e => ?_)
      · exact hX.symm.trans (funext fun z => View.ld_unit_apply_of _ _ _ _ z _ (part_at 2 z))
      · exact c2_at _ _ _ _ d e
    · generalize hX : View.ld (iblk m c 10 t) (Rect.unit ![1, 0, 0, 0] ![1, 1, 256, 256] inb_S16x1x256x256_S1x1x256x256_1_0_0_0) = X
      refine piece R _ _ _ 1 X _ x y u0 u2 u3 ?_ (fun d e => ?_)
      · exact hX.symm.trans (funext fun z => View.ld_unit_apply_of _ _ _ _ z _ (part_at 1 z))
      · exact c1_at _ _ _ _ d e
    · generalize hX : View.ld (iblk m c 10 t) (Rect.unit ![0, 0, 0, 0] ![1, 1, 256, 256] inb_S16x1x256x256_S1x1x256x256_0_0_0_0) = X
      refine piece R _ _ _ 0 X _ x y (u0.trans (Nat.zero_add _).symm) u2 u3 ?_ (fun d e => ?_)
      · exact hX.symm.trans (funext fun z => View.ld_unit_apply_of _ _ _ _ z _ (part_at 0 z))
      · exact c0_at _ _ _ _ d e

/-- The point's heads. -/
theorem out13 (c : Dev nD) (t : Fin cfg0.N) (hl : ∀ i h s, gR (m (c, Proc.tc.devRef main_arg6)) i h s < ⊤) (hi : ∀ i h s, gR (m (c, Proc.tc.devRef main_arg5)) i h s < ⊤)
    (hm : ∀ i h, mR (m (c, Proc.tc.devRef main_arg9)) i h < ⊤) (a : Fin 16) (s : Fin 8) (e : Fin 256) :
    (outsAt0 m c t t.isLt).2.1 (ix2 (ln a s) e) =
      hOf (bR (m (c, Proc.tc.devRef main_arg6)) (gst t a) (hd t)) (gR (m (c, Proc.tc.devRef main_arg5)) (gst t a) (hd t)) (mR (m (c, Proc.tc.devRef main_arg9)) (gst t a) (hd t))
        (qR (m (c, Proc.tc.devRef main_arg3)) (gst t a) (hd t)) (kR (m (c, Proc.tc.devRef main_arg4)) (gst t a) (hd t)) (vR (m (c, Proc.tc.devRef main_arg3)) (gst t a) (hd t))
        (cR (m (c, Proc.tc.devRef main_arg7)) (gst t a) (hd t)) (nR (m (c, Proc.tc.devRef main_arg8)) (gst t a) (hd t)) s e := by
  have hk : colsOf (iblk m c 4 t) a = kR (m (c, Proc.tc.devRef main_arg4)) (gst t a) (hd t) := by
    funext s d
    exact b4 m c t a s d
  have hv : rowsOf (iblk m c 5 t) a = vR (m (c, Proc.tc.devRef main_arg3)) (gst t a) (hd t) := by
    funext s d
    exact b5 m c t a s d
  have hq : rowsOf (iblk m c 3 t) a = qR (m (c, Proc.tc.devRef main_arg3)) (gst t a) (hd t) := by
    funext s d
    exact b3 m c t a s d
  have hc : (fun d e => (show FVec Ideal S16x1x256x256 .f32 from iblk m c 10 t) (ix4 a 0 d e)) = cR (m (c, Proc.tc.devRef main_arg7)) (gst t a) (hd t) := by
    funext d e
    exact b10 m c t a d e
  have hn : (fun d => (show FVec Ideal S16x256 .f32 from iblk m c 11 t) (ix2 a d)) = nR (m (c, Proc.tc.devRef main_arg8)) (gst t a) (hd t) := by
    funext d
    exact b11 m c t a d
  rw [← hk, ← hv, ← hq, ← hc, ← hn]
  have R := rows m c t hl
  have K := cols m c t
  have ht : ∀ (a : Fin 16) (s : Fin 8), mt (bR (m (c, Proc.tc.devRef main_arg6)) (gst t a) (hd t)) (gR (m (c, Proc.tc.devRef main_arg5)) (gst t a) (hd t))
      (mR (m (c, Proc.tc.devRef main_arg9)) (gst t a) (hd t)) s ≠ ⊤ := fun a s => mt_ne_top _ _ _ (hl _ _) (hi _ _) (hm _ _) s
  by_cases h : t.val % 8 = 0
  · rw [outsAt0_A m c t h]
    frame_out
    generalize hX0 : View.ld (iblk m c 10 t) (Rect.unit ![0, 0, 0, 0] ![1, 1, 256, 256] inb_S16x1x256x256_S1x1x256x256_0_0_0_0) = X0
    generalize hX1 : View.ld (iblk m c 10 t) (Rect.unit ![1, 0, 0, 0] ![1, 1, 256, 256] inb_S16x1x256x256_S1x1x256x256_1_0_0_0) = X1
    generalize hX2 : View.ld (iblk m c 10 t) (Rect.unit ![2, 0, 0, 0] ![1, 1, 256, 256] inb_S16x1x256x256_S1x1x256x256_2_0_0_0) = X2
    generalize hX3 : View.ld (iblk m c 10 t) (Rect.unit ![3, 0, 0, 0] ![1, 1, 256, 256] inb_S16x1x256x256_S1x1x256x256_3_0_0_0) = X3
    generalize hX4 : View.ld (iblk m c 10 t) (Rect.unit ![4, 0, 0, 0] ![1, 1, 256, 256] inb_S16x1x256x256_S1x1x256x256_4_0_0_0) = X4
    generalize hX5 : View.ld (iblk m c 10 t) (Rect.unit ![5, 0, 0, 0] ![1, 1, 256, 256] inb_S16x1x256x256_S1x1x256x256_5_0_0_0) = X5
    generalize hX6 : View.ld (iblk m c 10 t) (Rect.unit ![6, 0, 0, 0] ![1, 1, 256, 256] inb_S16x1x256x256_S1x1x256x256_6_0_0_0) = X6
    generalize hX7 : View.ld (iblk m c 10 t) (Rect.unit ![7, 0, 0, 0] ![1, 1, 256, 256] inb_S16x1x256x256_S1x1x256x256_7_0_0_0) = X7
    generalize hX8 : View.ld (iblk m c 10 t) (Rect.unit ![8, 0, 0, 0] ![1, 1, 256, 256] inb_S16x1x256x256_S1x1x256x256_8_0_0_0) = X8
    generalize hX9 : View.ld (iblk m c 10 t) (Rect.unit ![9, 0, 0, 0] ![1, 1, 256, 256] inb_S16x1x256x256_S1x1x256x256_9_0_0_0) = X9
    generalize hX10 : View.ld (iblk m c 10 t) (Rect.unit ![10, 0, 0, 0] ![1, 1, 256, 256] inb_S16x1x256x256_S1x1x256x256_10_0_0_0) = X10
    generalize hX11 : View.ld (iblk m c 10 t) (Rect.unit ![11, 0, 0, 0] ![1, 1, 256, 256] inb_S16x1x256x256_S1x1x256x256_11_0_0_0) = X11
    generalize hX12 : View.ld (iblk m c 10 t) (Rect.unit ![12, 0, 0, 0] ![1, 1, 256, 256] inb_S16x1x256x256_S1x1x256x256_12_0_0_0) = X12
    generalize hX13 : View.ld (iblk m c 10 t) (Rect.unit ![13, 0, 0, 0] ![1, 1, 256, 256] inb_S16x1x256x256_S1x1x256x256_13_0_0_0) = X13
    generalize hX14 : View.ld (iblk m c 10 t) (Rect.unit ![14, 0, 0, 0] ![1, 1, 256, 256] inb_S16x1x256x256_S1x1x256x256_14_0_0_0) = X14
    generalize hX15 : View.ld (iblk m c 10 t) (Rect.unit ![15, 0, 0, 0] ![1, 1, 256, 256] inb_S16x1x256x256_S1x1x256x256_15_0_0_0) = X15
    obtain rfl : X0 = part1 (iblk m c 10 t) 0 := hX0.symm.trans (funext fun z => View.ld_unit_apply_of _ _ _ _ z _ (part_at 0 z))
    obtain rfl : X1 = part1 (iblk m c 10 t) 1 := hX1.symm.trans (funext fun z => View.ld_unit_apply_of _ _ _ _ z _ (part_at 1 z))
    obtain rfl : X2 = part1 (iblk m c 10 t) 2 := hX2.symm.trans (funext fun z => View.ld_unit_apply_of _ _ _ _ z _ (part_at 2 z))
    obtain rfl : X3 = part1 (iblk m c 10 t) 3 := hX3.symm.trans (funext fun z => View.ld_unit_apply_of _ _ _ _ z _ (part_at 3 z))
    obtain rfl : X4 = part1 (iblk m c 10 t) 4 := hX4.symm.trans (funext fun z => View.ld_unit_apply_of _ _ _ _ z _ (part_at 4 z))
    obtain rfl : X5 = part1 (iblk m c 10 t) 5 := hX5.symm.trans (funext fun z => View.ld_unit_apply_of _ _ _ _ z _ (part_at 5 z))
    obtain rfl : X6 = part1 (iblk m c 10 t) 6 := hX6.symm.trans (funext fun z => View.ld_unit_apply_of _ _ _ _ z _ (part_at 6 z))
    obtain rfl : X7 = part1 (iblk m c 10 t) 7 := hX7.symm.trans (funext fun z => View.ld_unit_apply_of _ _ _ _ z _ (part_at 7 z))
    obtain rfl : X8 = part1 (iblk m c 10 t) 8 := hX8.symm.trans (funext fun z => View.ld_unit_apply_of _ _ _ _ z _ (part_at 8 z))
    obtain rfl : X9 = part1 (iblk m c 10 t) 9 := hX9.symm.trans (funext fun z => View.ld_unit_apply_of _ _ _ _ z _ (part_at 9 z))
    obtain rfl : X10 = part1 (iblk m c 10 t) 10 := hX10.symm.trans (funext fun z => View.ld_unit_apply_of _ _ _ _ z _ (part_at 10 z))
    obtain rfl : X11 = part1 (iblk m c 10 t) 11 := hX11.symm.trans (funext fun z => View.ld_unit_apply_of _ _ _ _ z _ (part_at 11 z))
    obtain rfl : X12 = part1 (iblk m c 10 t) 12 := hX12.symm.trans (funext fun z => View.ld_unit_apply_of _ _ _ _ z _ (part_at 12 z))
    obtain rfl : X13 = part1 (iblk m c 10 t) 13 := hX13.symm.trans (funext fun z => View.ld_unit_apply_of _ _ _ _ z _ (part_at 13 z))
    obtain rfl : X14 = part1 (iblk m c 10 t) 14 := hX14.symm.trans (funext fun z => View.ld_unit_apply_of _ _ _ _ z _ (part_at 14 z))
    obtain rfl : X15 = part1 (iblk m c 10 t) 15 := hX15.symm.trans (funext fun z => View.ld_unit_apply_of _ _ _ _ z _ (part_at 15 z))
    exact (congrFun (pay122_stack _ _ _ _ (part1 (iblk m c 10 t))) _).trans (h_lane R K ht (part1 (iblk m c 10 t)) a s e)
  · rw [outsAt0_B m c t h]
    frame_out
    generalize hX0 : View.ld (iblk m c 10 t) (Rect.unit ![0, 0, 0, 0] ![1, 1, 256, 256] inb_S16x1x256x256_S1x1x256x256_0_0_0_0) = X0
    generalize hX1 : View.ld (iblk m c 10 t) (Rect.unit ![1, 0, 0, 0] ![1, 1, 256, 256] inb_S16x1x256x256_S1x1x256x256_1_0_0_0) = X1
    generalize hX2 : View.ld (iblk m c 10 t) (Rect.unit ![2, 0, 0, 0] ![1, 1, 256, 256] inb_S16x1x256x256_S1x1x256x256_2_0_0_0) = X2
    generalize hX3 : View.ld (iblk m c 10 t) (Rect.unit ![3, 0, 0, 0] ![1, 1, 256, 256] inb_S16x1x256x256_S1x1x256x256_3_0_0_0) = X3
    generalize hX4 : View.ld (iblk m c 10 t) (Rect.unit ![4, 0, 0, 0] ![1, 1, 256, 256] inb_S16x1x256x256_S1x1x256x256_4_0_0_0) = X4
    generalize hX5 : View.ld (iblk m c 10 t) (Rect.unit ![5, 0, 0, 0] ![1, 1, 256, 256] inb_S16x1x256x256_S1x1x256x256_5_0_0_0) = X5
    generalize hX6 : View.ld (iblk m c 10 t) (Rect.unit ![6, 0, 0, 0] ![1, 1, 256, 256] inb_S16x1x256x256_S1x1x256x256_6_0_0_0) = X6
    generalize hX7 : View.ld (iblk m c 10 t) (Rect.unit ![7, 0, 0, 0] ![1, 1, 256, 256] inb_S16x1x256x256_S1x1x256x256_7_0_0_0) = X7
    generalize hX8 : View.ld (iblk m c 10 t) (Rect.unit ![8, 0, 0, 0] ![1, 1, 256, 256] inb_S16x1x256x256_S1x1x256x256_8_0_0_0) = X8
    generalize hX9 : View.ld (iblk m c 10 t) (Rect.unit ![9, 0, 0, 0] ![1, 1, 256, 256] inb_S16x1x256x256_S1x1x256x256_9_0_0_0) = X9
    generalize hX10 : View.ld (iblk m c 10 t) (Rect.unit ![10, 0, 0, 0] ![1, 1, 256, 256] inb_S16x1x256x256_S1x1x256x256_10_0_0_0) = X10
    generalize hX11 : View.ld (iblk m c 10 t) (Rect.unit ![11, 0, 0, 0] ![1, 1, 256, 256] inb_S16x1x256x256_S1x1x256x256_11_0_0_0) = X11
    generalize hX12 : View.ld (iblk m c 10 t) (Rect.unit ![12, 0, 0, 0] ![1, 1, 256, 256] inb_S16x1x256x256_S1x1x256x256_12_0_0_0) = X12
    generalize hX13 : View.ld (iblk m c 10 t) (Rect.unit ![13, 0, 0, 0] ![1, 1, 256, 256] inb_S16x1x256x256_S1x1x256x256_13_0_0_0) = X13
    generalize hX14 : View.ld (iblk m c 10 t) (Rect.unit ![14, 0, 0, 0] ![1, 1, 256, 256] inb_S16x1x256x256_S1x1x256x256_14_0_0_0) = X14
    generalize hX15 : View.ld (iblk m c 10 t) (Rect.unit ![15, 0, 0, 0] ![1, 1, 256, 256] inb_S16x1x256x256_S1x1x256x256_15_0_0_0) = X15
    obtain rfl : X0 = part1 (iblk m c 10 t) 0 := hX0.symm.trans (funext fun z => View.ld_unit_apply_of _ _ _ _ z _ (part_at 0 z))
    obtain rfl : X1 = part1 (iblk m c 10 t) 1 := hX1.symm.trans (funext fun z => View.ld_unit_apply_of _ _ _ _ z _ (part_at 1 z))
    obtain rfl : X2 = part1 (iblk m c 10 t) 2 := hX2.symm.trans (funext fun z => View.ld_unit_apply_of _ _ _ _ z _ (part_at 2 z))
    obtain rfl : X3 = part1 (iblk m c 10 t) 3 := hX3.symm.trans (funext fun z => View.ld_unit_apply_of _ _ _ _ z _ (part_at 3 z))
    obtain rfl : X4 = part1 (iblk m c 10 t) 4 := hX4.symm.trans (funext fun z => View.ld_unit_apply_of _ _ _ _ z _ (part_at 4 z))
    obtain rfl : X5 = part1 (iblk m c 10 t) 5 := hX5.symm.trans (funext fun z => View.ld_unit_apply_of _ _ _ _ z _ (part_at 5 z))
    obtain rfl : X6 = part1 (iblk m c 10 t) 6 := hX6.symm.trans (funext fun z => View.ld_unit_apply_of _ _ _ _ z _ (part_at 6 z))
    obtain rfl : X7 = part1 (iblk m c 10 t) 7 := hX7.symm.trans (funext fun z => View.ld_unit_apply_of _ _ _ _ z _ (part_at 7 z))
    obtain rfl : X8 = part1 (iblk m c 10 t) 8 := hX8.symm.trans (funext fun z => View.ld_unit_apply_of _ _ _ _ z _ (part_at 8 z))
    obtain rfl : X9 = part1 (iblk m c 10 t) 9 := hX9.symm.trans (funext fun z => View.ld_unit_apply_of _ _ _ _ z _ (part_at 9 z))
    obtain rfl : X10 = part1 (iblk m c 10 t) 10 := hX10.symm.trans (funext fun z => View.ld_unit_apply_of _ _ _ _ z _ (part_at 10 z))
    obtain rfl : X11 = part1 (iblk m c 10 t) 11 := hX11.symm.trans (funext fun z => View.ld_unit_apply_of _ _ _ _ z _ (part_at 11 z))
    obtain rfl : X12 = part1 (iblk m c 10 t) 12 := hX12.symm.trans (funext fun z => View.ld_unit_apply_of _ _ _ _ z _ (part_at 12 z))
    obtain rfl : X13 = part1 (iblk m c 10 t) 13 := hX13.symm.trans (funext fun z => View.ld_unit_apply_of _ _ _ _ z _ (part_at 13 z))
    obtain rfl : X14 = part1 (iblk m c 10 t) 14 := hX14.symm.trans (funext fun z => View.ld_unit_apply_of _ _ _ _ z _ (part_at 14 z))
    obtain rfl : X15 = part1 (iblk m c 10 t) 15 := hX15.symm.trans (funext fun z => View.ld_unit_apply_of _ _ _ _ z _ (part_at 15 z))
    exact (congrFun (pay122_stack _ _ _ _ (part1 (iblk m c 10 t))) _).trans (h_lane R K ht (part1 (iblk m c 10 t)) a s e)

end Cert.Mlstm
end
-- ==== Proof.MlstmGates.lean ====
module

public import proofs.«01_k».proof.Proof.Gen.KernelIdeal.Frame
public import proofs.«01_k».proof.Proof.MlstmBlock
public import Idealize.ShloMosaic.Lib.Pipeline.ValueKit.Held
public import Idealize.ShloMosaic.Lib.Pipeline.ReadBack
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gates of the chunk step, and the call's five arrays as the reference's results. -/

namespace Cert.Mlstm

open Cert.KernelIdeal Cert.KernelIdeal.Gen

variable (m : (ℓ : Loc nD τ sig) → Buf (Elt Ideal) ℓ)

theorem half : Ideal.ofBits FTy.f32 0x3F000000#32 = ((1 / 2 : ℝ) : EReal) := by
  simp [Ideal.ofBits, Ideal.ieee]
  norm_cast
  norm_num

/-- Half of one plus the hyperbolic tangent of half the argument is the logistic function. -/
theorem half_tanh (z : EReal) : ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num)]
    simp only [Ideal.tanh_bot, Ideal.logistic_bot]
    norm_cast
    norm_num
    rw [← EReal.coe_neg, ← EReal.coe_add]
    norm_num
  | top =>
    rw [EReal.coe_mul_top_of_pos (by norm_num)]
    simp only [Ideal.tanh_top, Ideal.logistic_top]
    norm_cast
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = u at *
    generalize Real.exp (-(1 / 2 * r)) = v at *
    have : u = v⁻¹ := eq_inv_of_mul_eq_one_left h2
    subst this
    field_simp
    ring

theorem pay1_at (X : FVec Ideal S1152x2048 .bf16) (W : FVec Ideal S1024x2048 .bf16) (b : FVec Ideal S1x1024 .f32) (r : Fin 1152) (l : Fin 1024) :
    k0_pay1 (F := Ideal) X W b (ix2 r l) = Ideal.logistic (∑ x : Fin 2048, X (ix2 r x) * W (ix2 l x) + b (ix2 0 l)) := by
  rw [← half_tanh]
  pointwise [k0_pay1]
  rw [half]

theorem pay2_at (W : FVec Ideal S1024x2048 .f32) (r : Fin 1024) (x : Fin 2048) : k0_pay2 (F := Ideal) W (ix2 r x) = W (ix2 r x) := by
  pointwise [k0_pay2]

/-- The weights kept between points. -/
def kept (c : Dev nD) (n : Nat) (h : n < cfg0.N) (i : Fin 1024 × Fin 2048) : EReal := (outsAt0 m c n h).2.2.2.2.2 (ix2 i.1 i.2)

theorem kept_A (c : Dev nD) (t : Fin cfg0.N) (h : t.val % 8 = 0) (i : Fin 1024 × Fin 2048) :
    kept m c t.val t.isLt i = (show FVec Ideal S1024x2048 .f32 from iblk m c 1 t) (ix2 i.1 i.2) := by
  unfold kept
  rw [outsAt0_A m c t h]
  frame_out
  exact pay2_at _ _ _

theorem kept_B (c : Dev nD) (t : Fin cfg0.N) (h : ¬ t.val % 8 = 0) (i : Fin 1024 × Fin 2048) :
    kept m c t.val t.isLt i = kept m c (t.val - 1) (Nat.lt_of_le_of_lt (Nat.sub_le _ _) t.isLt) i := by
  unfold kept
  rw [outsAt0_B m c t h]
  frame_out
  rfl

/-- The weights kept at a point are the point's own weights. -/
theorem kept_at (c : Dev nD) (t : Fin cfg0.N) (l : Fin 1024) (x : Fin 2048) (A : Fin 11272) (h : A.val = 7176 + t.val / 8 * 1024 + l) :
    kept m c t.val t.isLt (l, x) = (show FVec Ideal S1x2048x11272 .f32 from m (c, Proc.tc.devRef main_arg1)) (ix3 0 x A) := by
  refine (Pipeline.eq_of_write_hold_apply (fun n h => kept m c n h) 8 (fun t i => (show FVec Ideal S1024x2048 .f32 from iblk m c 1 t) (ix2 i.1 i.2))
    (kept_A m c) (kept_B m c) t (l, x)).trans ?_
  refine (b1 m c _ l x A (by dsimp only; omega)).trans ?_
  exact V1 m c A x

theorem out12 (c : Dev nD) (t : Fin cfg0.N) (r : Fin 1152) (l : Fin 1024) (B : Fin 9216) (hB : B.val = t.val % 8 * 1152 + r) (A : Fin 4096) (hA : A.val = t.val / 8 * 1024 + l) :
    (outsAt0 m c t t.isLt).1 (ix2 r l) = Ideal.logistic (∑ x : Fin 2048, (show FVec Ideal S9216x2048 .bf16 from m (c, Proc.tc.devRef main_arg0)) (ix2 B x) *
        (show FVec Ideal S1x2048x11272 .f32 from m (c, Proc.tc.devRef main_arg1)) (ix3 0 x ⟨7176 + A, by omega⟩) +
      (show FVec Ideal S1x11272 .f32 from m (c, Proc.tc.devRef main_arg2)) (ix2 0 ⟨7176 + A, by omega⟩)) := by
  have hb : (show FVec Ideal S1x1024 .f32 from iblk m c 2 t) (ix2 0 l) = (show FVec Ideal S1x11272 .f32 from m (c, Proc.tc.devRef main_arg2)) (ix2 0 ⟨7176 + A, by omega⟩) :=
    (b2 m c t l ⟨7168 + A, by omega⟩ (by dsimp only; omega)).trans (V46 m c A)
  by_cases h : t.val % 8 = 0
  · have hw : ∀ x, k0_pay2 (F := Ideal) (iblk m c 1 t) (ix2 l x) = (show FVec Ideal S1x2048x11272 .f32 from m (c, Proc.tc.devRef main_arg1)) (ix3 0 x ⟨7176 + A, by omega⟩) := fun x => by
      rw [pay2_at]
      exact (b1 m c t l x ⟨7176 + A, by omega⟩ (by dsimp only; omega)).trans (V1 m c _ x)
    rw [outsAt0_A m c t h]
    frame_out
    refine (pay1_at _ _ _ r l).trans ?_
    refine congrArg Ideal.logistic (congrArg₂ (· + ·) (Finset.sum_congr rfl fun x _ => ?_) hb)
    exact congrArg₂ (· * ·) (b0 m c t r x B hB) (hw x)
  · have hw : ∀ x, (outsAt0 m c (t.val - 1) (Nat.lt_of_le_of_lt (Nat.sub_le _ _) t.isLt)).2.2.2.2.2 (ix2 l x)
        = (show FVec Ideal S1x2048x11272 .f32 from m (c, Proc.tc.devRef main_arg1)) (ix3 0 x ⟨7176 + A, by omega⟩) := fun x =>
      (kept_B m c t h (l, x)).symm.trans (kept_at m c t l x ⟨7176 + A, by omega⟩ (by dsimp only; omega))
    rw [outsAt0_B m c t h]
    frame_out
    refine (pay1_at _ _ _ r l).trans ?_
    refine congrArg Ideal.logistic (congrArg₂ (· + ·) (Finset.sum_congr rfl fun x _ => ?_) hb)
    exact congrArg₂ (· * ·) (b0 m c t r x B hB) ((congrFun (read_unread_whole _ _ _) _).trans (hw x))

end Cert.Mlstm
end
-- ==== Proof.MlstmFinal.lean ====
module

public import proofs.«01_k».proof.Proof.Gen.KernelIdeal.Frame
public import proofs.«01_k».proof.Proof.MlstmValue
public import proofs.«01_k».proof.Proof.MlstmGates
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The call's five arrays are the reference's results. -/

namespace Cert.Mlstm

open Cert.KernelIdeal Cert.KernelIdeal.Gen

section ref

variable (x3 : FVec Ideal S9216x3072 .bf16) (x4 : FVec Ideal S1024x9216 .bf16) (x5 x6 : FVec Ideal S128x4x8 .f32) (x7 : FVec Ideal S1x128x4x256x256 .f32)
  (x8 : FVec Ideal S1x128x4x256 .f32) (x9 : FVec Ideal S1x128x4 .f32)

/-- The reference's new maximum at a token of guest `i`. -/
theorem ref_m_of (h : Fin 4) (r : Fin 8) (A : Fin 1024) (i : Fin 128) (hi : A.val / 8 = i.val) :
    Cert.ReferenceIdeal.Read.val_main_v107 (F := Ideal) x5 x6 x9 (ix3 h r A) = mt (bR x6 i h) (gR x5 i h) (mR x9 i h) 7 := by
  obtain ⟨i, hlti⟩ := i
  dsimp only at hi
  subst hi
  exact ref_m_at ..

/-- The reference's new normalizer state at a lane of head `h`. -/
theorem ref_n_of (i : Fin 128) (A : Fin 1024) (h : Fin 4) (d : Fin 256) (hh : A.val / 256 = h.val) (hd : A.val % 256 = d.val) :
    Cert.ReferenceIdeal.Read.val_main_v109 (F := Ideal) x4 x5 x6 x8 x9 (ix2 i A) = nNew (bR x6 i h) (gR x5 i h) (mR x9 i h) (kR x4 i h) (nR x8 i h) d := by
  obtain ⟨h, hlt⟩ := h
  dsimp only at hh
  subst hh
  obtain ⟨d, hlt'⟩ := d
  dsimp only at hd
  subst hd
  exact ref_n_at ..

/-- The reference's head at a token of guest `i` and a lane of head `h`. -/
theorem ref_h_of (B A : Fin 1024) (i : Fin 128) (s : Fin 8) (h : Fin 4) (e : Fin 256) (hi : B.val / 8 = i.val) (hs : B.val % 8 = s.val)
    (hh : A.val / 256 = h.val) (he : A.val % 256 = e.val) :
    Cert.ReferenceIdeal.Read.val_main_v103 (F := Ideal) x3 x4 x5 x6 x7 x8 x9 (ix2 B A) =
      hOf (bR x6 i h) (gR x5 i h) (mR x9 i h) (qR x3 i h) (kR x4 i h) (vR x3 i h) (cR x7 i h) (nR x8 i h) s e := by
  obtain ⟨i, hlti⟩ := i
  dsimp only at hi
  subst hi
  obtain ⟨s, hlts⟩ := s
  dsimp only at hs
  subst hs
  obtain ⟨h, hlt⟩ := h
  dsimp only at hh
  subst hh
  obtain ⟨e, hlte⟩ := e
  dsimp only at he
  subst he
  exact ref_h_at ..

end ref

variable (m : (ℓ : Loc nD τ sig) → Buf (Elt Ideal) ℓ)

/-- The gates' array is the reference's gates. -/
theorem final12 (c : Dev nD) : (dats m 0 c).arrAt 12 (cfgs 0).N
    = Cert.ReferenceIdeal.Read.val_main_v108 (F := Ideal) (m (c, Proc.tc.devRef main_arg0)) (m (c, Proc.tc.devRef main_arg1)) (m (c, Proc.tc.devRef main_arg2)) := by
  refine (dats m 0 c).arrAt_eq_of_covers 12 _ (by decide +kernel) fun t hf y => ?_
  have hN := lt32 t
  blk_simp
  rw [after0_12]
  have hy0 : (y 0 : ℕ) < 1152 := (y 0).isLt
  have hy1 : (y 1 : ℕ) < 1024 := (y 1).isLt
  have ey : y = (ix2 (y 0) (y 1) : S1152x1024.Idx) := eq_ix2 _
  have ee : ((cfg0.win 12).blk t).view.emb y = (ix2 (⟨t.val % 8 * 1152 + y 0, by omega⟩ : Fin 9216) (⟨t.val / 8 * 1024 + y 1, by omega⟩ : Fin 4096) : S9216x4096.Idx) := by
    blk_ext [idx t]
  refine (congrArg (outsAt0 m c t.val t.isLt).1 ey).trans ?_
  refine (out12 m c t (y 0) (y 1) ⟨t.val % 8 * 1152 + y 0, by omega⟩ rfl ⟨t.val / 8 * 1024 + y 1, by omega⟩ rfl).trans ?_
  refine Eq.trans ?_ (congrArg (Cert.ReferenceIdeal.Read.val_main_v108 (F := Ideal) _ _ _) ee).symm
  exact (ref_z_at ..).symm

/-- The heads' array is the reference's heads. -/
theorem final13 (c : Dev nD) (hl : ∀ i h s, gR (m (c, Proc.tc.devRef main_arg6)) i h s < ⊤) (hi : ∀ i h s, gR (m (c, Proc.tc.devRef main_arg5)) i h s < ⊤)
    (hm : ∀ i h, mR (m (c, Proc.tc.devRef main_arg9)) i h < ⊤) : (dats m 0 c).arrAt 13 (cfgs 0).N
    = Cert.ReferenceIdeal.Read.val_main_v103 (F := Ideal) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg8)) (m (c, Proc.tc.devRef main_arg9)) := by
  refine (dats m 0 c).arrAt_eq_of_covers 13 _ (by decide +kernel) fun t hf y => ?_
  have hN := lt32 t
  blk_simp
  rw [after0_13]
  have hy0 : (y 0 : ℕ) < 128 := (y 0).isLt
  have hy1 : (y 1 : ℕ) < 256 := (y 1).isLt
  have ey : y = (ix2 (ln ⟨(y 0).val / 8, by omega⟩ ⟨(y 0).val % 8, by omega⟩) (y 1) : S128x256.Idx) :=
    (eq_ix2 (n0 := 128) (n1 := 256) y).trans (congrArg (fun l : Fin 128 => (ix2 l (y 1) : S128x256.Idx)) (ln_split (y 0)))
  have ee : ((cfg0.win 13).blk t).view.emb y = (ix2 (⟨t.val / 4 * 128 + y 0, by omega⟩ : Fin 1024) (⟨t.val % 4 * 256 + y 1, by omega⟩ : Fin 1024) : S1024x1024.Idx) := by
    blk_ext [idx t]
  refine (congrArg (outsAt0 m c t.val t.isLt).2.1 ey).trans ?_
  refine (out13 m c t hl hi hm _ _ (y 1)).trans ?_
  refine Eq.trans ?_ (congrArg (Cert.ReferenceIdeal.Read.val_main_v103 (F := Ideal) _ _ _ _ _ _ _) ee).symm
  refine (ref_h_of _ _ _ _ _ _ _ _ _ (gst t _) _ (hd t) _ ?_ ?_ ?_ ?_).symm
  · simp only [gst]
    omega
  · dsimp only
    omega
  · simp only [hd]
    omega
  · dsimp only
    omega

/-- The matrix states' array is the reference's. -/
theorem final14 (c : Dev nD) (hl : ∀ i h s, gR (m (c, Proc.tc.devRef main_arg6)) i h s < ⊤) : (dats m 0 c).arrAt 14 (cfgs 0).N
    = Cert.ReferenceIdeal.Read.val_main_v95 (F := Ideal) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg9)) := by
  refine (dats m 0 c).arrAt_eq_of_covers 14 _ (by decide +kernel) fun t hf y => ?_
  have hN := lt32 t
  blk_simp
  rw [after0_14]
  have hy0 : (y 0 : ℕ) < 16 := (y 0).isLt
  have hy1 : (y 1 : ℕ) < 1 := (y 1).isLt
  have hy2 : (y 2 : ℕ) < 256 := (y 2).isLt
  have hy3 : (y 3 : ℕ) < 256 := (y 3).isLt
  have ee : ((cfg0.win 14).blk t).view.emb y = (ix4 (gst t (y 0)) (hd t) (⟨y 2, hy2⟩ : Fin 256) (⟨y 3, hy3⟩ : Fin 256) : S128x4x256x256.Idx) := by
    unfold gst hd
    blk_ext [idx t]
  refine (out14 m c t hl y).trans ?_
  refine Eq.trans ?_ (congrArg (Cert.ReferenceIdeal.Read.val_main_v95 (F := Ideal) _ _ _ _ _ _) ee).symm
  exact (ref_cNew ..).symm

/-- The normalizer states' array is the reference's. -/
theorem final15 (c : Dev nD) (hl : ∀ i h s, gR (m (c, Proc.tc.devRef main_arg6)) i h s < ⊤) : (dats m 0 c).arrAt 15 (cfgs 0).N
    = Cert.ReferenceIdeal.Read.val_main_v109 (F := Ideal) (m (c, Proc.tc.devRef main_arg4)) (m (c, Proc.tc.devRef main_arg5))
        (m (c, Proc.tc.devRef main_arg6)) (m (c, Proc.tc.devRef main_arg8)) (m (c, Proc.tc.devRef main_arg9)) := by
  refine (dats m 0 c).arrAt_eq_of_covers 15 _ (by decide +kernel) fun t hf y => ?_
  have hN := lt32 t
  blk_simp
  rw [after0_15]
  have hy0 : (y 0 : ℕ) < 16 := (y 0).isLt
  have hy1 : (y 1 : ℕ) < 256 := (y 1).isLt
  have ey : y = (ix2 (y 0) (y 1) : S16x256.Idx) := eq_ix2 _
  have ee : ((cfg0.win 15).blk t).view.emb y = (ix2 (gst t (y 0)) (⟨t.val % 4 * 256 + y 1, by omega⟩ : Fin 1024) : S128x1024.Idx) := by
    unfold gst
    blk_ext [idx t]
  refine (congrArg (outsAt0 m c t.val t.isLt).2.2.2.1 ey).trans ?_
  refine (out15 m c t hl (y 0) (y 1)).trans ?_
  refine Eq.trans ?_ (congrArg (Cert.ReferenceIdeal.Read.val_main_v109 (F := Ideal) _ _ _ _ _) ee).symm
  refine (ref_n_of _ _ _ _ _ _ _ (hd t) _ ?_ ?_).symm
  · simp only [hd]
    omega
  · dsimp only
    omega

/-- The maxima's array is the reference's. -/
theorem final16 (c : Dev nD) (hl : ∀ i h s, gR (m (c, Proc.tc.devRef main_arg6)) i h s < ⊤) : (dats m 0 c).arrAt 16 (cfgs 0).N
    = Cert.ReferenceIdeal.Read.val_main_v107 (F := Ideal) (m (c, Proc.tc.devRef main_arg5)) (m (c, Proc.tc.devRef main_arg6)) (m (c, Proc.tc.devRef main_arg9)) := by
  refine (dats m 0 c).arrAt_eq_of_covers 16 _ (by decide +kernel) fun t hf y => ?_
  have hN := lt32 t
  blk_simp
  rw [after0_16]
  have hy0 : (y 0 : ℕ) < 1 := (y 0).isLt
  have hy1 : (y 1 : ℕ) < 8 := (y 1).isLt
  have hy2 : (y 2 : ℕ) < 128 := (y 2).isLt
  have e0 : y 0 = (0 : Fin 1) := Fin.ext (by show (y 0 : ℕ) = 0; omega)
  have ey : y = (ix3 0 (y 1) (ln ⟨(y 2).val / 8, by omega⟩ ⟨(y 2).val % 8, by omega⟩) : S1x8x128.Idx) :=
    (eq_ix3 (n0 := 1) (n1 := 8) (n2 := 128) y).trans ((congrArg (fun z : Fin 1 => (ix3 z (y 1) (y 2) : S1x8x128.Idx)) e0).trans
      (congrArg (fun l : Fin 128 => (ix3 0 (y 1) l : S1x8x128.Idx)) (ln_split (y 2))))
  have ee : ((cfg0.win 16).blk t).view.emb y = (ix3 (hd t) (⟨y 1, hy1⟩ : Fin 8) (⟨t.val / 4 * 128 + y 2, by omega⟩ : Fin 1024) : S4x8x1024.Idx) := by
    unfold hd
    blk_ext [idx t]
  refine (congrArg (outsAt0 m c t.val t.isLt).2.2.2.2.1 ey).trans ?_
  refine (out16 m c t hl (y 1) _ _).trans ?_
  refine Eq.trans ?_ (congrArg (Cert.ReferenceIdeal.Read.val_main_v107 (F := Ideal) _ _ _) ee).symm
  refine (ref_m_of _ _ _ _ _ _ (gst t _) ?_).symm
  simp only [gst]
  omega

end Cert.Mlstm
end
-- ==== Proof.MlstmPre.lean ====
module

public import proofs.«01_k».proof.Proof.Gen.KernelIdeal.Frame
public import proofs.«01_k».proof.Proof.MlstmRef
public import proofs.«01_k».proof.Pre_gates_below_infinity
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the precondition says of the gates and the carried maxima. -/

namespace Cert.Mlstm

open Cert.Pre_gates_below_infinity

theorem pos_inf : Ideal.ofBits FTy.f32 0x7F800000#32 = ⊤ := by
  simp [Ideal.ofBits, Ideal.ieee]

theorem olt_inf (x : EReal) : FloatOps.cmpf (F := Ideal) (φ := .f32) .olt x (Ideal.ofBits FTy.f32 0x7F800000#32) = 1#1 → x < ⊤ := by
  rw [pos_inf]
  intro h
  by_contra hx
  have : FloatOps.cmpf (F := Ideal) (φ := .f32) .olt x ⊤ = 0#1 := by
    simp [FloatOps.cmpf, Ideal.cmp, hx]
  rw [this] at h
  exact absurd h (by decide)

theorem and_bits (a b : BitVec 1) (h : a &&& b = 1#1) : a = 1#1 ∧ b = 1#1 := by
  revert a b
  decide

/-- Under the precondition the log gates and the carried maxima are below plus infinity. -/
theorem pre_open [Facts] (x0 : FVec Ideal S9216x2048 .bf16) (x1 : FVec Ideal S1x2048x11272 .f32) (x2 : FVec Ideal S1x11272 .f32) (x3 : FVec Ideal S9216x3072 .bf16)
    (x4 : FVec Ideal S1024x9216 .bf16) (x5 x6 : FVec Ideal S128x4x8 .f32) (x7 : FVec Ideal S1x128x4x256x256 .f32) (x8 : FVec Ideal S1x128x4x256 .f32) (x9 : FVec Ideal S1x128x4 .f32)
    (h : fn (F := Ideal) x0 x1 x2 x3 x4 x5 x6 x7 x8 x9 = fun _ => 1#1) :
    (∀ i h s, gR x6 i h s < ⊤) ∧ (∀ i h s, gR x5 i h s < ⊤) ∧ (∀ i h, mR x9 i h < ⊤) := by
  have k : ∀ (i : Fin 128) (H : Fin 4) (s : Fin 8), (gR x6 i H s < ⊤ ∧ gR x5 i H s < ⊤) ∧ mR x9 i H < ⊤ := by
    intro i H s
    have e := congrFun h (ix3 i H s)
    revert e
    pointwise [fn]
    intro e
    have e1 := and_bits _ _ e
    have e2 := and_bits _ _ e1.1
    exact ⟨⟨olt_inf _ e2.1, olt_inf _ e2.2⟩, olt_inf _ e1.2⟩
  exact ⟨fun i h s => (k i h s).1.1, fun i h s => (k i h s).1.2, fun i h => (k i h 0).2⟩

end Cert.Mlstm
end
-- ==== Proof.ProjRun.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Pipeline.ReadBack
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole rectangle of a view leaves its payload there, whatever was stored before. -/
theorem read_store {Val : EltTy → Type} {κ : Kind} {sp : Space} {s : Shape} {e : EltTy} (v : View sig κ sp s e)
    (f : v.ty.Contents Val) {off : Fin s.rank → ℕ} (inb : ∀ a, off a + s.size a ≤ s.size a) (x : s.Idx → Val e)
    (L : List (View.Piece Val s e)) (h : ∀ a, off a = 0) :
    v.read Val (v.writes Val f (⟨Rect.unit off (no_index s.size) inb, x⟩ :: L)) = x := by
  have h0 : off = fun _ => 0 := funext h
  subst h0
  funext y
  have e := View.read_writes_cons_emb v f (Rect.whole s) x L y
  rwa [Rect.emb_whole_apply] at e

/-- A row of 128 turned into a column and repeated along it. -/
theorem tile_at (v : Vec F S1x128 .f32) (p q : Fin 128) :
    k0_pay12 v (ix2 p q) = v (ix2 0 p) := by
  pointwise [k0_pay12]

/-- The bias of a block of columns as a column, repeated along it: `1024 × 128` entries, row `p` holding the bias of column `p`. -/
def biasCol (b : Vec F S1x1024 .f32) : Vec F S1024x128 .f32 := fun y => b (ix2 0 (y 0))

/-- The eight stores that build it, last first. -/
abbrev biasPieces (b : Vec F S1x1024 .f32) : List (View.Piece (Elt F) S1024x128 .f32) :=
  [⟨Rect.unit (s := S1024x128) ![896, 0] S128x128.size inb_S1024x128_S128x128_896_0, k0_pay20 (View.ld b (Rect.unit (s := S1x1024) ![0, 896] S1x128.size inb_S1x1024_S1x128_0_896))⟩,
   ⟨Rect.unit (s := S1024x128) ![768, 0] S128x128.size inb_S1024x128_S128x128_768_0, k0_pay19 (View.ld b (Rect.unit (s := S1x1024) ![0, 768] S1x128.size inb_S1x1024_S1x128_0_768))⟩,
   ⟨Rect.unit (s := S1024x128) ![640, 0] S128x128.size inb_S1024x128_S128x128_640_0, k0_pay18 (View.ld b (Rect.unit (s := S1x1024) ![0, 640] S1x128.size inb_S1x1024_S1x128_0_640))⟩,
   ⟨Rect.unit (s := S1024x128) ![512, 0] S128x128.size inb_S1024x128_S128x128_512_0, k0_pay17 (k0_pay16 (View.ld b (Rect.unit (s := S1x1024) ![0, 512] S1x128.size inb_S1x1024_S1x128_0_512)))⟩,
   ⟨Rect.unit (s := S1024x128) ![384, 0] S128x128.size inb_S1024x128_S128x128_384_0, k0_pay15 (View.ld b (Rect.unit (s := S1x1024) ![0, 384] S1x128.size inb_S1x1024_S1x128_0_384))⟩,
   ⟨Rect.unit (s := S1024x128) ![256, 0] S128x128.size inb_S1024x128_S128x128_256_0, k0_pay14 (View.ld b (Rect.unit (s := S1x1024) ![0, 256] S1x128.size inb_S1x1024_S1x128_0_256))⟩,
   ⟨Rect.unit (s := S1024x128) ![128, 0] S128x128.size inb_S1024x128_S128x128_128_0, k0_pay13 (View.ld b (Rect.unit (s := S1x1024) ![0, 128] S1x128.size inb_S1x1024_S1x128_0_128))⟩,
   ⟨Rect.unit (s := S1024x128) ![0, 0] S128x128.size inb_S1024x128_S128x128_0_0, k0_pay12 (View.ld b (Rect.unit (s := S1x1024) ![0, 0] S1x128.size inb_S1x1024_S1x128_0_0))⟩]

/-- The tile of the rows from `o` on. -/
theorem tile_piece (b : Vec F S1x1024 .f32) (o : ℕ) (h : ∀ a, ![0, o] a + S1x128.size a ≤ S1x1024.size a)
    (h' : ∀ a, ![o, 0] a + S128x128.size a ≤ S1024x128.size a) (x : S128x128.Idx) :
    k0_pay12 (View.ld b (Rect.unit (s := S1x1024) ![0, o] S1x128.size h)) x
      = biasCol b ((Rect.unit (s := S1024x128) ![o, 0] S128x128.size h').emb x) := by
  obtain ⟨p, q, rfl⟩ : ∃ p q, x = ix2 p q := ⟨x 0, x 1, eq_ix2 x⟩
  rw [tile_at]
  refine congrArg b (funext fun a => Fin.ext ?_)
  fin_cases a
  · rfl
  · show o + 1 * p.val = o + 1 * p.val
    rfl

/-- They are tiles of the column, -/
theorem biasPieces_of (b : Vec F S1x1024 .f32) : View.PiecesOf (biasCol b) (biasPieces b) :=
  ⟨tile_piece b 896 inb_S1x1024_S1x128_0_896 inb_S1024x128_S128x128_896_0,
    tile_piece b 768 inb_S1x1024_S1x128_0_768 inb_S1024x128_S128x128_768_0,
    tile_piece b 640 inb_S1x1024_S1x128_0_640 inb_S1024x128_S128x128_640_0,
    tile_piece b 512 inb_S1x1024_S1x128_0_512 inb_S1024x128_S128x128_512_0,
    tile_piece b 384 inb_S1x1024_S1x128_0_384 inb_S1024x128_S128x128_384_0,
    tile_piece b 256 inb_S1x1024_S1x128_0_256 inb_S1024x128_S128x128_256_0,
    tile_piece b 128 inb_S1x1024_S1x128_0_128 inb_S1024x128_S128x128_128_0,
    tile_piece b 0 inb_S1x1024_S1x128_0_0 inb_S1024x128_S128x128_0_0, trivial⟩

/-- and they cover it. -/
theorem biasPieces_cover (b : Vec F S1x1024 .f32) (y : S1024x128.Idx) : ∃ p ∈ biasPieces b, y ∈ p.1.set :=
  View.cover_of_tiledL (biasPieces b) ![128, 128] (by sl_kernel_rfl) y

theorem biasPieces_canon (b : Vec F S1x1024 .f32) : View.canon (biasPieces b) = biasCol b :=
  funext fun y => View.canon_apply_of_pieces (biasCol b) _ (biasPieces_of b).mem y (biasPieces_cover b y)

/-- What they leave reads as the column, -/
theorem read_bias {κ : Kind} {sp : Space} (v : View sig κ sp S1024x128 .f32) (f : v.ty.Contents (Elt F)) (b : Vec F S1x1024 .f32) :
    v.read (Elt F) (v.writes (Elt F) f (biasPieces b)) = biasCol b :=
  (funext fun y => View.read_writes_apply_eq_canon v f y _ (biasPieces_cover b y)).trans (biasPieces_canon b)

/-- and so does a load of all of it. -/
theorem load_bias {κ : Kind} {sp : Space} (v : View sig κ sp S1024x128 .f32) (b : Vec F S1x1024 .f32) :
    v.readCov (biasPieces b) (Rect.unit (s := S1024x128) ![0, 0] S1024x128.size inb_S1024x128_S1024x128_0_0).toLoadRect = biasCol b := by
  refine (View.readAt_eq_ld v _ _).trans ?_
  rw [read_bias, View.ld_unit_lit' _ _ (by decide)]

variable (c : Dev nD) (i : grid0.Coords)
variable (arg2 : Memref sig .tc .vmem S1024x2048 .bf16) (harg2 : arg2.IsWhole)
variable (arg3 : Memref sig .tc .vmem S128x2048 .bf16) (harg3 : arg3.IsWhole)
variable (arg4 : Memref sig .tc .vmem S1024x2048 .f32) (harg4 : arg4.IsWhole)
variable (arg5 : Memref sig .tc .vmem S1x1024 .f32) (harg5 : arg5.IsWhole)
variable (arg6 : Memref sig .tc .vmem S64x8192 .f32) (harg6 : arg6.IsWhole)
variable (arg7 : Memref sig .tc .vmem S256x2048 .f32) (harg7 : arg7.IsWhole)
variable (arg8 : Memref sig .tc .vmem S1024x1024 .bf16) (harg8 : arg8.IsWhole)
variable (arg9 : Memref sig .tc .vmem S1024x1024 .bf16) (harg9 : arg9.IsWhole)
variable (arg10 : Memref sig .tc .vmem S128x1024 .bf16) (harg10 : arg10.IsWhole)
variable (arg11 : Memref sig .tc .vmem S1024x128 .bf16) (harg11 : arg11.IsWhole)
variable (arg12 : Memref sig .tc .vmem S64x8192 .bf16) (harg12 : arg12.IsWhole)
variable (arg13 : Memref sig .tc .vmem S256x2048 .bf16) (harg13 : arg13.IsWhole)
variable (arg14 : Memref sig .tc .vmem S1024x2048 .bf16) (harg14 : arg14.IsWhole)
variable (arg15 : Memref sig .tc .vmem S1024x128 .f32) (harg15 : arg15.IsWhole)

set_option maxHeartbeats 2000000 in
/-- The body at a first point of a run whose columns are those of `q` or of `v`: the weight block is converted into the scratch, both products are formed. What it does not touch does not appear. -/
theorem run_head_even (hc1 : k0_cond1 i = 1#1) (hc2 : k0_cond2 i = 1#1) (hc3 : ¬k0_cond3 i = 1#1) (hc4 : k0_cond4 i = 1#1) (hc5 : ¬k0_cond5 i = 1#1) (hc6 : ¬k0_cond6 i = 1#1)
    (xn : Vec F S1024x2048 .bf16) (xm : Vec F S128x2048 .bf16) (wt : Vec F S1024x2048 .f32) (b : Vec F S1x1024 .f32) (wu : Vec F S64x8192 .f32) (wd : Vec F S256x2048 .f32) (E : Set ℕ) (K : PUnit → sProp 𝕄) :
    iprop(owns (c : Thread nD τ) arg2 fullShare xn ∗ owns (c : Thread nD τ) arg3 fullShare xm ∗ owns (c : Thread nD τ) arg4 fullShare wt ∗ owns (c : Thread nD τ) arg5 fullShare b ∗ owns (c : Thread nD τ) arg6 fullShare wu ∗ owns (c : Thread nD τ) arg7 fullShare wd ∗ (∃ d, owns (c : Thread nD τ) arg14 fullShare d) ∗ (∃ d, owns (c : Thread nD τ) arg10 fullShare d) ∗ (∃ d, owns (c : Thread nD τ) arg12 fullShare d) ∗ (∃ d, owns (c : Thread nD τ) arg13 fullShare d) ∗ (∃ d, owns (c : Thread nD τ) arg8 fullShare d)
        ∗ (iprop(owns (c : Thread nD τ) arg2 fullShare xn ∗ owns (c : Thread nD τ) arg3 fullShare xm ∗ owns (c : Thread nD τ) arg4 fullShare wt ∗ owns (c : Thread nD τ) arg5 fullShare b ∗ owns (c : Thread nD τ) arg6 fullShare wu ∗ owns (c : Thread nD τ) arg7 fullShare wd ∗ owns (c : Thread nD τ) arg14 fullShare (k0_pay1 wt) ∗ owns (c : Thread nD τ) arg10 fullShare (k0_pay2 xm (k0_pay1 wt) b) ∗ owns (c : Thread nD τ) arg12 fullShare (k0_pay3 wu) ∗ owns (c : Thread nD τ) arg13 fullShare (k0_pay4 wd) ∗ owns (c : Thread nD τ) arg8 fullShare (k0_pay5 xn (k0_pay1 wt) b)) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, %hf14, H14⟩, ⟨%d10, %f10, %hf10, H10⟩, ⟨%d12, %f12, %hf12, H12⟩, ⟨%d13, %f13, %hf13, H13⟩, ⟨%d8, %f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H14]
  · iexists _; isplitr
    swap; · iexact H14
    ipureintro; (try frame_open); simp (disch := decide) only [read_store, View.readAt_eq_ld, View.ld_unit_lit', View.readCov_cons_unit_lit', View.readCov_unit_lit', Memref.IsWhole.read_unread, read_bias, load_bias]
  isplitl [H10]
  · iexists _; isplitr
    swap; · iexact H10
    ipureintro; (try frame_open); simp (disch := decide) only [read_store, View.readAt_eq_ld, View.ld_unit_lit', View.readCov_cons_unit_lit', View.readCov_unit_lit', Memref.IsWhole.read_unread, read_bias, load_bias]
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H8
  ipureintro; (try frame_open); simp (disch := decide) only [read_store, View.readAt_eq_ld, View.ld_unit_lit', View.readCov_cons_unit_lit', View.readCov_unit_lit', Memref.IsWhole.read_unread, read_bias, load_bias]

set_option maxHeartbeats 2000000 in
/-- The body at a later point of such a run: only the product of the prompt rows. What it does not touch does not appear. -/
theorem run_step_even (hc1 : ¬k0_cond1 i = 1#1) (hc4 : k0_cond4 i = 1#1) (hc5 : ¬k0_cond5 i = 1#1) (hc6 : ¬k0_cond6 i = 1#1)
    (xn : Vec F S1024x2048 .bf16) (b : Vec F S1x1024 .f32) (wu : Vec F S64x8192 .f32) (wd : Vec F S256x2048 .f32) (w : Vec F S1024x2048 .bf16) (E : Set ℕ) (K : PUnit → sProp 𝕄) :
    iprop(owns (c : Thread nD τ) arg2 fullShare xn ∗ owns (c : Thread nD τ) arg5 fullShare b ∗ owns (c : Thread nD τ) arg6 fullShare wu ∗ owns (c : Thread nD τ) arg7 fullShare wd ∗ owns (c : Thread nD τ) arg14 fullShare w ∗ (∃ d, owns (c : Thread nD τ) arg12 fullShare d) ∗ (∃ d, owns (c : Thread nD τ) arg13 fullShare d) ∗ (∃ d, owns (c : Thread nD τ) arg8 fullShare d)
        ∗ (iprop(owns (c : Thread nD τ) arg2 fullShare xn ∗ owns (c : Thread nD τ) arg5 fullShare b ∗ owns (c : Thread nD τ) arg6 fullShare wu ∗ owns (c : Thread nD τ) arg7 fullShare wd ∗ owns (c : Thread nD τ) arg14 fullShare w ∗ owns (c : Thread nD τ) arg12 fullShare (k0_pay3 wu) ∗ owns (c : Thread nD τ) arg13 fullShare (k0_pay4 wd) ∗ owns (c : Thread nD τ) arg8 fullShare (k0_pay5 xn w b)) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  unfold owns
  iintro ⟨⟨%f2, %hf2, H2⟩, ⟨%f5, %hf5, H5⟩, ⟨%f6, %hf6, H6⟩, ⟨%f7, %hf7, H7⟩, ⟨%f14, %hf14, H14⟩, ⟨%d12, %f12, %hf12, H12⟩, ⟨%d13, %f13, %hf13, H13⟩, ⟨%d8, %f8, %hf8, H8⟩, Hk⟩
  obtain rfl := harg2.eq_unread hf2; obtain rfl := harg5.eq_unread hf5; obtain rfl := harg6.eq_unread hf6; obtain rfl := harg7.eq_unread hf7; obtain rfl := harg14.eq_unread hf14
  sl_exec (disch := first | sl_exact hc1 | sl_exact hc4 | sl_exact hc5 | sl_exact hc6)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H14]
  · iexists _; isplitr; · ipureintro; exact harg14.read_unread _
    iexact H14
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H8
  ipureintro; (try frame_open); simp (disch := decide) only [read_store, View.readAt_eq_ld, View.ld_unit_lit', View.readCov_cons_unit_lit', View.readCov_unit_lit', Memref.IsWhole.read_unread, read_bias, load_bias]

set_option maxHeartbeats 2000000 in
/-- The body at a first point of the run of the keys: the weight block is converted, the bias turned into a column, both transposed products are formed. What it does not touch does not appear. -/
theorem run_head_key (hc1 : k0_cond1 i = 1#1) (hc2 : ¬k0_cond2 i = 1#1) (hc3 : k0_cond3 i = 1#1) (hc4 : ¬k0_cond4 i = 1#1) (hc5 : k0_cond5 i = 1#1) (hc6 : ¬k0_cond6 i = 1#1)
    (xn : Vec F S1024x2048 .bf16) (xm : Vec F S128x2048 .bf16) (wt : Vec F S1024x2048 .f32) (b : Vec F S1x1024 .f32) (wu : Vec F S64x8192 .f32) (wd : Vec F S256x2048 .f32) (E : Set ℕ) (K : PUnit → sProp 𝕄) :
    iprop(owns (c : Thread nD τ) arg2 fullShare xn ∗ owns (c : Thread nD τ) arg3 fullShare xm ∗ owns (c : Thread nD τ) arg4 fullShare wt ∗ owns (c : Thread nD τ) arg5 fullShare b ∗ owns (c : Thread nD τ) arg6 fullShare wu ∗ owns (c : Thread nD τ) arg7 fullShare wd ∗ (∃ d, owns (c : Thread nD τ) arg14 fullShare d) ∗ (∃ d, owns (c : Thread nD τ) arg15 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg9 fullShare d)
        ∗ (iprop(owns (c : Thread nD τ) arg2 fullShare xn ∗ owns (c : Thread nD τ) arg3 fullShare xm ∗ owns (c : Thread nD τ) arg4 fullShare wt ∗ owns (c : Thread nD τ) arg5 fullShare b ∗ owns (c : Thread nD τ) arg6 fullShare wu ∗ owns (c : Thread nD τ) arg7 fullShare wd ∗ owns (c : Thread nD τ) arg14 fullShare (k0_pay1 wt) ∗ owns (c : Thread nD τ) arg15 fullShare (biasCol b) ∗ owns (c : Thread nD τ) arg11 fullShare (k0_pay21 (k0_pay1 wt) xm (biasCol b)) ∗ owns (c : Thread nD τ) arg12 fullShare (k0_pay6 wu) ∗ owns (c : Thread nD τ) arg13 fullShare (k0_pay7 wd) ∗ owns (c : Thread nD τ) arg9 fullShare (k0_pay8 (k0_pay1 wt) xn (biasCol b))) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, %hf14, H14⟩, ⟨%d15, %f15, %hf15, H15⟩, ⟨%d11, %f11, %hf11, H11⟩, ⟨%d12, %f12, %hf12, H12⟩, ⟨%d13, %f13, %hf13, H13⟩, ⟨%d9, %f9, %hf9, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H14]
  · iexists _; isplitr
    swap; · iexact H14
    ipureintro; (try frame_open); simp (disch := decide) only [read_store, View.readAt_eq_ld, View.ld_unit_lit', View.readCov_cons_unit_lit', View.readCov_unit_lit', Memref.IsWhole.read_unread, read_bias, load_bias]
  isplitl [H15]
  · iexists _; isplitr
    swap; · iexact H15
    ipureintro; (try frame_open); simp (disch := decide) only [read_store, View.readAt_eq_ld, View.ld_unit_lit', View.readCov_cons_unit_lit', View.readCov_unit_lit', Memref.IsWhole.read_unread, read_bias, load_bias]; exact read_bias _ _ _
  isplitl [H11]
  · iexists _; isplitr
    swap; · iexact H11
    ipureintro; (try frame_open); simp (disch := decide) only [read_store, View.readAt_eq_ld, View.ld_unit_lit', View.readCov_cons_unit_lit', View.readCov_unit_lit', Memref.IsWhole.read_unread, read_bias, load_bias]; exact congrArg _ (load_bias _ _)
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H9
  ipureintro; (try frame_open); simp (disch := decide) only [read_store, View.readAt_eq_ld, View.ld_unit_lit', View.readCov_cons_unit_lit', View.readCov_unit_lit', Memref.IsWhole.read_unread, read_bias, load_bias]; exact congrArg _ (load_bias _ _)

set_option maxHeartbeats 2000000 in
/-- The body at a later point of the run of the keys: only the transposed product of the prompt rows. What it does not touch does not appear. -/
theorem run_step_key (hc1 : ¬k0_cond1 i = 1#1) (hc4 : ¬k0_cond4 i = 1#1) (hc5 : k0_cond5 i = 1#1) (hc6 : ¬k0_cond6 i = 1#1)
    (xn : Vec F S1024x2048 .bf16) (wu : Vec F S64x8192 .f32) (wd : Vec F S256x2048 .f32) (w : Vec F S1024x2048 .bf16) (bc : Vec F S1024x128 .f32) (E : Set ℕ) (K : PUnit → sProp 𝕄) :
    iprop(owns (c : Thread nD τ) arg2 fullShare xn ∗ owns (c : Thread nD τ) arg6 fullShare wu ∗ owns (c : Thread nD τ) arg7 fullShare wd ∗ owns (c : Thread nD τ) arg14 fullShare w ∗ owns (c : Thread nD τ) arg15 fullShare bc ∗ (∃ d, owns (c : Thread nD τ) arg12 fullShare d) ∗ (∃ d, owns (c : Thread nD τ) arg13 fullShare d) ∗ (∃ d, owns (c : Thread nD τ) arg9 fullShare d)
        ∗ (iprop(owns (c : Thread nD τ) arg2 fullShare xn ∗ owns (c : Thread nD τ) arg6 fullShare wu ∗ owns (c : Thread nD τ) arg7 fullShare wd ∗ owns (c : Thread nD τ) arg14 fullShare w ∗ owns (c : Thread nD τ) arg15 fullShare bc ∗ owns (c : Thread nD τ) arg12 fullShare (k0_pay6 wu) ∗ owns (c : Thread nD τ) arg13 fullShare (k0_pay7 wd) ∗ owns (c : Thread nD τ) arg9 fullShare (k0_pay8 w xn bc)) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  unfold owns
  iintro ⟨⟨%f2, %hf2, H2⟩, ⟨%f6, %hf6, H6⟩, ⟨%f7, %hf7, H7⟩, ⟨%f14, %hf14, H14⟩, ⟨%f15, %hf15, H15⟩, ⟨%d12, %f12, %hf12, H12⟩, ⟨%d13, %f13, %hf13, H13⟩, ⟨%d9, %f9, %hf9, H9⟩, Hk⟩
  obtain rfl := harg2.eq_unread hf2; obtain rfl := harg6.eq_unread hf6; obtain rfl := harg7.eq_unread hf7; obtain rfl := harg14.eq_unread hf14; obtain rfl := harg15.eq_unread hf15
  sl_exec (disch := first | sl_exact hc1 | sl_exact hc4 | sl_exact hc5 | sl_exact hc6)
  sl_step
  iapply Hk
  isplitl [H2]
  · iexists _; isplitr; · ipureintro; exact harg2.read_unread _
    iexact H2
  isplitl [H6]
  · iexists _; isplitr; · ipureintro; exact harg6.read_unread _
    iexact H6
  isplitl [H7]
  · iexists _; isplitr; · ipureintro; exact harg7.read_unread _
    iexact H7
  isplitl [H14]
  · iexists _; isplitr; · ipureintro; exact harg14.read_unread _
    iexact H14
  isplitl [H15]
  · iexists _; isplitr; · ipureintro; exact harg15.read_unread _
    iexact H15
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H9
  ipureintro; (try frame_open); simp (disch := decide) only [read_store, View.readAt_eq_ld, View.ld_unit_lit', View.readCov_cons_unit_lit', View.readCov_unit_lit', Memref.IsWhole.read_unread, read_bias, load_bias]

set_option maxHeartbeats 2000000 in
/-- The body at a first point of the run of the output gate: the weight block is converted, then the product and its logistic are formed. What it does not touch does not appear. -/
theorem run_head_gate (hc1 : k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1)
    (xn : Vec F S1024x2048 .bf16) (wt : Vec F S1024x2048 .f32) (b : Vec F S1x1024 .f32) (wu : Vec F S64x8192 .f32) (wd : Vec F S256x2048 .f32) (E : Set ℕ) (K : PUnit → sProp 𝕄) :
    iprop(owns (c : Thread nD τ) arg2 fullShare xn ∗ owns (c : Thread nD τ) arg4 fullShare wt ∗ owns (c : Thread nD τ) arg5 fullShare b ∗ owns (c : Thread nD τ) arg6 fullShare wu ∗ owns (c : Thread nD τ) arg7 fullShare wd ∗ (∃ d, owns (c : Thread nD τ) arg14 fullShare d) ∗ (∃ d, owns (c : Thread nD τ) arg12 fullShare d) ∗ (∃ d, owns (c : Thread nD τ) arg13 fullShare d) ∗ (∃ d, owns (c : Thread nD τ) arg8 fullShare d)
        ∗ (iprop(owns (c : Thread nD τ) arg2 fullShare xn ∗ owns (c : Thread nD τ) arg4 fullShare wt ∗ owns (c : Thread nD τ) arg5 fullShare b ∗ owns (c : Thread nD τ) arg6 fullShare wu ∗ owns (c : Thread nD τ) arg7 fullShare wd ∗ owns (c : Thread nD τ) arg14 fullShare (k0_pay1 wt) ∗ owns (c : Thread nD τ) arg12 fullShare (k0_pay9 wu) ∗ owns (c : Thread nD τ) arg13 fullShare (k0_pay10 wd) ∗ owns (c : Thread nD τ) arg8 fullShare (k0_pay11 xn (k0_pay1 wt) b)) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  unfold owns
  iintro ⟨⟨%f2, %hf2, H2⟩, ⟨%f4, %hf4, H4⟩, ⟨%f5, %hf5, H5⟩, ⟨%f6, %hf6, H6⟩, ⟨%f7, %hf7, H7⟩, ⟨%d14, %f14, %hf14, H14⟩, ⟨%d12, %f12, %hf12, H12⟩, ⟨%d13, %f13, %hf13, H13⟩, ⟨%d8, %f8, %hf8, H8⟩, Hk⟩
  obtain rfl := harg2.eq_unread hf2; obtain rfl := harg4.eq_unread hf4; obtain rfl := harg5.eq_unread hf5; obtain rfl := harg6.eq_unread hf6; obtain rfl := harg7.eq_unread hf7
  sl_exec (disch := first | sl_exact hc1 | sl_exact hc2 | sl_exact hc3 | sl_exact hc4 | sl_exact hc5 | sl_exact hc6)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H14]
  · iexists _; isplitr
    swap; · iexact H14
    ipureintro; (try frame_open); simp (disch := decide) only [read_store, View.readAt_eq_ld, View.ld_unit_lit', View.readCov_cons_unit_lit', View.readCov_unit_lit', Memref.IsWhole.read_unread, read_bias, load_bias]
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H8
  ipureintro; (try frame_open); simp (disch := decide) only [read_store, View.readAt_eq_ld, View.ld_unit_lit', View.readCov_cons_unit_lit', View.readCov_unit_lit', Memref.IsWhole.read_unread, read_bias, load_bias]

set_option maxHeartbeats 2000000 in
/-- The body at a later point of the run of the output gate. What it does not touch does not appear. -/
theorem run_step_gate (hc1 : ¬k0_cond1 i = 1#1) (hc4 : ¬k0_cond4 i = 1#1) (hc5 : ¬k0_cond5 i = 1#1) (hc6 : k0_cond6 i = 1#1)
    (xn : Vec F S1024x2048 .bf16) (b : Vec F S1x1024 .f32) (wu : Vec F S64x8192 .f32) (wd : Vec F S256x2048 .f32) (w : Vec F S1024x2048 .bf16) (E : Set ℕ) (K : PUnit → sProp 𝕄) :
    iprop(owns (c : Thread nD τ) arg2 fullShare xn ∗ owns (c : Thread nD τ) arg5 fullShare b ∗ owns (c : Thread nD τ) arg6 fullShare wu ∗ owns (c : Thread nD τ) arg7 fullShare wd ∗ owns (c : Thread nD τ) arg14 fullShare w ∗ (∃ d, owns (c : Thread nD τ) arg12 fullShare d) ∗ (∃ d, owns (c : Thread nD τ) arg13 fullShare d) ∗ (∃ d, owns (c : Thread nD τ) arg8 fullShare d)
        ∗ (iprop(owns (c : Thread nD τ) arg2 fullShare xn ∗ owns (c : Thread nD τ) arg5 fullShare b ∗ owns (c : Thread nD τ) arg6 fullShare wu ∗ owns (c : Thread nD τ) arg7 fullShare wd ∗ owns (c : Thread nD τ) arg14 fullShare w ∗ owns (c : Thread nD τ) arg12 fullShare (k0_pay9 wu) ∗ owns (c : Thread nD τ) arg13 fullShare (k0_pay10 wd) ∗ owns (c : Thread nD τ) arg8 fullShare (k0_pay11 xn w b)) -∗ K ⟨⟩))
      ⊢ wp frame (wpE (defs₀ (F := F)) Variants.none c none) E (cc0_inproj_qkvo i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_qkvo_eq_skeleton]; unfold cc0_inproj_qkvo_skel
  unfold owns
  iintro ⟨⟨%f2, %hf2, H2⟩, ⟨%f5, %hf5, H5⟩, ⟨%f6, %hf6, H6⟩, ⟨%f7, %hf7, H7⟩, ⟨%f14, %hf14, H14⟩, ⟨%d12, %f12, %hf12, H12⟩, ⟨%d13, %f13, %hf13, H13⟩, ⟨%d8, %f8, %hf8, H8⟩, Hk⟩
  obtain rfl := harg2.eq_unread hf2; obtain rfl := harg5.eq_unread hf5; obtain rfl := harg6.eq_unread hf6; obtain rfl := harg7.eq_unread hf7; obtain rfl := harg14.eq_unread hf14
  sl_exec (disch := first | sl_exact hc1 | sl_exact hc4 | sl_exact hc5 | sl_exact hc6)
  sl_step
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H14]
  · iexists _; isplitr; · ipureintro; exact harg14.read_unread _
    iexact H14
  isplitl [H12]
  · iexists _; isplitr
    swap; · iexact H12
    ipureintro; (try frame_open); simp (disch := decide) only [read_store, View.readAt_eq_ld, View.ld_unit_lit', View.readCov_cons_unit_lit', View.readCov_unit_lit', Memref.IsWhole.read_unread, read_bias, load_bias]
  isplitl [H13]
  · iexists _; isplitr
    swap; · iexact H13
    ipureintro; (try frame_open); simp (disch := decide) only [read_store, View.readAt_eq_ld, View.ld_unit_lit', View.readCov_cons_unit_lit', View.readCov_unit_lit', Memref.IsWhole.read_unread, read_bias, load_bias]
  iexists _; isplitr
  swap; · iexact H8
  ipureintro; (try frame_open); simp (disch := decide) only [read_store, View.readAt_eq_ld, View.ld_unit_lit', View.readCov_cons_unit_lit', View.readCov_unit_lit', Memref.IsWhole.read_unread, read_bias, load_bias]

end Cert.Kernel3Ideal.Gen

end
-- ==== Proof.ProjData.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Pipeline.ReadBack
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise
public import proofs.«01_k».proof.Proof.ProjRun

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline finds -/

/-- The buffers of core `c` once the host operations before the pipeline have run. -/
abbrev V (c : Dev nD) (b : Ref sig .tc) : Buf (Elt F) ((c : Thread nD τ).loc b) := StableHlo.after hostOps0 (fun b => m (c, b)) b

/-- None of those operations leaves a buffer undetermined. -/
theorem host_fresh : (hostOps0 : List (HloOp τ sig (Elt F))).Forall fun op => op.fresh = ∅ := by
  simp only [List.Forall]; repeat' constructor

set_option maxHeartbeats 800000 in
/-- The program is those operations and then the pipeline. -/
theorem main_upto (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- A buffer that is the result of no host operation is found as launched. -/
theorem entry_of (c : Dev nD) (b : Ref sig .tc) (h : ∀ r ∈ [main_v0, main_v1, main_v2, main_v3, main_v4, main_v5, main_v6, main_v7, main_v8], b ≠ r) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.reshape_writes, Finset.mem_singleton]
    repeat' apply And.intro
    all_goals exact StableHlo.devRef_ne_of_ne (h _ (by simp))))

/-- The block of window `w` at point `t`, in its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The points -/

theorem lt36 (t : Fin cfg0.N) : t.val < 36 := lt_of_lt_of_eq t.isLt N_0

/-- The point of a number. -/
def pt (n : ℕ) : Fin cfg0.N := ⟨n % 36, lt_of_lt_of_eq (Nat.mod_lt _ (by decide)) N_0.symm⟩

theorem pt_val (t : Fin cfg0.N) : pt t.val = t := Fin.ext (Nat.mod_eq_of_lt (lt36 t))

theorem pt_eq {n : ℕ} {t : Fin cfg0.N} (h : n = t.val) : pt n = t := by subst h; exact pt_val t

theorem cond1_iff : ∀ t : Fin cfg0.N, k0_cond1 (grid0.coords t) = 1#1 ↔ t.val % 9 = 0 :=
  (by decide +kernel : ∀ t : Fin grid0.N, k0_cond1 (grid0.coords t) = 1#1 ↔ t.val % 9 = 0)
theorem cond2_iff : ∀ t : Fin cfg0.N, k0_cond2 (grid0.coords t) = 1#1 ↔ (t.val / 9 = 0 ∨ t.val / 9 = 2) :=
  (by decide +kernel : ∀ t : Fin grid0.N, k0_cond2 (grid0.coords t) = 1#1 ↔ (t.val / 9 = 0 ∨ t.val / 9 = 2))
theorem cond3_iff : ∀ t : Fin cfg0.N, k0_cond3 (grid0.coords t) = 1#1 ↔ t.val / 9 = 1 :=
  (by decide +kernel : ∀ t : Fin grid0.N, k0_cond3 (grid0.coords t) = 1#1 ↔ t.val / 9 = 1)
theorem cond4_iff : ∀ t : Fin cfg0.N, k0_cond4 (grid0.coords t) = 1#1 ↔ (t.val / 9 = 0 ∨ t.val / 9 = 2) :=
  (by decide +kernel : ∀ t : Fin grid0.N, k0_cond4 (grid0.coords t) = 1#1 ↔ (t.val / 9 = 0 ∨ t.val / 9 = 2))
theorem cond5_iff : ∀ t : Fin cfg0.N, k0_cond5 (grid0.coords t) = 1#1 ↔ t.val / 9 = 1 :=
  (by decide +kernel : ∀ t : Fin grid0.N, k0_cond5 (grid0.coords t) = 1#1 ↔ t.val / 9 = 1)
theorem cond6_iff : ∀ t : Fin cfg0.N, k0_cond6 (grid0.coords t) = 1#1 ↔ t.val / 9 = 3 :=
  (by decide +kernel : ∀ t : Fin grid0.N, k0_cond6 (grid0.coords t) = 1#1 ↔ t.val / 9 = 3)

/-! ## What the buffers hold after each point -/

/-- The scratch of the converted weight rows: those of the run of nine points that `n` lies in. -/
def wAt (c : Dev nD) (n : ℕ) : Vec F S1024x2048 .bf16 := k0_pay1 (iblk m c 2 (pt (n / 9 * 9)))
/-- The scratch of the bias column, from the run of the keys on. -/
def bAt (c : Dev nD) : Vec F S1024x128 .f32 := biasCol (iblk m c 3 (pt 9))
/-- The block of `q` or of `v` at a point of their runs. -/
def zLin (c : Dev nD) (t : Fin cfg0.N) : Vec F S1024x1024 .bf16 := k0_pay5 (iblk m c 0 t) (wAt m c t.val) (iblk m c 3 t)
/-- The block of the output gate at a point of its run. -/
def zGate (c : Dev nD) (t : Fin cfg0.N) : Vec F S1024x1024 .bf16 := k0_pay11 (iblk m c 0 t) (wAt m c t.val) (iblk m c 3 t)
/-- The first output's buffer: during the run of the keys it stays as the point 8 left it. -/
def zAt (c : Dev nD) (t : Fin cfg0.N) : Vec F S1024x1024 .bf16 :=
  if t.val / 9 = 3 then zGate m c t else if t.val / 9 = 1 then zLin m c (pt 8) else zLin m c t
/-- The second output's buffer: a block of the keys at the points of their run, the last one of them afterwards. -/
def kAt (c : Dev nD) (n : ℕ) : Vec F S1024x1024 .bf16 := k0_pay8 (wAt m c n) (iblk m c 0 (pt n)) (bAt m c)
/-- The position in the run of the keys that the second output's buffer reflects. -/
def keyPos (n : ℕ) : ℕ := min (max n 9) 17
/-- The third output's buffer: the meta rows, formed at the first point of a run. -/
def zmAt (c : Dev nD) (n : ℕ) : Vec F S128x1024 .bf16 := k0_pay2 (iblk m c 1 (pt (n / 18 * 18))) (wAt m c (n / 18 * 18)) (iblk m c 3 (pt (n / 18 * 18)))
/-- The fourth output's buffer: the keys of the meta rows. -/
def kmAt (c : Dev nD) : Vec F S1024x128 .bf16 := k0_pay21 (wAt m c 9) (iblk m c 1 (pt 9)) (bAt m c)

/-- The proof data: arrays as found, inputs left in place, outputs as above, and the two scratch buffers between points. -/
def scr0 : Memref sig .tc .vmem S1024x2048 .bf16 := Memref.whole cc0_scratch0
def scr1 : Memref sig .tc .vmem S1024x128 .f32 := Memref.whole cc0_scratch1

/-- Before point `n`: the first scratch holds the rows of the run of the point before, the second the bias column once
    the run of the keys has begun. -/
def between (c : Dev nD) (n : ℕ) : sProp 𝕄 :=
  iprop(∃ w : Vec F S1024x2048 .bf16, ∃ b : Vec F S1024x128 .f32,
    ⌜(0 < n → w = wAt m c (n - 1)) ∧ (10 ≤ n → b = bAt m c)⌝
      ∗ owns (c : Thread nD τ) scr0 fullShare w ∗ owns (c : Thread nD τ) scr1 fullShare b ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => zAt m c t
    | ⟨7, _⟩ => kAt m c (keyPos t.val)
    | ⟨8, _⟩ => zmAt m c t.val
    | ⟨9, _⟩ => kmAt m c
    | ⟨10, _⟩ => k0_pay3 (iblk m c 4 t)
    | ⟨11, _⟩ => k0_pay4 (iblk m c 5 t)
  Φ t := between m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = zAt m c t := by dsimp only [dats]
theorem after_7 (c : Dev nD) (t : Fin cfg0.N) : (dats m 0 c).after 7 t = kAt m c (keyPos t.val) := by dsimp only [dats]
theorem after_8 (c : Dev nD) (t : Fin cfg0.N) : (dats m 0 c).after 8 t = zmAt m c t.val := by dsimp only [dats]
theorem after_9 (c : Dev nD) (t : Fin cfg0.N) : (dats m 0 c).after 9 t = kmAt m c := by dsimp only [dats]
theorem after_10 (c : Dev nD) (t : Fin cfg0.N) : (dats m 0 c).after 10 t = k0_pay3 (iblk m c 4 t) := by dsimp only [dats]
theorem after_11 (c : Dev nD) (t : Fin cfg0.N) : (dats m 0 c).after 11 t = k0_pay4 (iblk m c 5 t) := by dsimp only [dats]

/-! The inputs' buffers hold their blocks at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The points at which an output is left alone -/

theorem idle_6 : ∀ t : Fin cfg0.N, cfg0.idle 6 (grid0.coords t) = decide (t.val / 9 = 1) :=
  (by decide +kernel : ∀ t : Fin grid0.N, idle0 6 (grid0.coords t) = decide (t.val / 9 = 1))
theorem idle_7 : ∀ t : Fin cfg0.N, cfg0.idle 7 (grid0.coords t) = decide (t.val / 9 ≠ 1) :=
  (by decide +kernel : ∀ t : Fin grid0.N, idle0 7 (grid0.coords t) = decide (t.val / 9 ≠ 1))
theorem idle_8 : ∀ t : Fin cfg0.N, cfg0.idle 8 (grid0.coords t) = decide (t.val % 18 ≠ 0) :=
  (by decide +kernel : ∀ t : Fin grid0.N, idle0 8 (grid0.coords t) = decide (t.val % 18 ≠ 0))
theorem idle_9 : ∀ t : Fin cfg0.N, cfg0.idle 9 (grid0.coords t) = decide (t.val ≠ 9) :=
  (by decide +kernel : ∀ t : Fin grid0.N, idle0 9 (grid0.coords t) = decide (t.val ≠ 9))
theorem idle_10 : ∀ t : Fin cfg0.N, cfg0.idle 10 (grid0.coords t) = false :=
  (by decide +kernel : ∀ t : Fin grid0.N, idle0 10 (grid0.coords t) = false)
theorem idle_11 : ∀ t : Fin cfg0.N, cfg0.idle 11 (grid0.coords t) = false :=
  (by decide +kernel : ∀ t : Fin grid0.N, idle0 11 (grid0.coords t) = false)

/-! Where such a point writes the block back, an earlier point has stored it. -/

theorem held_6 : ∀ t : Fin cfg0.N, cfg0.idle 6 (grid0.coords t) = true → (cfg0.win 6).flush t = true → cfg0.fresh 6 t.val = false := by
  decide +kernel
theorem held_7 : ∀ t : Fin cfg0.N, cfg0.idle 7 (grid0.coords t) = true → (cfg0.win 7).flush t = true → cfg0.fresh 7 t.val = false := by
  decide +kernel
theorem held_8 : ∀ t : Fin cfg0.N, cfg0.idle 8 (grid0.coords t) = true → (cfg0.win 8).flush t = true → cfg0.fresh 8 t.val = false := by
  decide +kernel
theorem held_9 : ∀ t : Fin cfg0.N, cfg0.idle 9 (grid0.coords t) = true → (cfg0.win 9).flush t = true → cfg0.fresh 9 t.val = false := by
  decide +kernel

/-- A point that stores into window `w` leaves its buffer at `after`. -/
theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A point that leaves an output's buffer alone, writing it back or not: what the point before left is what is owed. -/
theorem leaves_alone (c : Dev nD) (w : Fin cfg0.W) (t : Fin cfg0.N) (hw : (cfg0.win w).isOut = true)
    (hclip : ∀ (i : cfg0.grid.Coords) a, (cfg0.win w).clip i a = none)
    (hcarry : ∀ (t : Fin cfg0.N) (_ : t.val ≠ 0), cfg0.idle w (cfg0.grid.coords t) = true →
      (dats m 0 c).after w t = (dats m 0 c).after w ⟨t.val - 1, by omega⟩)
    (hheld : (cfg0.win w).flush t = true → cfg0.fresh w t.val = false)
    (hi : cfg0.idle w (cfg0.grid.coords t) = true) (d) :
    owns (c : Thread nD τ) ((cfg0.win w).stage (cfg0.slots t w)) fullShare ((dats m 0 c).before w t d) ⊢ (dats m 0 c).leavesExact w t := by
  cases hf : (cfg0.win w).flush t with
  | false =>
    rw [Dat.leavesExact_idle _ w t hi hf]
    iintro H; iexists d; iexact H
  | true =>
    have hfr := hheld hf
    have h0 : t.val ≠ 0 := fun h => by rw [h, Pipeline.Cfg.fresh_zero] at hfr; exact Bool.noConfusion hfr
    have hb : (dats m 0 c).before w t d = (dats m 0 c).after w t := by
      rw [Dat.before_out_traj _ w hw hclip (fun t h0 hi _ => hcarry t h0 hi) t.val t rfl d,
        if_neg (by rw [hfr]; exact Bool.false_ne_true), hcarry t h0 hi]
    have hl : (dats m 0 c).leavesExact w t = owns (c : Thread nD τ) ((cfg0.win w).stage (cfg0.slots t w)) fullShare ((dats m 0 c).after w t) := by
      unfold Dat.leavesExact; rw [hi, hf]
    rw [hl, hb]

theorem carry_6 (c : Dev nD) (t : Fin cfg0.N) (_ : t.val ≠ 0) (hi : cfg0.idle 6 (cfg0.grid.coords t) = true) :
    (dats m 0 c).after 6 t = (dats m 0 c).after 6 ⟨t.val - 1, by omega⟩ := by
  have h1 : t.val / 9 = 1 := by simpa using (idle_6 t).symm.trans hi
  rw [after_6, after_6]
  unfold zAt
  rw [if_neg (by omega), if_pos h1]
  by_cases h8 : t.val = 9
  · rw [if_neg (by simp only; omega), if_neg (by simp only; omega)]
    exact congrArg _ (pt_eq (by simp only; omega))
  · rw [if_neg (by simp only; omega), if_pos (by simp only; omega)]

theorem carry_7 (c : Dev nD) (t : Fin cfg0.N) (_ : t.val ≠ 0) (hi : cfg0.idle 7 (cfg0.grid.coords t) = true) :
    (dats m 0 c).after 7 t = (dats m 0 c).after 7 ⟨t.val - 1, by omega⟩ := by
  have h1 : t.val / 9 ≠ 1 := by simpa using (idle_7 t).symm.trans hi
  rw [after_7, after_7]
  exact congrArg _ (by unfold keyPos; simp only; omega)

theorem carry_8 (c : Dev nD) (t : Fin cfg0.N) (_ : t.val ≠ 0) (hi : cfg0.idle 8 (cfg0.grid.coords t) = true) :
    (dats m 0 c).after 8 t = (dats m 0 c).after 8 ⟨t.val - 1, by omega⟩ := by
  have h1 : t.val % 18 ≠ 0 := by simpa using (idle_8 t).symm.trans hi
  rw [after_8, after_8]
  unfold zmAt
  simp only
  rw [show (t.val - 1) / 18 = t.val / 18 by omega]

theorem carry_9 (c : Dev nD) (t : Fin cfg0.N) (_ : t.val ≠ 0) (hi : cfg0.idle 9 (cfg0.grid.coords t) = true) :
    (dats m 0 c).after 9 t = (dats m 0 c).after 9 ⟨t.val - 1, by omega⟩ := by
  rw [after_9, after_9]

end Cert.Kernel3Ideal.Gen

end
-- ==== Proof.ProjFrame.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Pipeline.ReadBack
public import Idealize.ShloMosaic.Lib.Ring
public import Idealize.ShloMosaic.Lib.Tactic
public import Idealize.ShloMosaic.Lib.WordCmp
public import Idealize.ShloMosaic.Lib.Pipeline.ValueKit
public import Idealize.ShloMosaic.Lib.Pointwise
public import proofs.«01_k».proof.Proof.ProjData

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is given at a point, window by window. -/
def given (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- What it hands back. -/
def returned (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem wAt_head (c : Dev nD) (t : Fin cfg0.N) (h : t.val % 9 = 0) : k0_pay1 (iblk m c 2 t) = wAt m c t.val := by
  unfold wAt; rw [pt_eq (t := t) (by omega)]

theorem wAt_step (c : Dev nD) (t : Fin cfg0.N) (h : ¬t.val % 9 = 0) : wAt m c (t.val - 1) = wAt m c t.val := by
  unfold wAt; rw [show (t.val - 1) / 9 = t.val / 9 by omega]

theorem bAt_head (c : Dev nD) (t : Fin cfg0.N) (h : t.val = 9) : biasCol (iblk m c 3 t) = bAt m c := by
  unfold bAt; rw [pt_eq (t := t) h.symm]

theorem zAt_head_even (c : Dev nD) (t : Fin cfg0.N) (h0 : t.val % 9 = 0) (h : t.val / 9 = 0 ∨ t.val / 9 = 2) :
    zAt m c t = k0_pay5 (iblk m c 0 t) (k0_pay1 (iblk m c 2 t)) (iblk m c 3 t) := by
  unfold zAt; rw [if_neg (by omega), if_neg (by omega)]; unfold zLin; rw [wAt_head m c t h0]

theorem zAt_step_even (c : Dev nD) (t : Fin cfg0.N) (h : t.val / 9 = 0 ∨ t.val / 9 = 2) :
    zAt m c t = k0_pay5 (iblk m c 0 t) (wAt m c t.val) (iblk m c 3 t) := by
  unfold zAt; rw [if_neg (by omega), if_neg (by omega)]; unfold zLin; rfl

theorem zAt_head_gate (c : Dev nD) (t : Fin cfg0.N) (h0 : t.val % 9 = 0) (h : t.val / 9 = 3) :
    zAt m c t = k0_pay11 (iblk m c 0 t) (k0_pay1 (iblk m c 2 t)) (iblk m c 3 t) := by
  unfold zAt; rw [if_pos h]; unfold zGate; rw [wAt_head m c t h0]

theorem zAt_step_gate (c : Dev nD) (t : Fin cfg0.N) (h : t.val / 9 = 3) :
    zAt m c t = k0_pay11 (iblk m c 0 t) (wAt m c t.val) (iblk m c 3 t) := by
  unfold zAt; rw [if_pos h]; unfold zGate; rfl

theorem kAt_step_key (c : Dev nD) (t : Fin cfg0.N) (h : t.val / 9 = 1) :
    kAt m c (keyPos t.val) = k0_pay8 (wAt m c t.val) (iblk m c 0 t) (bAt m c) := by
  rw [show keyPos t.val = t.val by unfold keyPos; omega]; unfold kAt; rw [pt_val]

theorem kAt_head_key (c : Dev nD) (t : Fin cfg0.N) (h0 : t.val % 9 = 0) (h : t.val / 9 = 1) :
    kAt m c (keyPos t.val) = k0_pay8 (k0_pay1 (iblk m c 2 t)) (iblk m c 0 t) (biasCol (iblk m c 3 t)) := by
  rw [kAt_step_key m c t h, wAt_head m c t h0, bAt_head m c t (by omega)]

theorem zmAt_head (c : Dev nD) (t : Fin cfg0.N) (h0 : t.val % 9 = 0) (h : t.val / 9 = 0 ∨ t.val / 9 = 2) :
    zmAt m c t.val = k0_pay2 (iblk m c 1 t) (k0_pay1 (iblk m c 2 t)) (iblk m c 3 t) := by
  unfold zmAt; rw [show t.val / 18 * 18 = t.val by omega, pt_val, wAt_head m c t h0]

theorem kmAt_head (c : Dev nD) (t : Fin cfg0.N) (h : t.val = 9) :
    kmAt m c = k0_pay21 (k0_pay1 (iblk m c 2 t)) (iblk m c 1 t) (biasCol (iblk m c 3 t)) := by
  unfold kmAt; rw [pt_eq (t := t) h.symm, bAt_head m c t h, wAt_head m c t (by omega), h]

set_option maxHeartbeats 4000000 in
/-- The body's obligation at a first point of a run whose columns are those of `q` or of `v`: the weight block is converted into the scratch, both products are formed. -/
theorem body_head_even (c : Dev nD) (t : Fin cfg0.N) (h0 : t.val % 9 = 0) (h : t.val / 9 = 0 ∨ t.val / 9 = 2) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 6 t ((idle_6 t).trans (decide_eq_false (by omega))), after_6, zAt_head_even m c t h0 h]
  rw [leaves_live m c 8 t ((idle_8 t).trans (decide_eq_false (by omega))), after_8, zmAt_head m c t h0 h]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_head_even c (grid0.coords t) _ _ _ _ _ _ _ _ _ _ _ _ _ _ _ _ _ _ _ _ _ _ _ _ _ _ _ _ ((cond1_iff t).mpr (by omega)) ((cond2_iff t).mpr (by omega)) (fun e => absurd ((cond3_iff t).mp e) (by omega)) ((cond4_iff t).mpr (by omega)) (fun e => absurd ((cond5_iff t).mp e) (by omega)) (fun e => absurd ((cond6_iff t).mp e) (by omega)) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [H8]; · iexists _; iexact H8
  isplitl [H10]; · iexists _; iexact H10
  isplitl [H11]; · iexists _; iexact H11
  isplitl [H6]; · iexists _; iexact H6
  iintro ⟨H0, H1, H2, H3, H4, H5, HS0, H8, H10, H11, H6⟩
  isplitl [HS0 HS1 Hg]
  · iexists _; iexists _; isplitr
    swap
    · isplitl [HS0]; · iexact HS0
      isplitl [HS1]; · iexact HS1
      iexact Hg
    · ipureintro; exact ⟨fun _ => wAt_head m c t h0, fun _ => hs.2 (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_alone m c 7 t rfl (fun _ _ => rfl) (carry_7 m c) (held_7 t ((idle_7 t).trans (decide_eq_true (by omega)))) ((idle_7 t).trans (decide_eq_true (by omega))) d7); iexact H7
  isplitl [H8]; · iexact H8
  isplitl [H9]; · iapply (leaves_alone m c 9 t rfl (fun _ _ => rfl) (carry_9 m c) (held_9 t ((idle_9 t).trans (decide_eq_true (by omega)))) ((idle_9 t).trans (decide_eq_true (by omega))) d9); iexact H9
  isplitl [H10]; · iexact H10
  iexact H11

set_option maxHeartbeats 4000000 in
/-- The body's obligation at a later point of such a run: only the product of the prompt rows. -/
theorem body_step_even (c : Dev nD) (t : Fin cfg0.N) (h0 : ¬t.val % 9 = 0) (h : t.val / 9 = 0 ∨ t.val / 9 = 2) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 6 t ((idle_6 t).trans (decide_eq_false (by omega))), after_6, zAt_step_even m c t h]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (hs.1 (by omega)).trans (wAt_step m c t h0)
  iapply (run_step_even c (grid0.coords t) _ _ _ _ _ _ _ _ _ _ _ _ _ _ _ _ _ _ _ _ _ _ _ _ _ _ _ _ (fun e => absurd ((cond1_iff t).mp e) (by omega)) ((cond4_iff t).mpr (by omega)) (fun e => absurd ((cond5_iff t).mp e) (by omega)) (fun e => absurd ((cond6_iff t).mp e) (by omega)) (iblk m c 0 t) (iblk m c 3 t) (iblk m c 4 t) (iblk m c 5 t) (wAt m c t.val) Set.univ _)
  isplitl [H0]; · iexact H0
  isplitl [H3]; · iexact H3
  isplitl [H4]; · iexact H4
  isplitl [H5]; · iexact H5
  isplitl [HS0]; · iexact HS0
  isplitl [H10]; · iexists _; iexact H10
  isplitl [H11]; · iexists _; iexact H11
  isplitl [H6]; · iexists _; iexact H6
  iintro ⟨H0, H3, H4, H5, HS0, H10, H11, H6⟩
  isplitl [HS0 HS1 Hg]
  · iexists _; iexists _; isplitr
    swap
    · isplitl [HS0]; · iexact HS0
      isplitl [HS1]; · iexact HS1
      iexact Hg
    · ipureintro; exact ⟨fun _ => rfl, fun _ => hs.2 (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_alone m c 7 t rfl (fun _ _ => rfl) (carry_7 m c) (held_7 t ((idle_7 t).trans (decide_eq_true (by omega)))) ((idle_7 t).trans (decide_eq_true (by omega))) d7); iexact H7
  isplitl [H8]; · iapply (leaves_alone m c 8 t rfl (fun _ _ => rfl) (carry_8 m c) (held_8 t ((idle_8 t).trans (decide_eq_true (by omega)))) ((idle_8 t).trans (decide_eq_true (by omega))) d8); iexact H8
  isplitl [H9]; · iapply (leaves_alone m c 9 t rfl (fun _ _ => rfl) (carry_9 m c) (held_9 t ((idle_9 t).trans (decide_eq_true (by omega)))) ((idle_9 t).trans (decide_eq_true (by omega))) d9); iexact H9
  isplitl [H10]; · iexact H10
  iexact H11

set_option maxHeartbeats 4000000 in
/-- The body's obligation at a first point of the run of the keys: the weight block is converted, the bias turned into a column, both transposed products are formed. -/
theorem body_head_key (c : Dev nD) (t : Fin cfg0.N) (h0 : t.val % 9 = 0) (h : t.val / 9 = 1) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 7 t ((idle_7 t).trans (decide_eq_false (by omega))), after_7, kAt_head_key m c t h0 h]
  rw [leaves_live m c 9 t ((idle_9 t).trans (decide_eq_false (by omega))), after_9, kmAt_head m c t (by omega)]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_head_key c (grid0.coords t) _ _ _ _ _ _ _ _ _ _ _ _ _ _ _ _ _ _ _ _ _ _ _ _ _ _ _ _ ((cond1_iff t).mpr (by omega)) (fun e => absurd ((cond2_iff t).mp e) (by omega)) ((cond3_iff t).mpr (by omega)) (fun e => absurd ((cond4_iff t).mp e) (by omega)) ((cond5_iff t).mpr (by omega)) (fun e => absurd ((cond6_iff t).mp e) (by omega)) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [H9]; · iexists _; iexact H9
  isplitl [H10]; · iexists _; iexact H10
  isplitl [H11]; · iexists _; iexact H11
  isplitl [H7]; · iexists _; iexact H7
  iintro ⟨H0, H1, H2, H3, H4, H5, HS0, HS1, H9, H10, H11, H7⟩
  isplitl [HS0 HS1 Hg]
  · iexists _; iexists _; isplitr
    swap
    · isplitl [HS0]; · iexact HS0
      isplitl [HS1]; · iexact HS1
      iexact Hg
    · ipureintro; exact ⟨fun _ => wAt_head m c t h0, fun _ => bAt_head m c t (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_alone m c 6 t rfl (fun _ _ => rfl) (carry_6 m c) (held_6 t ((idle_6 t).trans (decide_eq_true (by omega)))) ((idle_6 t).trans (decide_eq_true (by omega))) d6); iexact H6
  isplitl [H7]; · iexact H7
  isplitl [H8]; · iapply (leaves_alone m c 8 t rfl (fun _ _ => rfl) (carry_8 m c) (held_8 t ((idle_8 t).trans (decide_eq_true (by omega)))) ((idle_8 t).trans (decide_eq_true (by omega))) d8); iexact H8
  isplitl [H9]; · iexact H9
  isplitl [H10]; · iexact H10
  iexact H11

set_option maxHeartbeats 4000000 in
/-- The body's obligation at a later point of the run of the keys: only the transposed product of the prompt rows. -/
theorem body_step_key (c : Dev nD) (t : Fin cfg0.N) (h0 : ¬t.val % 9 = 0) (h : t.val / 9 = 1) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 7 t ((idle_7 t).trans (decide_eq_false (by omega))), after_7, kAt_step_key m c t h]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (hs.1 (by omega)).trans (wAt_step m c t h0)
  obtain rfl := hs.2 (by omega)
  iapply (run_step_key c (grid0.coords t) _ _ _ _ _ _ _ _ _ _ _ _ _ _ _ _ _ _ _ _ _ _ _ _ _ _ _ _ (fun e => absurd ((cond1_iff t).mp e) (by omega)) (fun e => absurd ((cond4_iff t).mp e) (by omega)) ((cond5_iff t).mpr (by omega)) (fun e => absurd ((cond6_iff t).mp e) (by omega)) (iblk m c 0 t) (iblk m c 4 t) (iblk m c 5 t) (wAt m c t.val) (bAt m c) Set.univ _)
  isplitl [H0]; · iexact H0
  isplitl [H4]; · iexact H4
  isplitl [H5]; · iexact H5
  isplitl [HS0]; · iexact HS0
  isplitl [HS1]; · iexact HS1
  isplitl [H10]; · iexists _; iexact H10
  isplitl [H11]; · iexists _; iexact H11
  isplitl [H7]; · iexists _; iexact H7
  iintro ⟨H0, H4, H5, HS0, HS1, H10, H11, H7⟩
  isplitl [HS0 HS1 Hg]
  · iexists _; iexists _; isplitr
    swap
    · isplitl [HS0]; · iexact HS0
      isplitl [HS1]; · iexact HS1
      iexact Hg
    · ipureintro; exact ⟨fun _ => rfl, fun _ => rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_alone m c 6 t rfl (fun _ _ => rfl) (carry_6 m c) (held_6 t ((idle_6 t).trans (decide_eq_true (by omega)))) ((idle_6 t).trans (decide_eq_true (by omega))) d6); iexact H6
  isplitl [H7]; · iexact H7
  isplitl [H8]; · iapply (leaves_alone m c 8 t rfl (fun _ _ => rfl) (carry_8 m c) (held_8 t ((idle_8 t).trans (decide_eq_true (by omega)))) ((idle_8 t).trans (decide_eq_true (by omega))) d8); iexact H8
  isplitl [H9]; · iapply (leaves_alone m c 9 t rfl (fun _ _ => rfl) (carry_9 m c) (held_9 t ((idle_9 t).trans (decide_eq_true (by omega)))) ((idle_9 t).trans (decide_eq_true (by omega))) d9); iexact H9
  isplitl [H10]; · iexact H10
  iexact H11

set_option maxHeartbeats 4000000 in
/-- The body's obligation at a first point of the run of the output gate: the weight block is converted, then the product and its logistic are formed. -/
theorem body_head_gate (c : Dev nD) (t : Fin cfg0.N) (h0 : t.val % 9 = 0) (h : t.val / 9 = 3) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 6 t ((idle_6 t).trans (decide_eq_false (by omega))), after_6, zAt_head_gate m c t h0 h]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_head_gate c (grid0.coords t) _ _ _ _ _ _ _ _ _ _ _ _ _ _ _ _ _ _ _ _ _ _ _ _ _ _ _ _ ((cond1_iff t).mpr (by omega)) (fun e => absurd ((cond2_iff t).mp e) (by omega)) (fun e => absurd ((cond3_iff t).mp e) (by omega)) (fun e => absurd ((cond4_iff t).mp e) (by omega)) (fun e => absurd ((cond5_iff t).mp e) (by omega)) ((cond6_iff t).mpr (by omega)) (iblk m c 0 t) (iblk m c 2 t) (iblk m c 3 t) (iblk m c 4 t) (iblk m c 5 t) Set.univ _)
  isplitl [H0]; · iexact H0
  isplitl [H2]; · iexact H2
  isplitl [H3]; · iexact H3
  isplitl [H4]; · iexact H4
  isplitl [H5]; · iexact H5
  isplitl [HS0]; · iexists _; iexact HS0
  isplitl [H10]; · iexists _; iexact H10
  isplitl [H11]; · iexists _; iexact H11
  isplitl [H6]; · iexists _; iexact H6
  iintro ⟨H0, H2, H3, H4, H5, HS0, H10, H11, H6⟩
  isplitl [HS0 HS1 Hg]
  · iexists _; iexists _; isplitr
    swap
    · isplitl [HS0]; · iexact HS0
      isplitl [HS1]; · iexact HS1
      iexact Hg
    · ipureintro; exact ⟨fun _ => wAt_head m c t h0, fun _ => hs.2 (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_alone m c 7 t rfl (fun _ _ => rfl) (carry_7 m c) (held_7 t ((idle_7 t).trans (decide_eq_true (by omega)))) ((idle_7 t).trans (decide_eq_true (by omega))) d7); iexact H7
  isplitl [H8]; · iapply (leaves_alone m c 8 t rfl (fun _ _ => rfl) (carry_8 m c) (held_8 t ((idle_8 t).trans (decide_eq_true (by omega)))) ((idle_8 t).trans (decide_eq_true (by omega))) d8); iexact H8
  isplitl [H9]; · iapply (leaves_alone m c 9 t rfl (fun _ _ => rfl) (carry_9 m c) (held_9 t ((idle_9 t).trans (decide_eq_true (by omega)))) ((idle_9 t).trans (decide_eq_true (by omega))) d9); iexact H9
  isplitl [H10]; · iexact H10
  iexact H11

set_option maxHeartbeats 4000000 in
/-- The body's obligation at a later point of the run of the output gate. -/
theorem body_step_gate (c : Dev nD) (t : Fin cfg0.N) (h0 : ¬t.val % 9 = 0) (h : t.val / 9 = 3) :
    given m c t ⊢ wp frame (wpE (defs₀ (F := F)) Variants.none c none) Set.univ (bodyAt0 t) (fun _ => returned m c t) := by
  have hN := lt36 t
  unfold given returned bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = between m c (t.val + 1) from rfl, show (dats m 0 c).Φ t.castSucc = between m c t.val from rfl]
  rw [leaves_live m c 6 t ((idle_6 t).trans (decide_eq_false (by omega))), after_6, zAt_step_gate m c t h]
  rw [leaves_live m c 10 t (idle_10 t), after_10]
  rw [leaves_live m c 11 t (idle_11 t), after_11]
  unfold between
  iintro ⟨⟨%w, %b, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := (hs.1 (by omega)).trans (wAt_step m c t h0)
  iapply (run_step_gate c (grid0.coords t) _ _ _ _ _ _ _ _ _ _ _ _ _ _ _ _ _ _ _ _ _ _ _ _ _ _ _ _ (fun e => absurd ((cond1_iff t).mp e) (by omega)) (fun e => absurd ((cond4_iff t).mp e) (by omega)) (fun e => absurd ((cond5_iff t).mp e) (by omega)) ((cond6_iff t).mpr (by omega)) (iblk m c 0 t) (iblk m c 3 t) (iblk m c 4 t) (iblk m c 5 t) (wAt m c t.val) Set.univ _)
  isplitl [H0]; · iexact H0
  isplitl [H3]; · iexact H3
  isplitl [H4]; · iexact H4
  isplitl [H5]; · iexact H5
  isplitl [HS0]; · iexact HS0
  isplitl [H10]; · iexists _; iexact H10
  isplitl [H11]; · iexists _; iexact H11
  isplitl [H6]; · iexists _; iexact H6
  iintro ⟨H0, H3, H4, H5, HS0, H10, H11, H6⟩
  isplitl [HS0 HS1 Hg]
  · iexists _; iexists _; isplitr
    swap
    · isplitl [HS0]; · iexact HS0
      isplitl [HS1]; · iexact HS1
      iexact Hg
    · ipureintro; exact ⟨fun _ => rfl, fun _ => hs.2 (by omega)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_alone m c 7 t rfl (fun _ _ => rfl) (carry_7 m c) (held_7 t ((idle_7 t).trans (decide_eq_true (by omega)))) ((idle_7 t).trans (decide_eq_true (by omega))) d7); iexact H7
  isplitl [H8]; · iapply (leaves_alone m c 8 t rfl (fun _ _ => rfl) (carry_8 m c) (held_8 t ((idle_8 t).trans (decide_eq_true (by omega)))) ((idle_8 t).trans (decide_eq_true (by omega))) d8); iexact H8
  isplitl [H9]; · iapply (leaves_alone m c 9 t rfl (fun _ _ => rfl) (carry_9 m c) (held_9 t ((idle_9 t).trans (decide_eq_true (by omega)))) ((idle_9 t).trans (decide_eq_true (by omega))) d9); iexact H9
  isplitl [H10]; · iexact H10
  iexact H11

/-- The body's obligation at any point: it lies in one of four runs of nine, first or later. -/
theorem body_any (c : Dev nD) (t : Fin cfg0.N) :
    given m c t ⊢ wp frame (wpE (defs₀ (F := F)) Variants.none c none) Set.univ (bodyAt0 t) (fun _ => returned m c t) := by
  have hN := lt36 t
  by_cases h0 : t.val % 9 = 0
  · by_cases h : t.val / 9 = 0 ∨ t.val / 9 = 2
    · exact body_head_even m c t h0 h
    · by_cases h1 : t.val / 9 = 1
      · exact body_head_key m c t h0 h1
      · exact body_head_gate m c t h0 (by omega)
  · by_cases h : t.val / 9 = 0 ∨ t.val / 9 = 2
    · exact body_step_even m c t h0 h
    · by_cases h1 : t.val / 9 = 1
      · exact body_step_key m c t h0 h1
      · exact body_step_gate m c t h0 (by omega)

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_any m c t) rfl .rfl fun _ => .rfl

/-- The scratch buffers at any contents, and the generator. -/
theorem rest_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

theorem before_first (c : Dev nD) : Pipeline.ΦA spec0 c ⊢ (dats m 0 c).Φ 0 := by
  rw [show (dats m 0 c).Φ 0 = between m c 0 from rfl, rest_eq]
  unfold between
  iintro ⟨⟨⟨%w, HS0⟩, ⟨%b, HS1⟩⟩, Hg⟩
  iexists w; iexists b; isplitr
  · ipureintro; exact ⟨fun h => absurd h (by decide), fun h => absurd h (by decide)⟩
  isplitl [HS0]; · iexact HS0
  isplitl [HS1]; · iexact HS1
  iexact Hg

theorem after_last (c : Dev nD) : (dats m 0 c).Φ (Fin.last cfg0.N) ⊢ Pipeline.ΦA spec0 c := by
  rw [show (dats m 0 c).Φ (Fin.last cfg0.N) = between m c cfg0.N from rfl, rest_eq]
  unfold between
  iintro ⟨%w, %b, %_, HS0, HS1, Hg⟩
  isplitl [HS0 HS1]
  · isplitl [HS0]; · iexists _; iexact HS0
    iexists _; iexact HS1
  iexact Hg

-- the launch's implicit arguments are found only by unfolding definitions in their types
set_option backward.isDefEq.respectTransparency.types false in
/-- The program ends, with each array as the proof data say, every other buffer as found, and no semaphore raised. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_upto m Variants.none) (hA := A_eq m) (hin := before_first m) (hout := after_last m)

theorem run_main : θ_run defs (onTc (τ := τ) (main (F := F))) (s₀ m ρ) (Pipeline.FramePost cfgs (dats m) 0 (V m)) :=
  (θ_run defs _ _).mono (fun _ h => h.1) (run_quiet m ρ)

/-- The arguments end as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (entry_of m c main_arg0 (by decide)))),
      ((h c).1 1).trans (((dats m 0 c).arrAt_in 1 rfl _).trans ((A_eq m c 1).trans (entry_of m c main_arg1 (by decide)))),
      ((h c).2 main_arg2 (Pipeline.mem_restRefs_of main_arg2 (by decide) (by decide))).trans (entry_of m c main_arg2 (by decide)),
      ((h c).2 main_arg3 (Pipeline.mem_restRefs_of main_arg3 (by decide) (by decide))).trans (entry_of m c main_arg3 (by decide)),
      ((h c).2 main_arg4 (Pipeline.mem_restRefs_of main_arg4 (by decide) (by decide))).trans (entry_of m c main_arg4 (by decide)),
      ((h c).2 main_arg5 (Pipeline.mem_restRefs_of main_arg5 (by decide) (by decide))).trans (entry_of m c main_arg5 (by decide))⟩) (run_main m ρ)

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiet m ρ))

end Cert.Kernel3Ideal.Gen

end
-- ==== Proof.ProjBits.lean ====
module

public import proofs.«01_k».proof.Proof.ProjFrame
public import proofs.«01_k».proof.Proof.Gen.Kernel3
public import proofs.«01_k».proof.Proof.Gen.Kernel3.Launch
public import Idealize.ShloMosaic.Lib.Claim
public import proofs.«01_k».proof.Defs

@[expose] public section
set_option maxRecDepth 16384

noncomputable section

open Idealize.ShloMosaic Idealize.ShloMosaic.TcCoe Idealize.SL.Sem

/-! The program as written has the text of its idealisation, so that the one run serves for both. -/

namespace Cert.Kernel3.Gen

/-- The bodies' table is the same. -/
theorem bodies_same : @Cert.Kernel3.defs₀ Bits _ _ = @Cert.Kernel3Ideal.defs₀ Bits _ _ := by
  unfold Cert.Kernel3.defs₀ Cert.Kernel3Ideal.defs₀
  refine congrArg _ (funext fun l => funext fun a => ?_)
  match l, a with
  | ⟨0, _⟩, (t, s) => rfl
  | ⟨_ + 1, h⟩, _ => exact absurd h (Nat.not_lt.2 (Nat.le_add_left _ _))

/-- The definitions are the same. -/
theorem defs_same : @Cert.Kernel3.defs Bits _ _ = @Cert.Kernel3Ideal.defs Bits _ _ := congrArg (Pipeline.defs Cert.Kernel3Ideal.pcfgs) bodies_same

/-- The projection's call as written runs and leaves its arguments as they were. -/
theorem frame : Cert.quiescent_Kernel3 := by
  intro m g _
  rw [show onTc (τ := Cert.Kernel3.τ) (Cert.Kernel3.main (F := Bits)) = onTc (τ := Cert.Kernel3Ideal.τ) (Cert.Kernel3Ideal.main (F := Bits)) from rfl, defs_same]
  exact Cert.Kernel3Ideal.Gen.frame (F := Bits) m g

end Cert.Kernel3.Gen

end
-- ==== Proof.ProjRef.lean ====
module

public import proofs.«01_k».proof.Proof.Gen.Reference3Ideal.Run
public import proofs.«01_k».proof.Proof.Gen.Reference3Ideal.Read
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The reference's projections, read at an index. -/

namespace Cert.Proj

open Cert.Reference3Ideal Cert.Reference3Ideal.Gen Cert.Reference3Ideal.Read

/-- The projection of a row on column `n` of the input weight, with the column's bias. -/
def proj (row : Fin 2048 → EReal) (W : FVec Ideal S1x2048x11272 .f32) (b : FVec Ideal S1x11272 .f32) (n : Fin 11272) : EReal :=
  ∑ x : Fin 2048, row x * W (ix3 0 x n) + b (ix2 0 n)

/-- The scale of the keys. -/
def scale : EReal := Ideal.ofBits .f32 0x3D800000#32

variable (x0 : FVec Ideal S9216x2048 .bf16) (x1 : FVec Ideal S128x2048 .bf16) (x2 : FVec Ideal S1x2048x11272 .f32) (x3 : FVec Ideal S1x11272 .f32)
  (x4 : FVec Ideal S1x2048x8192 .f32) (x5 : FVec Ideal S1x8192x2048 .f32)

/-- The token rows' projection. -/
theorem z_at (r : Fin 9216) (n : Fin 4104) : val_main_v8 (F := Ideal) x0 x2 x3 (ix2 r n) = proj (fun x => x0 (ix2 r x)) x2 x3 ⟨n, by omega⟩ := by
  pointwise [val_main_v8, val_main_v7, val_main_v6, val_main_v5, val_main_v4, val_main_v3, val_main_v2, val_main_v1, val_main_v0, proj]

/-- The meta rows' projection. -/
theorem zm_at (r : Fin 128) (n : Fin 4104) : val_main_v23 (F := Ideal) x1 x2 x3 (ix2 r n) = proj (fun x => x1 (ix2 r x)) x2 x3 ⟨n, by omega⟩ := by
  pointwise [val_main_v23, val_main_v22, val_main_v21, val_main_v20, val_main_v19, val_main_v18, val_main_v17, val_main_v16, val_main_v15, proj]

/-- The queries are the first lanes of the first result. -/
theorem ref_q (r : Fin 9216) (A : Fin 3072) (h : A.val < 1024) :
    val_main_v37 (F := Ideal) x0 x2 x3 (ix2 r A) = proj (fun x => x0 (ix2 r x)) x2 x3 ⟨A, by omega⟩ := by
  rw [← z_at x0 x2 x3 r ⟨A, by omega⟩]
  pointwise [val_main_v37, val_main_v36, val_main_v9]
  rw [dif_pos h]

/-- The values are the next. -/
theorem ref_v (r : Fin 9216) (A : Fin 3072) (h : 1024 ≤ A.val) (h' : A.val < 2048) :
    val_main_v37 (F := Ideal) x0 x2 x3 (ix2 r A) = proj (fun x => x0 (ix2 r x)) x2 x3 ⟨A + 1024, by omega⟩ := by
  rw [← z_at x0 x2 x3 r ⟨A + 1024, by omega⟩]
  pointwise [val_main_v37, val_main_v36, val_main_v13]
  rw [dif_neg (by omega), dif_pos (by omega)]
  exact congrArg (fun n => val_main_v8 (F := Ideal) x0 x2 x3 (ix2 r n)) (Fin.ext (by dsimp only; omega))

/-- The output gates are the last. -/
theorem ref_o (r : Fin 9216) (A : Fin 3072) (h : 2048 ≤ A.val) :
    val_main_v37 (F := Ideal) x0 x2 x3 (ix2 r A) = Ideal.logistic (proj (fun x => x0 (ix2 r x)) x2 x3 ⟨A + 1032, by omega⟩) := by
  rw [← z_at x0 x2 x3 r ⟨A + 1032, by omega⟩]
  pointwise [val_main_v37, val_main_v36, val_main_v35, val_main_v34, val_main_v33, val_main_v32, val_main_v31, val_main_v30, val_main_v14, val_main_cst_1, val_main_cst_2]
  rw [dif_neg (by omega), dif_neg (by omega)]
  refine Eq.trans ?_ (congrArg (fun n => Ideal.logistic (val_main_v8 (F := Ideal) x0 x2 x3 (ix2 r n)))
    (Fin.ext (by dsimp only; omega) : (⟨3080 + (A.val - 1024 - 1024), by omega⟩ : Fin 4104) = ⟨A + 1032, by omega⟩))
  rfl

/-- The keys, a token in a column. -/
theorem ref_k (l : Fin 1024) (r : Fin 9216) :
    val_main_v39 (F := Ideal) x0 x2 x3 (ix2 l r) = proj (fun x => x0 (ix2 r x)) x2 x3 ⟨1024 + l, by omega⟩ * scale := by
  rw [← z_at x0 x2 x3 r ⟨1024 + l, by omega⟩]
  pointwise [val_main_v39, val_main_v38, val_main_v12, val_main_v11, val_main_v10, val_main_cst, scale]

/-- The meta rows' queries. -/
theorem ref_qm (r : Fin 128) (A : Fin 2048) (h : A.val < 1024) :
    val_main_v41 (F := Ideal) x1 x2 x3 (ix2 r A) = proj (fun x => x1 (ix2 r x)) x2 x3 ⟨A, by omega⟩ := by
  rw [← zm_at x1 x2 x3 r ⟨A, by omega⟩]
  pointwise [val_main_v41, val_main_v40, val_main_v24]
  rw [dif_pos h]

/-- The meta rows' values. -/
theorem ref_vm (r : Fin 128) (A : Fin 2048) (h : 1024 ≤ A.val) :
    val_main_v41 (F := Ideal) x1 x2 x3 (ix2 r A) = proj (fun x => x1 (ix2 r x)) x2 x3 ⟨A + 1024, by omega⟩ := by
  rw [← zm_at x1 x2 x3 r ⟨A + 1024, by omega⟩]
  pointwise [val_main_v41, val_main_v40, val_main_v28]
  rw [dif_neg (by omega)]
  exact congrArg (fun n => val_main_v23 (F := Ideal) x1 x2 x3 (ix2 r n)) (Fin.ext (by dsimp only; omega))

/-- The meta rows' keys. -/
theorem ref_km (l : Fin 1024) (r : Fin 128) :
    val_main_v43 (F := Ideal) x1 x2 x3 (ix2 l r) = proj (fun x => x1 (ix2 r x)) x2 x3 ⟨1024 + l, by omega⟩ * scale := by
  rw [← zm_at x1 x2 x3 r ⟨1024 + l, by omega⟩]
  pointwise [val_main_v43, val_main_v42, val_main_v27, val_main_v26, val_main_v25, val_main_cst_0, scale]

/-- The feed-forward's weights. -/
theorem ref_up (a : Fin 2048) (b : Fin 8192) : val_main_v45 (F := Ideal) x4 (ix2 a b) = x4 (ix3 0 a b) := by
  pointwise [val_main_v45, val_main_v44]

theorem ref_down (a : Fin 8192) (b : Fin 2048) : val_main_v47 (F := Ideal) x5 (ix2 a b) = x5 (ix3 0 a b) := by
  pointwise [val_main_v47, val_main_v46]

end Cert.Proj

end
-- ==== Proof.ProjPoint.lean ====
module

public import proofs.«01_k».proof.Proof.MlstmGates
public import proofs.«01_k».proof.Proof.ProjData
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the projection's body stores, read at an index. -/

namespace Cert.Proj

open Cert.Kernel3Ideal Cert.Kernel3Ideal.Gen

theorem pay1_at (W : FVec Ideal S1024x2048 .f32) (r : Fin 1024) (x : Fin 2048) : k0_pay1 (F := Ideal) W (ix2 r x) = W (ix2 r x) := by
  pointwise [k0_pay1]

theorem pay3_at (W : FVec Ideal S64x8192 .f32) (r : Fin 64) (x : Fin 8192) : k0_pay3 (F := Ideal) W (ix2 r x) = W (ix2 r x) := by
  pointwise [k0_pay3]

theorem pay4_at (W : FVec Ideal S256x2048 .f32) (r : Fin 256) (x : Fin 2048) : k0_pay4 (F := Ideal) W (ix2 r x) = W (ix2 r x) := by
  pointwise [k0_pay4]

theorem pay2_at (X : FVec Ideal S128x2048 .bf16) (W : FVec Ideal S1024x2048 .bf16) (b : FVec Ideal S1x1024 .f32) (r : Fin 128) (l : Fin 1024) :
    k0_pay2 (F := Ideal) X W b (ix2 r l) = ∑ x : Fin 2048, X (ix2 r x) * W (ix2 l x) + b (ix2 0 l) := by
  pointwise [k0_pay2]

theorem pay5_at (X W : FVec Ideal S1024x2048 .bf16) (b : FVec Ideal S1x1024 .f32) (r l : Fin 1024) :
    k0_pay5 (F := Ideal) X W b (ix2 r l) = ∑ x : Fin 2048, X (ix2 r x) * W (ix2 l x) + b (ix2 0 l) := by
  pointwise [k0_pay5]

theorem pay11_at (X W : FVec Ideal S1024x2048 .bf16) (b : FVec Ideal S1x1024 .f32) (r l : Fin 1024) :
    k0_pay11 (F := Ideal) X W b (ix2 r l) = Ideal.logistic (∑ x : Fin 2048, X (ix2 r x) * W (ix2 l x) + b (ix2 0 l)) := by
  rw [← Cert.Mlstm.half_tanh]
  pointwise [k0_pay11]
  rw [Cert.Mlstm.half]

theorem pay21_at (X : FVec Ideal S128x2048 .bf16) (W : FVec Ideal S1024x2048 .bf16) (b : FVec Ideal S1x1024 .f32) (l : Fin 1024) (r : Fin 128) :
    k0_pay21 (F := Ideal) W X (biasCol b) (ix2 l r) = (∑ x : Fin 2048, X (ix2 r x) * W (ix2 l x) + b (ix2 0 l)) * Ideal.ofBits .f32 0x3D800000#32 := by
  simp only [fun x => mul_comm (X (ix2 r x)) (W (ix2 l x))]
  pointwise [k0_pay21, biasCol]

theorem pay8_at (X W : FVec Ideal S1024x2048 .bf16) (b : FVec Ideal S1x1024 .f32) (l r : Fin 1024) :
    k0_pay8 (F := Ideal) W X (biasCol b) (ix2 l r) = (∑ x : Fin 2048, X (ix2 r x) * W (ix2 l x) + b (ix2 0 l)) * Ideal.ofBits .f32 0x3D800000#32 := by
  simp only [fun x => mul_comm (X (ix2 r x)) (W (ix2 l x))]
  pointwise [k0_pay8, biasCol]
  simp only [dite_eq_ite, ite_self]

end Cert.Proj

end
-- ==== Proof.ProjBlock.lean ====
module

public import proofs.«01_k».proof.Proof.ProjData
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The blocks of the projection's call, read as entries of its arrays. -/

namespace Cert.Proj

open Cert.Kernel3Ideal Cert.Kernel3Ideal.Gen

variable (m : (ℓ : Loc nD τ sig) → Buf (Elt Ideal) ℓ)

/-- Where the inputs' blocks lie at a point. -/
theorem idx : ∀ t : Fin cfg0.N, win0_0.index t = ![t.val % 9, 0] ∧ win0_1.index t = ![0, 0]
    ∧ win0_2.index t = ![if t.val / 9 = 3 then 3080 else t.val / 9 * 1024, 0] ∧ win0_3.index t = ![0, t.val / 9]
    ∧ win0_4.index t = ![min t.val 31, 0] ∧ win0_5.index t = ![min t.val 31, 0] :=
  (by decide +kernel : ∀ t : Fin grid0.N, _)

theorem idx2 : ∀ t : Fin cfg0.N, win0_2.index t = ![if t.val / 9 = 3 then 3080 else t.val / 9 * 1024, 0] := fun t => (idx t).2.2.1

/-- Where the outputs' blocks lie. -/
theorem idxO : ∀ t : Fin cfg0.N, win0_6.index t = ![if t.val / 9 = 1 then 8 else t.val % 9, t.val / 9 - 1]
    ∧ win0_7.index t = ![0, min (max t.val 9) 17 - 9] ∧ win0_8.index t = ![0, t.val / 18] ∧ win0_9.index t = ![0, 0]
    ∧ win0_10.index t = ![min t.val 31, 0] ∧ win0_11.index t = ![min t.val 31, 0] :=
  (by decide +kernel : ∀ t : Fin grid0.N, _)

/-- The first weight column of a point. -/
def off (t : Fin cfg0.N) : ℕ := if t.val / 9 = 3 then 3080 else t.val / 9 * 1024

theorem V6 (c : Dev nD) (A : Fin 11272) (x : Fin 2048) :
    (show FVec Ideal S11272x2048 .f32 from V m c main_v6) (ix2 A x) = (show FVec Ideal S1x2048x11272 .f32 from m (c, Proc.tc.devRef main_arg2)) (ix3 0 x A) := by
  unfold V
  simp only [List.flatten_cons, List.flatten_nil, List.cons_append, List.nil_append, List.append_nil]
  entry_read
  pointwise []

theorem V7 (c : Dev nD) (a : Fin 2048) (x : Fin 8192) :
    (show FVec Ideal S2048x8192 .f32 from V m c main_v7) (ix2 a x) = (show FVec Ideal S1x2048x8192 .f32 from m (c, Proc.tc.devRef main_arg4)) (ix3 0 a x) := by
  unfold V
  simp only [List.flatten_cons, List.flatten_nil, List.cons_append, List.nil_append, List.append_nil]
  entry_read
  pointwise []

theorem V8 (c : Dev nD) (a : Fin 8192) (x : Fin 2048) :
    (show FVec Ideal S8192x2048 .f32 from V m c main_v8) (ix2 a x) = (show FVec Ideal S1x8192x2048 .f32 from m (c, Proc.tc.devRef main_arg5)) (ix3 0 a x) := by
  unfold V
  simp only [List.flatten_cons, List.flatten_nil, List.cons_append, List.nil_append, List.append_nil]
  entry_read
  pointwise []

/-- The bias row of the call: the biases of `q`, `k` and `v`, then those of the output gate and what follows it. -/
theorem V4_low (c : Dev nD) (A : Fin 11264) (N : Fin 11272) (h : A.val < 3072) (hN : N.val = A.val) :
    (show FVec Ideal S1x11264 .f32 from V m c main_v4) (ix2 0 A) = (show FVec Ideal S1x11272 .f32 from m (c, Proc.tc.devRef main_arg3)) (ix2 0 N) := by
  unfold V
  simp only [List.flatten_cons, List.flatten_nil, List.cons_append, List.nil_append, List.append_nil]
  entry_read
  pointwise []
  rw [dif_pos (by omega)]
  congr 1
  ext a
  fin_cases a <;> simp <;> omega

theorem V4_high (c : Dev nD) (A : Fin 11264) (N : Fin 11272) (h : 3072 ≤ A.val) (hN : N.val = A.val + 8) :
    (show FVec Ideal S1x11264 .f32 from V m c main_v4) (ix2 0 A) = (show FVec Ideal S1x11272 .f32 from m (c, Proc.tc.devRef main_arg3)) (ix2 0 N) := by
  unfold V
  simp only [List.flatten_cons, List.flatten_nil, List.cons_append, List.nil_append, List.append_nil]
  entry_read
  pointwise []
  rw [dif_neg (by omega)]
  congr 1
  ext a
  fin_cases a <;> simp <;> omega

theorem b0 (c : Dev nD) (t : Fin cfg0.N) (a : Fin 1024) (x : Fin 2048) (A : Fin 9216) (h : A.val = t.val % 9 * 1024 + a) :
    (show FVec Ideal S1024x2048 .bf16 from iblk m c 0 t) (ix2 a x) = (show FVec Ideal S9216x2048 .bf16 from m (c, Proc.tc.devRef main_arg0)) (ix2 A x) := by
  blk_point [iblk, V, idx t]

theorem b1 (c : Dev nD) (t : Fin cfg0.N) (a : Fin 128) (x : Fin 2048) :
    (show FVec Ideal S128x2048 .bf16 from iblk m c 1 t) (ix2 a x) = (show FVec Ideal S128x2048 .bf16 from m (c, Proc.tc.devRef main_arg1)) (ix2 a x) := by
  blk_point [iblk, V, idx t]

theorem b2 (c : Dev nD) (t : Fin cfg0.N) (a : Fin 1024) (x : Fin 2048) (A : Fin 11272) (h : A.val = off t + a) :
    (show FVec Ideal S1024x2048 .f32 from iblk m c 2 t) (ix2 a x) = (show FVec Ideal S1x2048x11272 .f32 from m (c, Proc.tc.devRef main_arg2)) (ix3 0 x A) := by
  refine Eq.trans ?_ (V6 m c A x)
  show (show FVec Ideal S11272x2048 .f32 from V m c main_v6) _ = _
  refine congrArg (show FVec Ideal S11272x2048 .f32 from V m c main_v6) ?_
  ext b
  fin_cases b
  · refine ((win0_2.rect_emb_val_off t (ix2 a x) 0)).trans ?_
    rw [idx2 t]
    exact h.symm
  · refine ((win0_2.rect_emb_val_off t (ix2 a x) 1)).trans ?_
    rw [idx2 t]
    exact Nat.zero_add _

theorem b3_row (c : Dev nD) (t : Fin cfg0.N) (a : Fin 1024) (A : Fin 11264) (h : A.val = t.val / 9 * 1024 + a) :
    (show FVec Ideal S1x1024 .f32 from iblk m c 3 t) (ix2 0 a) = (show FVec Ideal S1x11264 .f32 from V m c main_v4) (ix2 0 A) := by
  blk_point [iblk, idx t]

theorem b3 (c : Dev nD) (t : Fin cfg0.N) (a : Fin 1024) (A : Fin 11272) (h : A.val = off t + a) :
    (show FVec Ideal S1x1024 .f32 from iblk m c 3 t) (ix2 0 a) = (show FVec Ideal S1x11272 .f32 from m (c, Proc.tc.devRef main_arg3)) (ix2 0 A) := by
  have hN := lt36 t
  unfold off at h
  refine (b3_row m c t a ⟨t.val / 9 * 1024 + a, by omega⟩ rfl).trans ?_
  by_cases e : t.val / 9 = 3
  · rw [if_pos e] at h
    exact V4_high m c _ A (by dsimp only; omega) (by dsimp only; omega)
  · rw [if_neg e] at h
    exact V4_low m c _ A (by dsimp only; omega) (by dsimp only; omega)

theorem b4 (c : Dev nD) (t : Fin cfg0.N) (a : Fin 64) (x : Fin 8192) (A : Fin 2048) (h : A.val = min t.val 31 * 64 + a) :
    (show FVec Ideal S64x8192 .f32 from iblk m c 4 t) (ix2 a x) = (show FVec Ideal S1x2048x8192 .f32 from m (c, Proc.tc.devRef main_arg4)) (ix3 0 A x) := by
  refine Eq.trans ?_ (V7 m c A x)
  blk_point [iblk, idx t]

theorem b5 (c : Dev nD) (t : Fin cfg0.N) (a : Fin 256) (x : Fin 2048) (A : Fin 8192) (h : A.val = min t.val 31 * 256 + a) :
    (show FVec Ideal S256x2048 .f32 from iblk m c 5 t) (ix2 a x) = (show FVec Ideal S1x8192x2048 .f32 from m (c, Proc.tc.devRef main_arg5)) (ix3 0 A x) := by
  refine Eq.trans ?_ (V8 m c A x)
  blk_point [iblk, idx t]

end Cert.Proj

end
-- ==== Proof.ProjFinal.lean ====
module

public import proofs.«01_k».proof.Proof.ProjRef
public import proofs.«01_k».proof.Proof.ProjPoint
public import proofs.«01_k».proof.Proof.ProjBlock
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The projection's six arrays are the reference's results. -/

namespace Cert.Proj

open Cert.Kernel3Ideal Cert.Kernel3Ideal.Gen

variable (m : (ℓ : Loc nD τ sig) → Buf (Elt Ideal) ℓ)

/-- The weights kept for a run are the columns of the run. -/
theorem kept (c : Dev nD) (t : Fin cfg0.N) (l : Fin 1024) (x : Fin 2048) (A : Fin 11272) (h : A.val = off t + l) :
    (show FVec Ideal S1024x2048 .bf16 from wAt m c t.val) (ix2 l x) = (show FVec Ideal S1x2048x11272 .f32 from m (c, Proc.tc.devRef main_arg2)) (ix3 0 x A) := by
  have hN := lt36 t
  unfold wAt
  refine (pay1_at _ l x).trans (b2 m c _ l x A ?_)
  have hp : (pt (t.val / 9 * 9)).val = t.val / 9 * 9 := Nat.mod_eq_of_lt (by omega)
  rw [h]
  unfold off
  rw [hp, show t.val / 9 * 9 / 9 = t.val / 9 by omega]

/-- A row of a point's block, projected on a kept column, is the projection of the row. -/
theorem sum_at (c : Dev nD) (t : Fin cfg0.N) (X W : Fin 2048 → EReal) (y : EReal) (row : Fin 2048 → EReal) (N : Fin 11272)
    (hX : ∀ x, X x = row x) (hW : ∀ x, W x = (show FVec Ideal S1x2048x11272 .f32 from m (c, Proc.tc.devRef main_arg2)) (ix3 0 x N))
    (hy : y = (show FVec Ideal S1x11272 .f32 from m (c, Proc.tc.devRef main_arg3)) (ix2 0 N)) :
    ∑ x : Fin 2048, X x * W x + y = proj row (m (c, Proc.tc.devRef main_arg2)) (m (c, Proc.tc.devRef main_arg3)) N := by
  rw [hy]
  unfold proj
  refine congrArg (· + _) (Finset.sum_congr rfl fun x _ => ?_)
  rw [hX, hW]

/-- A row of the tokens. -/
def row (c : Dev nD) (B : Fin 9216) (x : Fin 2048) : EReal := (show FVec Ideal S9216x2048 .bf16 from m (c, Proc.tc.devRef main_arg0)) (ix2 B x)
/-- A row of the meta tokens. -/
def rowm (c : Dev nD) (B : Fin 128) (x : Fin 2048) : EReal := (show FVec Ideal S128x2048 .bf16 from m (c, Proc.tc.devRef main_arg1)) (ix2 B x)

/-- A block of the queries or of the values. -/
theorem zLin_at (c : Dev nD) (t : Fin cfg0.N) (r l : Fin 1024) (B : Fin 9216) (hB : B.val = t.val % 9 * 1024 + r) (N : Fin 11272) (hN : N.val = off t + l) :
    (show FVec Ideal S1024x1024 .bf16 from zLin m c t) (ix2 r l) = proj (row m c B) (m (c, Proc.tc.devRef main_arg2)) (m (c, Proc.tc.devRef main_arg3)) N := by
  unfold zLin
  exact (pay5_at _ _ _ r l).trans (sum_at m c t _ _ _ _ N (fun x => b0 m c t r x B hB) (fun x => kept m c t l x N hN) (b3 m c t l N hN))

/-- A block of the output gates. -/
theorem zGate_at (c : Dev nD) (t : Fin cfg0.N) (r l : Fin 1024) (B : Fin 9216) (hB : B.val = t.val % 9 * 1024 + r) (N : Fin 11272) (hN : N.val = off t + l) :
    (show FVec Ideal S1024x1024 .bf16 from zGate m c t) (ix2 r l)
      = Ideal.logistic (proj (row m c B) (m (c, Proc.tc.devRef main_arg2)) (m (c, Proc.tc.devRef main_arg3)) N) := by
  unfold zGate
  exact (pay11_at _ _ _ r l).trans (congrArg Ideal.logistic
    (sum_at m c t _ _ _ _ N (fun x => b0 m c t r x B hB) (fun x => kept m c t l x N hN) (b3 m c t l N hN)))

/-- The bias column kept is that of the keys. -/
theorem b3_key (c : Dev nD) (l : Fin 1024) (N : Fin 11272) (hN : N.val = 1024 + l) :
    (show FVec Ideal S1x1024 .f32 from iblk m c 3 (pt 9)) (ix2 0 l) = (show FVec Ideal S1x11272 .f32 from m (c, Proc.tc.devRef main_arg3)) (ix2 0 N) :=
  b3 m c (pt 9) l N (by rw [hN]; rfl)

/-- A block of the keys. -/
theorem kAt_at (c : Dev nD) (t : Fin cfg0.N) (h : t.val / 9 = 1) (l r : Fin 1024) (B : Fin 9216) (hB : B.val = t.val % 9 * 1024 + r) (N : Fin 11272) (hN : N.val = 1024 + l) :
    (show FVec Ideal S1024x1024 .bf16 from kAt m c t.val) (ix2 l r)
      = proj (row m c B) (m (c, Proc.tc.devRef main_arg2)) (m (c, Proc.tc.devRef main_arg3)) N * scale := by
  have ho : off t = 1024 := by unfold off; rw [h]; rfl
  unfold kAt bAt
  rw [pt_val]
  exact (pay8_at _ _ _ l r).trans (congrArg (· * scale)
    (sum_at m c t _ _ _ _ N (fun x => b0 m c t r x B hB) (fun x => kept m c t l x N (hN.trans (by rw [ho]))) (b3_key m c l N hN)))

/-- The meta rows' keys. -/
theorem kmAt_at (c : Dev nD) (l : Fin 1024) (r : Fin 128) (N : Fin 11272) (hN : N.val = 1024 + l) :
    (show FVec Ideal S1024x128 .bf16 from kmAt m c) (ix2 l r)
      = proj (rowm m c r) (m (c, Proc.tc.devRef main_arg2)) (m (c, Proc.tc.devRef main_arg3)) N * scale := by
  unfold kmAt bAt
  exact (pay21_at _ _ _ l r).trans (congrArg (· * scale)
    (sum_at m c (pt 9) _ _ _ _ N (fun x => b1 m c (pt 9) r x) (fun x => kept m c (pt 9) l x N (hN.trans rfl)) (b3_key m c l N hN)))

/-- A block of the meta rows' queries or values. -/
theorem zmAt_at (c : Dev nD) (t : Fin cfg0.N) (r : Fin 128) (l : Fin 1024) (N : Fin 11272) (hN : N.val = t.val / 18 * 2048 + l) :
    (show FVec Ideal S128x1024 .bf16 from zmAt m c t.val) (ix2 r l) = proj (rowm m c r) (m (c, Proc.tc.devRef main_arg2)) (m (c, Proc.tc.devRef main_arg3)) N := by
  have ht := lt36 t
  have hp : (pt (t.val / 18 * 18)).val = t.val / 18 * 18 := Nat.mod_eq_of_lt (by omega)
  have ho : off (pt (t.val / 18 * 18)) = t.val / 18 * 2048 := by
    unfold off
    rw [hp, if_neg (by omega)]
    omega
  unfold zmAt
  refine (pay2_at _ _ _ r l).trans ?_
  exact sum_at m c t _ _ _ _ N (fun x => b1 m c _ r x)
    (fun x => (congrArg (fun n => (show FVec Ideal S1024x2048 .bf16 from wAt m c n) (ix2 l x)) hp.symm).trans (kept m c _ l x N (by rw [hN, ho])))
    (b3 m c _ l N (by rw [hN, ho]))

/-- The first output is written back at the points of its runs, and after the keys' run at its last point. -/
theorem flush_key : ∀ t : Fin cfg0.N, (cfg0.win 6).flush t = true → t.val / 9 = 1 → t.val = 17 :=
  (by decide +kernel : ∀ t : Fin grid0.N, _)

/-- The array of queries, values and output gates is the reference's. -/
theorem final6 (c : Dev nD) : (dats m 0 c).arrAt 6 (cfgs 0).N
    = Cert.Reference3Ideal.Read.val_main_v37 (F := Ideal) (m (c, Proc.tc.devRef main_arg0)) (m (c, Proc.tc.devRef main_arg2)) (m (c, Proc.tc.devRef main_arg3)) := by
  refine (dats m 0 c).arrAt_eq_of_covers 6 _ (by decide +kernel) fun t hf y => ?_
  have hN := lt36 t
  blk_simp
  rw [after_6]
  have hy0 : (y 0 : ℕ) < 1024 := (y 0).isLt
  have hy1 : (y 1 : ℕ) < 1024 := (y 1).isLt
  have ey : y = (ix2 (y 0) (y 1) : S1024x1024.Idx) := eq_ix2 _
  have hb : (if t.val / 9 = 1 then 8 else t.val % 9) * 1024 + (y 0 : ℕ) < 9216 := by split_ifs <;> omega
  have ee : ((cfg0.win 6).blk t).view.emb y = (ix2 (⟨(if t.val / 9 = 1 then 8 else t.val % 9) * 1024 + y 0, hb⟩ : Fin 9216)
      (⟨(t.val / 9 - 1) * 1024 + y 1, by omega⟩ : Fin 3072) : S9216x3072.Idx) := by
    blk_ext [idxO t]
  refine (congrArg (zAt m c t) ey).trans ?_
  refine Eq.trans ?_ (congrArg (Cert.Reference3Ideal.Read.val_main_v37 (F := Ideal) _ _ _) ee).symm
  unfold zAt
  by_cases h3 : t.val / 9 = 3
  · rw [if_pos h3]
    refine (zGate_at m c t (y 0) (y 1) ⟨_, hb⟩ (by dsimp only; rw [if_neg (by omega)]) ⟨(t.val / 9 - 1) * 1024 + y 1 + 1032, by omega⟩
      (by unfold off; rw [if_pos h3]; dsimp only; omega)).trans ?_
    exact (Cert.Proj.ref_o (m (c, Proc.tc.devRef main_arg0)) (m (c, Proc.tc.devRef main_arg2)) (m (c, Proc.tc.devRef main_arg3)) ⟨_, hb⟩ ⟨(t.val / 9 - 1) * 1024 + y 1, by omega⟩ (by dsimp only; omega)).symm
  · rw [if_neg h3]
    by_cases h1 : t.val / 9 = 1
    · rw [if_pos h1]
      refine (zLin_at m c (pt 8) (y 0) (y 1) ⟨_, hb⟩ (by dsimp only; rw [if_pos h1]; rfl) ⟨(t.val / 9 - 1) * 1024 + y 1, by omega⟩
        (by dsimp only; rw [h1]; rfl)).trans ?_
      exact (Cert.Proj.ref_q (m (c, Proc.tc.devRef main_arg0)) (m (c, Proc.tc.devRef main_arg2)) (m (c, Proc.tc.devRef main_arg3)) ⟨_, hb⟩ ⟨(t.val / 9 - 1) * 1024 + y 1, by omega⟩ (by dsimp only; omega)).symm
    · rw [if_neg h1]
      by_cases h0 : t.val / 9 = 0
      · refine (zLin_at m c t (y 0) (y 1) ⟨_, hb⟩ (by dsimp only; rw [if_neg h1]) ⟨(t.val / 9 - 1) * 1024 + y 1, by omega⟩
          (by unfold off; rw [if_neg h3]; dsimp only; omega)).trans ?_
        exact (Cert.Proj.ref_q (m (c, Proc.tc.devRef main_arg0)) (m (c, Proc.tc.devRef main_arg2)) (m (c, Proc.tc.devRef main_arg3)) ⟨_, hb⟩ ⟨(t.val / 9 - 1) * 1024 + y 1, by omega⟩ (by dsimp only; omega)).symm
      · refine (zLin_at m c t (y 0) (y 1) ⟨_, hb⟩ (by dsimp only; rw [if_neg h1]) ⟨(t.val / 9 - 1) * 1024 + y 1 + 1024, by omega⟩
          (by unfold off; rw [if_neg h3]; dsimp only; omega)).trans ?_
        exact (Cert.Proj.ref_v (m (c, Proc.tc.devRef main_arg0)) (m (c, Proc.tc.devRef main_arg2)) (m (c, Proc.tc.devRef main_arg3)) ⟨_, hb⟩ ⟨(t.val / 9 - 1) * 1024 + y 1, by omega⟩ (by dsimp only; omega) (by dsimp only; omega)).symm

/-- The keys' array is the reference's. -/
theorem final7 (c : Dev nD) : (dats m 0 c).arrAt 7 (cfgs 0).N
    = Cert.Reference3Ideal.Read.val_main_v39 (F := Ideal) (m (c, Proc.tc.devRef main_arg0)) (m (c, Proc.tc.devRef main_arg2)) (m (c, Proc.tc.devRef main_arg3)) := by
  refine (dats m 0 c).arrAt_eq_of_covers 7 _ (by decide +kernel) fun t hf y => ?_
  have hN := lt36 t
  blk_simp
  rw [after_7]
  have hy0 : (y 0 : ℕ) < 1024 := (y 0).isLt
  have hy1 : (y 1 : ℕ) < 1024 := (y 1).isLt
  have ey : y = (ix2 (y 0) (y 1) : S1024x1024.Idx) := eq_ix2 _
  have ee : ((cfg0.win 7).blk t).view.emb y = (ix2 (⟨y 0, hy0⟩ : Fin 1024) (⟨(min (max t.val 9) 17 - 9) * 1024 + y 1, by omega⟩ : Fin 9216) : S1024x9216.Idx) := by
    blk_ext [idxO t]
  have hk : (pt (keyPos t.val)).val = keyPos t.val := Nat.mod_eq_of_lt (by unfold keyPos; omega)
  have hk' : keyPos t.val = min (max t.val 9) 17 := rfl
  refine (congrArg (kAt m c (keyPos t.val)) ey).trans ?_
  refine Eq.trans ?_ (congrArg (Cert.Reference3Ideal.Read.val_main_v39 (F := Ideal) _ _ _) ee).symm
  rw [← hk]
  refine (kAt_at m c (pt (keyPos t.val)) (by rw [hk, hk']; omega) (y 0) (y 1) ⟨(min (max t.val 9) 17 - 9) * 1024 + y 1, by omega⟩
    (by dsimp only; rw [hk, hk']; omega) ⟨1024 + y 0, by omega⟩ rfl).trans ?_
  exact (Cert.Proj.ref_k _ _ _ _ _).symm

/-- The meta rows' queries and values are the reference's. -/
theorem final8 (c : Dev nD) : (dats m 0 c).arrAt 8 (cfgs 0).N
    = Cert.Reference3Ideal.Read.val_main_v41 (F := Ideal) (m (c, Proc.tc.devRef main_arg1)) (m (c, Proc.tc.devRef main_arg2)) (m (c, Proc.tc.devRef main_arg3)) := by
  refine (dats m 0 c).arrAt_eq_of_covers 8 _ (by decide +kernel) fun t hf y => ?_
  have hN := lt36 t
  blk_simp
  rw [after_8]
  have hy0 : (y 0 : ℕ) < 128 := (y 0).isLt
  have hy1 : (y 1 : ℕ) < 1024 := (y 1).isLt
  have ey : y = (ix2 (y 0) (y 1) : S128x1024.Idx) := eq_ix2 _
  have ee : ((cfg0.win 8).blk t).view.emb y = (ix2 (⟨y 0, hy0⟩ : Fin 128) (⟨t.val / 18 * 1024 + y 1, by omega⟩ : Fin 2048) : S128x2048.Idx) := by
    blk_ext [idxO t]
  refine (congrArg (zmAt m c t.val) ey).trans ?_
  refine Eq.trans ?_ (congrArg (Cert.Reference3Ideal.Read.val_main_v41 (F := Ideal) _ _ _) ee).symm
  by_cases h : t.val / 18 = 0
  · refine (zmAt_at m c t (y 0) (y 1) ⟨t.val / 18 * 1024 + y 1, by omega⟩ (by dsimp only; omega)).trans ?_
    exact (Cert.Proj.ref_qm (m (c, Proc.tc.devRef main_arg1)) (m (c, Proc.tc.devRef main_arg2)) (m (c, Proc.tc.devRef main_arg3)) (y 0) ⟨t.val / 18 * 1024 + y 1, by omega⟩ (by dsimp only; omega)).symm
  · refine (zmAt_at m c t (y 0) (y 1) ⟨t.val / 18 * 1024 + y 1 + 1024, by omega⟩ (by dsimp only; omega)).trans ?_
    exact (Cert.Proj.ref_vm (m (c, Proc.tc.devRef main_arg1)) (m (c, Proc.tc.devRef main_arg2)) (m (c, Proc.tc.devRef main_arg3)) (y 0) ⟨t.val / 18 * 1024 + y 1, by omega⟩ (by dsimp only; omega)).symm

/-- The meta rows' keys are the reference's. -/
theorem final9 (c : Dev nD) : (dats m 0 c).arrAt 9 (cfgs 0).N
    = Cert.Reference3Ideal.Read.val_main_v43 (F := Ideal) (m (c, Proc.tc.devRef main_arg1)) (m (c, Proc.tc.devRef main_arg2)) (m (c, Proc.tc.devRef main_arg3)) := by
  refine (dats m 0 c).arrAt_eq_of_covers 9 _ (by decide +kernel) fun t hf y => ?_
  blk_simp
  rw [after_9]
  have hy0 : (y 0 : ℕ) < 1024 := (y 0).isLt
  have hy1 : (y 1 : ℕ) < 128 := (y 1).isLt
  have ey : y = (ix2 (y 0) (y 1) : S1024x128.Idx) := eq_ix2 _
  have ee : ((cfg0.win 9).blk t).view.emb y = (ix2 (⟨y 0, hy0⟩ : Fin 1024) (⟨y 1, hy1⟩ : Fin 128) : S1024x128.Idx) := by
    blk_ext [idxO t]
  refine (congrArg (kmAt m c) ey).trans ?_
  refine Eq.trans ?_ (congrArg (Cert.Reference3Ideal.Read.val_main_v43 (F := Ideal) _ _ _) ee).symm
  refine (kmAt_at m c (y 0) (y 1) ⟨1024 + y 0, by omega⟩ rfl).trans ?_
  exact (Cert.Proj.ref_km _ _ _ _ _).symm

/-- The first feed-forward weight is the reference's. -/
theorem final10 (c : Dev nD) : (dats m 0 c).arrAt 10 (cfgs 0).N
    = Cert.Reference3Ideal.Read.val_main_v45 (F := Ideal) (m (c, Proc.tc.devRef main_arg4)) := by
  refine (dats m 0 c).arrAt_eq_of_covers 10 _ (by decide +kernel) fun t hf y => ?_
  have hN := lt36 t
  blk_simp
  rw [after_10]
  have hy0 : (y 0 : ℕ) < 64 := (y 0).isLt
  have hy1 : (y 1 : ℕ) < 8192 := (y 1).isLt
  have ey : y = (ix2 (y 0) (y 1) : S64x8192.Idx) := eq_ix2 _
  have ee : ((cfg0.win 10).blk t).view.emb y = (ix2 (⟨min t.val 31 * 64 + y 0, by omega⟩ : Fin 2048) (⟨y 1, hy1⟩ : Fin 8192) : S2048x8192.Idx) := by
    blk_ext [idxO t]
  refine (congrArg (k0_pay3 (F := Ideal) (iblk m c 4 t)) ey).trans ?_
  refine Eq.trans ?_ (congrArg (Cert.Reference3Ideal.Read.val_main_v45 (F := Ideal) _) ee).symm
  refine (pay3_at _ (y 0) (y 1)).trans ?_
  refine (b4 m c t (y 0) (y 1) ⟨min t.val 31 * 64 + y 0, by omega⟩ rfl).trans ?_
  exact (Cert.Proj.ref_up _ _ _).symm

/-- The second feed-forward weight is the reference's. -/
theorem final11 (c : Dev nD) : (dats m 0 c).arrAt 11 (cfgs 0).N
    = Cert.Reference3Ideal.Read.val_main_v47 (F := Ideal) (m (c, Proc.tc.devRef main_arg5)) := by
  refine (dats m 0 c).arrAt_eq_of_covers 11 _ (by decide +kernel) fun t hf y => ?_
  have hN := lt36 t
  blk_simp
  rw [after_11]
  have hy0 : (y 0 : ℕ) < 256 := (y 0).isLt
  have hy1 : (y 1 : ℕ) < 2048 := (y 1).isLt
  have ey : y = (ix2 (y 0) (y 1) : S256x2048.Idx) := eq_ix2 _
  have ee : ((cfg0.win 11).blk t).view.emb y = (ix2 (⟨min t.val 31 * 256 + y 0, by omega⟩ : Fin 8192) (⟨y 1, hy1⟩ : Fin 2048) : S8192x2048.Idx) := by
    blk_ext [idxO t]
  refine (congrArg (k0_pay4 (F := Ideal) (iblk m c 5 t)) ey).trans ?_
  refine Eq.trans ?_ (congrArg (Cert.Reference3Ideal.Read.val_main_v47 (F := Ideal) _) ee).symm
  refine (pay4_at _ (y 0) (y 1)).trans ?_
  refine (b5 m c t (y 0) (y 1) ⟨min t.val 31 * 256 + y 0, by omega⟩ rfl).trans ?_
  exact (Cert.Proj.ref_down _ _ _).symm

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_gates_below_infinity
public import proofs.«01_k».proof.Proof.Gen.KernelIdeal.Value
public import proofs.«01_k».proof.Proof.Gen.Kernel2Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.FfnValue
public import proofs.«01_k».proof.Proof.FfnSample
public import proofs.«01_k».proof.Proof.MlstmFinal
public import proofs.«01_k».proof.Proof.MlstmPre
public import proofs.«01_k».proof.Proof.ProjBits
public import proofs.«01_k».proof.Proof.ProjFinal
public import Idealize.ShloMosaic.Lib.Pointwise
public import Idealize.ShloMosaic.Lib.Claim
public import Idealize.ShloMosaic.Lib.Pipeline.ValueKit
public import Idealize.ShloMosaic.Adequacy
public import Idealize.ShloMosaic.Init

@[expose] public section

noncomputable section

namespace Cert.Proof

open Idealize.ShloMosaic Idealize.ShloMosaic.TcCoe Idealize.SL.Sem

/-- The decoding call runs and leaves its arguments as they were. -/
theorem frame_Kernel : Cert.quiescent_Kernel := fun m g _ => Cert.Kernel.Gen.frame m g

/-- The idealised decoding call runs and leaves its arguments as they were. -/
theorem frame_KernelIdeal : Cert.quiescent_KernelIdeal := fun m g _ => Cert.KernelIdeal.Gen.frame m g

/-- The same under the precondition. -/
theorem frame_KernelIdeal_pre : Cert.quiescent_KernelIdeal_pre_gates_below_infinity := fun m g _ => Cert.KernelIdeal.Gen.frame m g

/-- The reference of the decoding call runs and leaves its arguments as they were. -/
theorem frame_ReferenceIdeal : Cert.quiescent_ReferenceIdeal := by
  intro m g _
  exact (θ_run Cert.ReferenceIdeal.defs _ _).mono
    (fun r h => ⟨fun c => (h c).2.2.2.2.2, sem_eq_zero_of_no_sems (by decide) r.2⟩) (Cert.ReferenceIdeal.Value.run m g)

/-- The same under the precondition. -/
theorem frame_ReferenceIdeal_pre : Cert.quiescent_ReferenceIdeal_pre_gates_below_infinity := fun m g _ => frame_ReferenceIdeal m g trivial

/-- The feed-forward call runs and leaves its arguments as they were. -/
theorem frame_Kernel2 : Cert.quiescent_Kernel2 := fun m g _ => Cert.Kernel2.Gen.frame m g

/-- The idealised feed-forward call runs and leaves its arguments as they were. -/
theorem frame_Kernel2Ideal : Cert.quiescent_Kernel2Ideal := fun m g _ => Cert.Kernel2Ideal.Gen.frame m g

/-- The reference of the feed-forward call runs and leaves its arguments as they were. -/
theorem frame_Reference2Ideal : Cert.quiescent_Reference2Ideal := by
  intro m g _
  exact (θ_run Cert.Reference2Ideal.defs _ _).mono
    (fun r h => ⟨fun c => (h c).2, sem_eq_zero_of_no_sems (by decide) r.2⟩) (Cert.Reference2Ideal.Value.run m g)

/-- The mask's literal is named and read as minus infinity; nothing else of the decoding call is rewritten. -/
theorem preserves_Kernel : Cert.preserves_Kernel_KernelIdeal :=
  IdealRules.named_const.statement Cert.KernelIdeal.κ "masked" .f32 0xF149F2CA#32 ⊥ rfl

set_option maxHeartbeats 2000000 in
/-- The decoding call and its reference end with the same five arrays. -/
theorem decode : Cert.algebraic_KernelIdeal_ReferenceIdeal_pre_gates_below_infinity := by
  intro m g m' g' hpre hagree
  refine ⟨fun c => (Cert.KernelIdeal.Gen.dats m 0 c).arrAt 12 (Cert.KernelIdeal.cfgs 0).N, fun c => (Cert.KernelIdeal.Gen.dats m 0 c).arrAt 13 (Cert.KernelIdeal.cfgs 0).N,
    fun c => (Cert.KernelIdeal.Gen.dats m 0 c).arrAt 14 (Cert.KernelIdeal.cfgs 0).N, fun c => (Cert.KernelIdeal.Gen.dats m 0 c).arrAt 15 (Cert.KernelIdeal.cfgs 0).N,
    fun c => (Cert.KernelIdeal.Gen.dats m 0 c).arrAt 16 (Cert.KernelIdeal.cfgs 0).N, ?_, ?_⟩
  · refine θ_run_mono (θ_run_and (Cert.KernelIdeal.Gen.run_main m g) (Cert.KernelIdeal.Gen.unchanged m g)) ?_
    intro r h c
    exact ⟨(h.1 c).1 12, (h.1 c).1 13, (h.1 c).1 14, (h.1 c).1 15, (h.1 c).1 16, h.2 c⟩
  · refine θ_run_mono (Cert.ReferenceIdeal.Value.run m' g') ?_
    intro r h c
    obtain ⟨hl, hi, hm⟩ := Cert.Mlstm.pre_open _ _ _ _ _ _ _ _ _ _ (hpre c)
    obtain ⟨e0, e1, e2, e3, e4, e5, e6, e7, e8, e9⟩ := hagree c
    obtain ⟨h0, h1, h2, h3, h4, hargs⟩ := h c
    refine ⟨?_, ?_, ?_, ?_, ?_, hargs⟩
    · refine (h0.trans (Cert.ReferenceIdeal.Read.val_main_v108_eq _ _ _)).trans (Eq.trans ?_ (Cert.Mlstm.final12 m c).symm)
      rw [e0, e1, e2]
    · refine (h1.trans (Cert.ReferenceIdeal.Read.val_main_v103_eq m' c)).trans (Eq.trans ?_ (Cert.Mlstm.final13 m c hl hi hm).symm)
      rw [e3, e4, e5, e6, e7, e8, e9]
    · refine (h2.trans (Cert.ReferenceIdeal.Read.val_main_v95_eq m' c)).trans (Eq.trans ?_ (Cert.Mlstm.final14 m c hl).symm)
      rw [e3, e4, e5, e6, e7, e9]
    · refine (h3.trans (Cert.ReferenceIdeal.Read.val_main_v109_eq m' c)).trans (Eq.trans ?_ (Cert.Mlstm.final15 m c hl).symm)
      rw [e4, e5, e6, e8, e9]
    · refine (h4.trans (Cert.ReferenceIdeal.Read.val_main_v107_eq _ _ _)).trans (Eq.trans ?_ (Cert.Mlstm.final16 m c hl).symm)
      rw [e5, e6, e9]

/-- The feed-forward call and its reference end with the same array. -/
theorem ffn : Cert.algebraic_Kernel2Ideal_Reference2Ideal := by
  pair_intro
  · run_from Cert.Kernel2Ideal.Gen.run_main m g
  · run_from Cert.Reference2Ideal.Value.run m' g'
    rw [Cert.Ffn.final m c]
    exact (Cert.Reference2Ideal.Read.val_main_v20_eq _ _ _ _ _).symm

/-- The input projection's call runs and leaves its arguments as they were. -/
theorem frame_Kernel3 : Cert.quiescent_Kernel3 := Cert.Kernel3.Gen.frame

/-- The idealised input projection's call runs and leaves its arguments as they were. -/
theorem frame_Kernel3Ideal : Cert.quiescent_Kernel3Ideal := fun m g _ => Cert.Kernel3Ideal.Gen.frame m g

/-- The reference of the input projection's call runs and leaves its arguments as they were. -/
theorem frame_Reference3Ideal : Cert.quiescent_Reference3Ideal := by
  intro m g _
  exact (θ_run Cert.Reference3Ideal.defs _ _).mono
    (fun r h => ⟨fun c => (h c).2.2.2.2.2.2, sem_eq_zero_of_no_sems (by decide) r.2⟩) (Cert.Reference3Ideal.Value.run m g)

set_option maxHeartbeats 2000000 in
/-- The input projection's call and its reference end with the same six arrays. -/
theorem project : Cert.algebraic_Kernel3Ideal_Reference3Ideal := by
  intro m g m' g' hpre hagree
  refine ⟨fun c => (Cert.Kernel3Ideal.Gen.dats m 0 c).arrAt 6 (Cert.Kernel3Ideal.cfgs 0).N, fun c => (Cert.Kernel3Ideal.Gen.dats m 0 c).arrAt 7 (Cert.Kernel3Ideal.cfgs 0).N, fun c => (Cert.Kernel3Ideal.Gen.dats m 0 c).arrAt 8 (Cert.Kernel3Ideal.cfgs 0).N, fun c => (Cert.Kernel3Ideal.Gen.dats m 0 c).arrAt 9 (Cert.Kernel3Ideal.cfgs 0).N, fun c => (Cert.Kernel3Ideal.Gen.dats m 0 c).arrAt 10 (Cert.Kernel3Ideal.cfgs 0).N, fun c => (Cert.Kernel3Ideal.Gen.dats m 0 c).arrAt 11 (Cert.Kernel3Ideal.cfgs 0).N, ?_, ?_⟩
  · refine θ_run_mono (θ_run_and (Cert.Kernel3Ideal.Gen.run_main m g) (Cert.Kernel3Ideal.Gen.unchanged m g)) ?_
    intro r h c
    exact ⟨(h.1 c).1 6, (h.1 c).1 7, (h.1 c).1 8, (h.1 c).1 9, (h.1 c).1 10, (h.1 c).1 11, h.2 c⟩
  · refine θ_run_mono (Cert.Reference3Ideal.Value.run m' g') ?_
    intro r h c
    obtain ⟨e0, e1, e2, e3, e4, e5⟩ := hagree c
    obtain ⟨h0, h1, h2, h3, h4, h5, hargs⟩ := h c
    refine ⟨?_, ?_, ?_, ?_, ?_, ?_, hargs⟩
    · refine (h0.trans (Cert.Reference3Ideal.Read.val_main_v37_eq _ _ _)).trans (Eq.trans ?_ (Cert.Proj.final6 m c).symm)
      rw [e0, e2, e3]
    · refine (h1.trans (Cert.Reference3Ideal.Read.val_main_v39_eq _ _ _)).trans (Eq.trans ?_ (Cert.Proj.final7 m c).symm)
      rw [e0, e2, e3]
    · refine (h2.trans (Cert.Reference3Ideal.Read.val_main_v41_eq _ _ _)).trans (Eq.trans ?_ (Cert.Proj.final8 m c).symm)
      rw [e1, e2, e3]
    · refine (h3.trans (Cert.Reference3Ideal.Read.val_main_v43_eq _ _ _)).trans (Eq.trans ?_ (Cert.Proj.final9 m c).symm)
      rw [e1, e2, e3]
    · refine (h4.trans (Cert.Reference3Ideal.Read.val_main_v45_eq _)).trans (Eq.trans ?_ (Cert.Proj.final10 m c).symm)
      rw [e4]
    · refine (h5.trans (Cert.Reference3Ideal.Read.val_main_v47_eq _)).trans (Eq.trans ?_ (Cert.Proj.final11 m c).symm)
      rw [e5]

/-- The feed-forward call on the sampled rows runs and leaves its arguments as they were. -/
theorem frame_Kernel4 : Cert.quiescent_Kernel4 := fun m g _ => Cert.Kernel4.Gen.frame m g

/-- The idealised feed-forward call on the sampled rows runs and leaves its arguments as they were. -/
theorem frame_Kernel4Ideal : Cert.quiescent_Kernel4Ideal := fun m g _ => Cert.Kernel4Ideal.Gen.frame m g

/-- The reference of the feed-forward call on the sampled rows runs and leaves its arguments as they were. -/
theorem frame_Reference4Ideal : Cert.quiescent_Reference4Ideal := by
  intro m g _
  exact (θ_run Cert.Reference4Ideal.defs _ _).mono
    (fun r h => ⟨fun c => (h c).2, sem_eq_zero_of_no_sems (by decide) r.2⟩) (Cert.Reference4Ideal.Value.run m g)

/-- The feed-forward call on the sampled rows and its reference end with the same array. -/
theorem ffn_sample : Cert.algebraic_Kernel4Ideal_Reference4Ideal := by
  pair_intro
  · run_from Cert.Kernel4Ideal.Gen.run_main m g
  · run_from Cert.Reference4Ideal.Value.run m' g'
    rw [Cert.FfnSample.final m c]
    exact (Cert.Reference4Ideal.Read.val_main_v20_eq _ _ _ _ _).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_gates_below_infinity.Gen.facts,
  frame_Kernel, frame_KernelIdeal, frame_KernelIdeal_pre, frame_ReferenceIdeal, frame_ReferenceIdeal_pre, frame_Kernel2, frame_Kernel2Ideal, frame_Reference2Ideal,
  frame_Kernel3, frame_Kernel3Ideal, frame_Reference3Ideal, frame_Kernel4, frame_Kernel4Ideal, frame_Reference4Ideal,
  preserves_Kernel, decode, trivial, ffn, trivial, project, trivial, ffn_sample⟩

end Cert.Proof

end
